-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite [hPre_finite : Cert.Pre_finite.Facts] (m : (ℓ : Loc Cert.GateIdeal.nD Cert.GateIdeal.τ Cert.GateIdeal.sig) → Buf (Elt Ideal) ℓ) : Prop :=
  ∀ c : Dev Cert.GateIdeal.nD,
    (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite [hPre_finite : Cert.Pre_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_finite [hGateIdeal : Cert.GateIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_finite [hGateRefIdeal : Cert.GateRefIdeal.Facts] [hPre_finite : Cert.Pre_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_arg3)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Gate_GateIdeal : Prop :=
  IdealRules.named_const.Statement Cert.GateIdeal.κ "mask" .f32 0xF149F2CA#32 ⊥

def algebraic_GateIdeal_GateRefIdeal_pre_finite [hGateIdeal : Cert.GateIdeal.Facts] [hGateRefIdeal : Cert.GateRefIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v4_0)) (v1 : (c : Dev Cert.GateIdeal.nD) → Buf (Elt Ideal) ((c.tc : Thread Cert.GateIdeal.nD Cert.GateIdeal.τ).loc Cert.GateIdeal.main_v4_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4_0) = v0 c
          ∧ r.2.mem ((c.tc : Thread Cert.GateIdeal.nD Cert.GateIdeal.τ).loc Cert.GateIdeal.main_v4_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v35) = v0 c
          ∧ r.2.mem ((c.tc : Thread Cert.GateRefIdeal.nD Cert.GateRefIdeal.τ).loc Cert.GateRefIdeal.main_v37) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hPre_routed : Cert.Pre_routed.Facts) (hPre_finite : Cert.Pre_finite.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Gate (hGate := hGate)
    ∧ quiescent_GateIdeal (hGateIdeal := hGateIdeal)
    ∧ quiescent_GateIdeal_pre_finite (hGateIdeal := hGateIdeal) (hPre_finite := hPre_finite)
    ∧ quiescent_GateRefIdeal (hGateRefIdeal := hGateRefIdeal)
    ∧ quiescent_GateRefIdeal_pre_finite (hGateRefIdeal := hGateRefIdeal) (hPre_finite := hPre_finite)
    ∧ preserves_Kernel_KernelIdeal
    ∧ algebraic_KernelIdeal_ReferenceIdeal (hKernelIdeal := hKernelIdeal) (hReferenceIdeal := hReferenceIdeal) (hPre_routed := hPre_routed)
    ∧ preserves_Gate_GateIdeal
    ∧ algebraic_GateIdeal_GateRefIdeal_pre_finite (hGateIdeal := hGateIdeal) (hGateRefIdeal := hGateRefIdeal) (hPre_finite := hPre_finite)
-- ==== Pre_finite.lean ====
abbrev S4x512x16x16 : Shape := ⟨4, ![4, 512, 16, 16]⟩
abbrev S512x512 : Shape := ⟨2, ![512, 512]⟩
abbrev S512 : Shape := ⟨1, ![512]⟩
abbrev S512x8 : Shape := ⟨2, ![512, 8]⟩
abbrev S8 : Shape := ⟨1, ![8]⟩
abbrev S_ : Shape := ⟨0, ![]⟩

class Facts : Prop where
  bcast_S_S4x512x16x16 : S_.BroadcastsInDim S4x512x16x16 (![] : Fin 0 → Fin S4x512x16x16.rank)
  reducesTo_S4x512x16x16_S_d0_1_2_3 : S4x512x16x16.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S512x8 1) : IVec S_ 1 :=
  let main_c_5 : IVec S_ 1 := constantI S_ 1 1#1
  let main_v17 : IVec S_ 1 := (fun x v => Host.reduce IntOp.andi x v reducesTo_S512x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S4x512x16x16 .f32) (main_arg1 : FVec F S512x512 .f32) (main_arg2 : FVec F S512 .f32) (main_arg3 : FVec F S512x8 .f32) (main_arg4 : FVec F S8 .f32) : IVec S_ 1 :=
  let main_v0 : FVec F S4x512x16x16 .f32 := Host.absf main_arg0
  let main_cst : FVec F S_ .f32 := constant S_ .f32 0x7F800000#32
  let main_v1 : FVec F S4x512x16x16 .f32 := broadcastInDim S4x512x16x16 ![] bcast_S_S4x512x16x16 main_cst
  let main_v2 : IVec S4x512x16x16 1 := cmpf .olt main_v0 main_v1
  let main_c : IVec S_ 1 := constantI S_ 1 1#1
  let main_v3 : IVec S_ 1 := (fun x v => Host.reduce IntOp.andi x v reducesTo_S4x512x16x16_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x8 .f32 := Host.absf main_arg3
  let main_cst_4 : FVec F S_ .f32 := constant S_ .f32 0x7F800000#32
  let main_v15 : FVec F S512x8 .f32 := broadcastInDim S512x8 ![] bcast_S_S512x8 main_cst_4
  let main_v16 : IVec S512x8 1 := cmpf .olt main_v14 main_v15
  fn_part1 (F := F) main_arg4 main_v13 main_v16
-- ==== Pre_routed.lean ====
abbrev S8x128 : Shape := ⟨2, ![8, 128]⟩
abbrev S1024x1 : Shape := ⟨2, ![1024, 1]⟩
abbrev S4x64x128x128 : Shape := ⟨4, ![4, 64, 128, 128]⟩
abbrev S4x128x64x64 : Shape := ⟨4, ![4, 128, 64, 64]⟩
abbrev S4x320x32x32 : Shape := ⟨4, ![4, 320, 32, 32]⟩
abbrev S4x512x16x16 : Shape := ⟨4, ![4, 512, 16, 16]⟩
abbrev S8x512x512 : Shape := ⟨3, ![8, 512, 512]⟩
abbrev S8x512 : Shape := ⟨2, ![8, 512]⟩
abbrev S_ : Shape := ⟨0, ![]⟩

class Facts : Prop where
  bcast_S_S8x128 : S_.BroadcastsInDim S8x128 (![] : Fin 0 → Fin S8x128.rank)

variable [Facts]

def fn {F : FTy → Type} [FloatOps F] (main_arg0 : IVec S8x128 32) (main_arg1 : FVec F S1024x1 .f32) (main_arg2 : FVec F S4x64x128x128 .f32) (main_arg3 : FVec F S4x128x64x64 .f32) (main_arg4 : FVec F S4x320x32x32 .f32) (main_arg5 : FVec F S4x512x16x16 .f32) (main_arg6 : FVec F S8x512x512 .f32) (main_arg7 : FVec F S8x512 .f32) (main_arg8 : FVec F S8x512x512 .f32) (main_arg9 : FVec F S8x512 .f32) : IVec S8x128 1 :=
  let main_c : IVec S_ 32 := constantI S_ 32 0#32
  let main_v0 : IVec S8x128 32 := broadcastInDim S8x128 ![] bcast_S_S8x128 main_c
  let main_v1 : IVec S8x128 1 := cmpi .sge main_arg0 main_v0
  let main_c_0 : IVec S_ 32 := constantI S_ 32 8#32
  let main_v2 : IVec S8x128 32 := broadcastInDim S8x128 ![] bcast_S_S8x128 main_c_0
  let main_v3 : IVec S8x128 1 := cmpi .slt main_arg0 main_v2
  let main_v4 : IVec S8x128 1 := andi main_v1 main_v3
  main_v4
-- ==== Kernel.lean ====
abbrev S8x128 : Shape := ⟨2, ![8, 128]⟩
abbrev S1024x1 : Shape := ⟨2, ![1024, 1]⟩
abbrev S4x64x128x128 : Shape := ⟨4, ![4, 64, 128, 128]⟩
abbrev S4x128x64x64 : Shape := ⟨4, ![4, 128, 64, 64]⟩
abbrev S4x320x32x32 : Shape := ⟨4, ![4, 320, 32, 32]⟩
abbrev S4x512x16x16 : Shape := ⟨4, ![4, 512, 16, 16]⟩
abbrev S8x512x512 : Shape := ⟨3, ![8, 512, 512]⟩
abbrev S8x512 : Shape := ⟨2, ![8, 512]⟩
abbrev S4x16x16x512 : Shape := ⟨4, ![4, 16, 16, 512]⟩
abbrev S1024x512 : Shape := ⟨2, ![1024, 512]⟩
abbrev S1024 : Shape := ⟨1, ![1024]⟩
abbrev S1024x4x128 : Shape := ⟨3, ![1024, 4, 128]⟩
abbrev S2048x4x128 : Shape := ⟨3, ![2048, 4, 128]⟩
abbrev S32 : Shape := ⟨1, ![32]⟩
abbrev S32x2x128 : Shape := ⟨3, ![32, 2, 128]⟩
abbrev S16 : Shape := ⟨1, ![16]⟩
abbrev S_ : Shape := ⟨0, ![]⟩
abbrev S2048x2x128 : Shape := ⟨3, ![2048, 2, 128]⟩
abbrev S2048x512 : Shape := ⟨2, ![2048, 512]⟩
abbrev S2x16 : Shape := ⟨2, ![2, 16]⟩
abbrev S128x512 : Shape := ⟨2, ![128, 512]⟩
abbrev S1x512x512 : Shape := ⟨3, ![1, 512, 512]⟩
abbrev S1 : Shape := ⟨1, ![1]⟩
abbrev S512x512 : Shape := ⟨2, ![512, 512]⟩
abbrev S1x512 : Shape := ⟨2, ![1, 512]⟩
abbrev S128x1 : Shape := ⟨2, ![128, 1]⟩
abbrev S1x1024 : Shape := ⟨2, ![1, 1024]⟩
abbrev S2048x1024 : Shape := ⟨2, ![2048, 1024]⟩
abbrev S4194304 : Shape := ⟨1, ![4194304]⟩
abbrev S65536 : Shape := ⟨1, ![65536]⟩

abbrev nBuf : Table → Nat
  | .hbm => 27
  | .local .tc .vmem => 15
  | .local .tc .smem => 1
  | .local .scVector .vmem => 6
  | _ => 0

abbrev bufTy : (tb : Table) → Fin (nBuf tb) → BufTy
  | .hbm, ⟨0, _⟩ => ⟨S8x128, .i32⟩
  | .hbm, ⟨1, _⟩ => ⟨S1024x1, .f32⟩
  | .hbm, ⟨2, _⟩ => ⟨S4x64x128x128, .f32⟩
  | .hbm, ⟨3, _⟩ => ⟨S4x128x64x64, .f32⟩
  | .hbm, ⟨4, _⟩ => ⟨S4x320x32x32, .f32⟩
  | .hbm, ⟨5, _⟩ => ⟨S4x512x16x16, .f32⟩
  | .hbm, ⟨6, _⟩ => ⟨S8x512x512, .f32⟩
  | .hbm, ⟨7, _⟩ => ⟨S8x512, .f32⟩
  | .hbm, ⟨8, _⟩ => ⟨S8x512x512, .f32⟩
  | .hbm, ⟨9, _⟩ => ⟨S8x512, .f32⟩
  | .hbm, ⟨10, _⟩ => ⟨S4x16x16x512, .f32⟩
  | .hbm, ⟨11, _⟩ => ⟨S1024x512, .f32⟩
  | .hbm, ⟨12, _⟩ => ⟨S1024, .i32⟩
  | .hbm, ⟨13, _⟩ => ⟨S1024x4x128, .f32⟩
  | .hbm, ⟨14, _⟩ => ⟨S2048x4x128, .f32⟩
  | .hbm, ⟨15, _⟩ => ⟨S1024, .i32⟩
  | .hbm, ⟨16, _⟩ => ⟨S32, .i32⟩
  | .hbm, ⟨17, _⟩ => ⟨S2048x512, .f32⟩
  | .hbm, ⟨18, _⟩ => ⟨S2x16, .i32⟩
  | .hbm, ⟨19, _⟩ => ⟨S2048x512, .bf16⟩
  | .hbm, ⟨20, _⟩ => ⟨S1x1024, .i32⟩
  | .hbm, ⟨21, _⟩ => ⟨S1024x512, .f32⟩
  | .hbm, ⟨22, _⟩ => ⟨S4x16x16x512, .f32⟩
  | .hbm, ⟨23, _⟩ => ⟨S4x512x16x16, .f32⟩
  | .hbm, ⟨24, _⟩ => ⟨S4194304, .f32⟩
  | .hbm, ⟨25, _⟩ => ⟨S4194304, .f32⟩
  | .hbm, ⟨26, _⟩ => ⟨S4x64x128x128, .f32⟩
  | .local .tc .vmem, ⟨0, _⟩ => ⟨S128x512, .f32⟩
  | .local .tc .vmem, ⟨1, _⟩ => ⟨S128x512, .f32⟩
  | .local .tc .vmem, ⟨2, _⟩ => ⟨S1x512x512, .f32⟩
  | .local .tc .vmem, ⟨3, _⟩ => ⟨S1x512x512, .f32⟩
  | .local .tc .vmem, ⟨4, _⟩ => ⟨S8x512, .f32⟩
  | .local .tc .vmem, ⟨5, _⟩ => ⟨S1x512x512, .f32⟩
  | .local .tc .vmem, ⟨6, _⟩ => ⟨S1x512x512, .f32⟩
  | .local .tc .vmem, ⟨7, _⟩ => ⟨S8x512, .f32⟩
  | .local .tc .vmem, ⟨8, _⟩ => ⟨S128x512, .bf16⟩
  | .local .tc .vmem, ⟨9, _⟩ => ⟨S128x512, .bf16⟩
  | .local .tc .vmem, ⟨10, _⟩ => ⟨S2048x512, .bf16⟩
  | .local .tc .vmem, ⟨11, _⟩ => ⟨S1x1024, .i32⟩
  | .local .tc .vmem, ⟨12, _⟩ => ⟨S1024x1, .f32⟩
  | .local .tc .vmem, ⟨13, _⟩ => ⟨S1024x512, .f32⟩
  | .local .tc .vmem, ⟨14, _⟩ => ⟨S1024x512, .f32⟩
  | .local .tc .smem, ⟨0, _⟩ => ⟨S32, .i32⟩
  | .local .scVector .vmem, ⟨0, _⟩ => ⟨S1024, .i32⟩
  | .local .scVector .vmem, ⟨1, _⟩ => ⟨S32, .i32⟩
  | .local .scVector .vmem, ⟨2, _⟩ => ⟨S32x2x128, .f32⟩
  | .local .scVector .vmem, ⟨3, _⟩ => ⟨S32, .i32⟩
  | .local .scVector .vmem, ⟨4, _⟩ => ⟨S16, .i32⟩
  | .local .scVector .vmem, ⟨5, _⟩ => ⟨S65536, .f32⟩
  | _, _ => ⟨S8x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v7 : Ref sig .tc := ⟨.smem, 0, rfl⟩
abbrev main_v2_scv : Ref sig .scVector := ⟨.hbm, 12, rfl⟩
abbrev main_v3_scv : Ref sig .scVector := ⟨.hbm, 13, rfl⟩
abbrev main_v4_0_scv : Ref sig .scVector := ⟨.hbm, 14, rfl⟩
abbrev main_v4_1_scv : Ref sig .scVector := ⟨.hbm, 15, rfl⟩
abbrev main_v4_2_scv : Ref sig .scVector := ⟨.hbm, 16, rfl⟩
abbrev main_v13_scv : Ref sig .scVector := ⟨.hbm, 24, rfl⟩
abbrev main_v14_scv : Ref sig .scVector := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg5_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc3_scratch0 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v4 : BitVec 32 := Scalar.addi c0_i32_0 c64_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg13 : BitVec 32 := Scf.iv c0_i32_0 c1_i32 k0_t1
  let c16_i32_205 : BitVec 32 := 16#32
  let v506 : BitVec 32 := Scalar.muli arg13 c16_i32_205
  let v507 : Index := Scalar.indexCast v506
  ![v507.toNat]
def k0_off2 (i : grid0.Coords) : Fin 1 → Nat :=
  let c2_i32_44 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v174 : BitVec 32 := Scalar.muli c2_i32_44 v1
  let c16_i32 : BitVec 32 := 16#32
  let v175 : BitVec 32 := Scalar.muli v174 c16_i32
  let v176 : Index := Scalar.indexCast v175
  ![v176.toNat]
def k0_off3 (i : grid0.Coords) : Fin 1 → Nat :=
  let c2_i32_45 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v178 : BitVec 32 := Scalar.muli c2_i32_45 v1
  let c1_i32_46 : BitVec 32 := 1#32
  let v179 : BitVec 32 := Scalar.addi v178 c1_i32_46
  let c16_i32_47 : BitVec 32 := 16#32
  let v180 : BitVec 32 := Scalar.muli v179 c16_i32_47
  let v181 : Index := Scalar.indexCast v180
  ![v181.toNat]

def k0_chk1 (v177 : IVec S16 32) : Prop :=
  (∀ a x, ((![v177] : Fin 1 → IVec S16 32) a x).toNat < S16.size a)
theorem k0_idx1_inb : ∀ (v177 : IVec S16 32) (k0_hw1 : k0_chk1 v177), ∀ a x, ((![v177] : Fin 1 → IVec S16 32) a x).toNat < S16.size a := fun v177 k0_hw1 => k0_hw1

def k0_chk2 (v182 : IVec S16 32) : Prop :=
  (∀ a x, ((![v182] : Fin 1 → IVec S16 32) a x).toNat < S16.size a)
theorem k0_idx2_inb : ∀ (v182 : IVec S16 32) (k0_hw2 : k0_chk2 v182), ∀ a x, ((![v182] : Fin 1 → IVec S16 32) a x).toNat < S16.size a := fun v182 k0_hw2 => k0_hw2

def k0_chk3 (v473 : IVec S16 32) : Prop :=
  (∀ a x, ((![v473] : Fin 1 → IVec S16 32) a x).toNat < S16.size a)
theorem k0_idx3_inb : ∀ (v473 : IVec S16 32) (k0_hw3 : k0_chk3 v473), ∀ a x, ((![v473] : Fin 1 → IVec S16 32) a x).toNat < S16.size a := fun v473 k0_hw3 => k0_hw3
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v496 : BitVec 32 := Scalar.muli v1 c32_i32
  ![v496.toNat]
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_189 : BitVec 32 := 32#32
  let v497 : BitVec 32 := Scalar.muli v1 c32_i32_189
  let c0_i32_205_r2 : BitVec 32 := 0#32
  let c0_i32_206_r2 : BitVec 32 := 0#32
  ![v497.toNat, 0, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_196 : BitVec 32 := 32#32
  let v500 : BitVec 32 := Scalar.muli v1 c32_i32_196
  let c2_i32_205_r3 : BitVec 32 := 2#32
  let c0_i32_206_r3 : BitVec 32 := 0#32
  ![v500.toNat, 2, 0]
abbrev grid1 : Pipeline.Grid := ⟨1, ![16], ![false]⟩

abbrev pre1 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (v7 : BitVec 32) (v11 : BitVec 32) (v15 : BitVec 32) (v19 : BitVec 32) (v23 : BitVec 32) (v27 : BitVec 32) (v31 : BitVec 32) : Fin 2 → Nat :=
  let c0_i32_2 : BitVec 32 := 0#32
  let arg0 : BitVec 32 := BitVec.ofNat 32 (i 0).val
  let v8 : BitVec 1 := Scalar.cmpi .sge arg0 v7
  let c1_i32 : BitVec 32 := 1#32
  let c0_i32_1 : BitVec 32 := 0#32
  let v9 : BitVec 32 := Scalar.select v8 c1_i32 c0_i32_1
  let v10 : BitVec 32 := Scalar.addi c0_i32_2 v9
  let v12 : BitVec 1 := Scalar.cmpi .sge arg0 v11
  let c1_i32_3 : BitVec 32 := 1#32
  let c0_i32_4 : BitVec 32 := 0#32
  let v13 : BitVec 32 := Scalar.select v12 c1_i32_3 c0_i32_4
  let v14 : BitVec 32 := Scalar.addi v10 v13
  let v16 : BitVec 1 := Scalar.cmpi .sge arg0 v15
  let c1_i32_5 : BitVec 32 := 1#32
  let c0_i32_6 : BitVec 32 := 0#32
  let v17 : BitVec 32 := Scalar.select v16 c1_i32_5 c0_i32_6
  let v18 : BitVec 32 := Scalar.addi v14 v17
  let v20 : BitVec 1 := Scalar.cmpi .sge arg0 v19
  let c1_i32_7 : BitVec 32 := 1#32
  let c0_i32_8 : BitVec 32 := 0#32
  let v21 : BitVec 32 := Scalar.select v20 c1_i32_7 c0_i32_8
  let v22 : BitVec 32 := Scalar.addi v18 v21
  let v24 : BitVec 1 := Scalar.cmpi .sge arg0 v23
  let c1_i32_9 : BitVec 32 := 1#32
  let c0_i32_10 : BitVec 32 := 0#32
  let v25 : BitVec 32 := Scalar.select v24 c1_i32_9 c0_i32_10
  let v26 : BitVec 32 := Scalar.addi v22 v25
  let v28 : BitVec 1 := Scalar.cmpi .sge arg0 v27
  let c1_i32_11 : BitVec 32 := 1#32
  let c0_i32_12 : BitVec 32 := 0#32
  let v29 : BitVec 32 := Scalar.select v28 c1_i32_11 c0_i32_12
  let v30 : BitVec 32 := Scalar.addi v26 v29
  let v32 : BitVec 1 := Scalar.cmpi .sge arg0 v31
  let c1_i32_13 : BitVec 32 := 1#32
  let c0_i32_14 : BitVec 32 := 0#32
  let v33 : BitVec 32 := Scalar.select v32 c1_i32_13 c0_i32_14
  let v34 : BitVec 32 := Scalar.addi v30 v33
  let v42 : Index := Scalar.indexCast v34
  let c0_19 : Index := 0#32
  ![v42.toNat, 0]
def k1_cond1 (i : grid1.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k1_chk1 (i : grid1.Coords) (v0 : BitVec 32) (v7 : BitVec 32) (v11 : BitVec 32) (v15 : BitVec 32) (v19 : BitVec 32) (v23 : BitVec 32) (v27 : BitVec 32) (v31 : BitVec 32) : Prop :=
  (∀ (k1_h1 : k1_cond1 i v0 = 1#1), ∀ a, (k1_off1 i v7 v11 v15 v19 v23 v27 v31) a + S1x512.size a ≤ S8x512.size a)
theorem k1_off1_inb : ∀ (i : grid1.Coords) (v0 : BitVec 32) (v7 : BitVec 32) (v11 : BitVec 32) (v15 : BitVec 32) (v19 : BitVec 32) (v23 : BitVec 32) (v27 : BitVec 32) (v31 : BitVec 32) (k1_hw1 : k1_chk1 i v0 v7 v11 v15 v19 v23 v27 v31), ∀ (k1_h1 : k1_cond1 i v0 = 1#1), ∀ a, (k1_off1 i v7 v11 v15 v19 v23 v27 v31) a + S1x512.size a ≤ S8x512.size a := fun i v0 v7 v11 v15 v19 v23 v27 v31 k1_hw1 k1_h1 => k1_hw1 k1_h1

def k1_cond2 (i : grid1.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (inb_S32_S1_1 : ∀ a, (![1] : Fin 1 → Nat) a + S1.size a ≤ S32.size a) (numel1_S1 : S1.numel = 1) (inb_S32_S1_2 : ∀ a, (![2] : Fin 1 → Nat) a + S1.size a ≤ S32.size a) (inb_S32_S1_3 : ∀ a, (![3] : Fin 1 → Nat) a + S1.size a ≤ S32.size a) (inb_S32_S1_4 : ∀ a, (![4] : Fin 1 → Nat) a + S1.size a ≤ S32.size a) (inb_S32_S1_5 : ∀ a, (![5] : Fin 1 → Nat) a + S1.size a ≤ S32.size a) (inb_S32_S1_6 : ∀ a, (![6] : Fin 1 → Nat) a + S1.size a ≤ S32.size a) (inb_S32_S1_7 : ∀ a, (![7] : Fin 1 → Nat) a + S1.size a ≤ S32.size a) (pf : pre1.Contents (Elt F)) (i : grid1.Coords) : Fin 3 → Nat :=
  let arg0 : BitVec 32 := BitVec.ofNat 32 (i 0).val
  let c1 : Index := 1#32
  let v0 : BitVec 32 := pf.at 0 (Rect.unit (s := S32) ![1] S1.size inb_S32_S1_1) numel1_S1
  let v1 : BitVec 1 := Scalar.cmpi .sge arg0 v0
  let c1_i32 : BitVec 32 := 1#32
  let c0_i32 : BitVec 32 := 0#32
  let v2 : BitVec 32 := Scalar.select v1 c1_i32 c0_i32
  let c0_i32_0 : BitVec 32 := 0#32
  let v3 : BitVec 32 := Scalar.addi c0_i32_0 v2
  let c2 : Index := 2#32
  let v4 : BitVec 32 := pf.at 0 (Rect.unit (s := S32) ![2] S1.size inb_S32_S1_2) numel1_S1
  let v5 : BitVec 1 := Scalar.cmpi .sge arg0 v4
  let c1_i32_1 : BitVec 32 := 1#32
  let c0_i32_2 : BitVec 32 := 0#32
  let v6 : BitVec 32 := Scalar.select v5 c1_i32_1 c0_i32_2
  let v7 : BitVec 32 := Scalar.addi v3 v6
  let c3 : Index := 3#32
  let v8 : BitVec 32 := pf.at 0 (Rect.unit (s := S32) ![3] S1.size inb_S32_S1_3) numel1_S1
  let v9 : BitVec 1 := Scalar.cmpi .sge arg0 v8
  let c1_i32_3 : BitVec 32 := 1#32
  let c0_i32_4 : BitVec 32 := 0#32
  let v10 : BitVec 32 := Scalar.select v9 c1_i32_3 c0_i32_4
  let v11 : BitVec 32 := Scalar.addi v7 v10
  let c4 : Index := 4#32
  let v12 : BitVec 32 := pf.at 0 (Rect.unit (s := S32) ![4] S1.size inb_S32_S1_4) numel1_S1
  let v13 : BitVec 1 := Scalar.cmpi .sge arg0 v12
  let c1_i32_5 : BitVec 32 := 1#32
  let c0_i32_6 : BitVec 32 := 0#32
  let v14 : BitVec 32 := Scalar.select v13 c1_i32_5 c0_i32_6
  let v15 : BitVec 32 := Scalar.addi v11 v14
  let c5 : Index := 5#32
  let v16 : BitVec 32 := pf.at 0 (Rect.unit (s := S32) ![5] S1.size inb_S32_S1_5) numel1_S1
  let v17 : BitVec 1 := Scalar.cmpi .sge arg0 v16
  let c1_i32_7 : BitVec 32 := 1#32
  let c0_i32_8 : BitVec 32 := 0#32
  let v18 : BitVec 32 := Scalar.select v17 c1_i32_7 c0_i32_8
  let v19 : BitVec 32 := Scalar.addi v15 v18
  let c6 : Index := 6#32
  let v20 : BitVec 32 := pf.at 0 (Rect.unit (s := S32) ![6] S1.size inb_S32_S1_6) numel1_S1
  let v21 : BitVec 1 := Scalar.cmpi .sge arg0 v20
  let c1_i32_9 : BitVec 32 := 1#32
  let c0_i32_10 : BitVec 32 := 0#32
  let v22 : BitVec 32 := Scalar.select v21 c1_i32_9 c0_i32_10
  let v23 : BitVec 32 := Scalar.addi v19 v22
  let c7 : Index := 7#32
  let v24 : BitVec 32 := pf.at 0 (Rect.unit (s := S32) ![7] S1.size inb_S32_S1_7) numel1_S1
  let v25 : BitVec 1 := Scalar.cmpi .sge arg0 v24
  let c1_i32_11 : BitVec 32 := 1#32
  let c0_i32_12 : BitVec 32 := 0#32
  let v26 : BitVec 32 := Scalar.select v25 c1_i32_11 c0_i32_12
  let v27 : BitVec 32 := Scalar.addi v23 v26
  let c0_i32_13 : BitVec 32 := 0#32
  let c0_i32_14 : BitVec 32 := 0#32
  let c0_i32_15 : BitVec 32 := 0#32
  ![v27.toNat, c0_i32_13.toNat, c0_i32_14.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (inb_S32_S1_1 : ∀ a, (![1] : Fin 1 → Nat) a + S1.size a ≤ S32.size a) (numel1_S1 : S1.numel = 1) (inb_S32_S1_2 : ∀ a, (![2] : Fin 1 → Nat) a + S1.size a ≤ S32.size a) (inb_S32_S1_3 : ∀ a, (![3] : Fin 1 → Nat) a + S1.size a ≤ S32.size a) (inb_S32_S1_4 : ∀ a, (![4] : Fin 1 → Nat) a + S1.size a ≤ S32.size a) (inb_S32_S1_5 : ∀ a, (![5] : Fin 1 → Nat) a + S1.size a ≤ S32.size a) (inb_S32_S1_6 : ∀ a, (![6] : Fin 1 → Nat) a + S1.size a ≤ S32.size a) (inb_S32_S1_7 : ∀ a, (![7] : Fin 1 → Nat) a + S1.size a ≤ S32.size a) (pf : pre1.Contents (Elt F)) (i : grid1.Coords) : Fin 3 → Nat :=
  let arg0 : BitVec 32 := BitVec.ofNat 32 (i 0).val
  let c1 : Index := 1#32
  let v0 : BitVec 32 := pf.at 0 (Rect.unit (s := S32) ![1] S1.size inb_S32_S1_1) numel1_S1
  let v1 : BitVec 1 := Scalar.cmpi .sge arg0 v0
  let c1_i32 : BitVec 32 := 1#32
  let c0_i32 : BitVec 32 := 0#32
  let v2 : BitVec 32 := Scalar.select v1 c1_i32 c0_i32
  let c0_i32_0 : BitVec 32 := 0#32
  let v3 : BitVec 32 := Scalar.addi c0_i32_0 v2
  let c2 : Index := 2#32
  let v4 : BitVec 32 := pf.at 0 (Rect.unit (s := S32) ![2] S1.size inb_S32_S1_2) numel1_S1
  let v5 : BitVec 1 := Scalar.cmpi .sge arg0 v4
  let c1_i32_1 : BitVec 32 := 1#32
  let c0_i32_2 : BitVec 32 := 0#32
  let v6 : BitVec 32 := Scalar.select v5 c1_i32_1 c0_i32_2
  let v7 : BitVec 32 := Scalar.addi v3 v6
  let c3 : Index := 3#32
  let v8 : BitVec 32 := pf.at 0 (Rect.unit (s := S32) ![3] S1.size inb_S32_S1_3) numel1_S1
  let v9 : BitVec 1 := Scalar.cmpi .sge arg0 v8
  let c1_i32_3 : BitVec 32 := 1#32
  let c0_i32_4 : BitVec 32 := 0#32
  let v10 : BitVec 32 := Scalar.select v9 c1_i32_3 c0_i32_4
  let v11 : BitVec 32 := Scalar.addi v7 v10
  let c4 : Index := 4#32
  let v12 : BitVec 32 := pf.at 0 (Rect.unit (s := S32) ![4] S1.size inb_S32_S1_4) numel1_S1
  let v13 : BitVec 1 := Scalar.cmpi .sge arg0 v12
  let c1_i32_5 : BitVec 32 := 1#32
  let c0_i32_6 : BitVec 32 := 0#32
  let v14 : BitVec 32 := Scalar.select v13 c1_i32_5 c0_i32_6
  let v15 : BitVec 32 := Scalar.addi v11 v14
  let c5 : Index := 5#32
  let v16 : BitVec 32 := pf.at 0 (Rect.unit (s := S32) ![5] S1.size inb_S32_S1_5) numel1_S1
  let v17 : BitVec 1 := Scalar.cmpi .sge arg0 v16
  let c1_i32_7 : BitVec 32 := 1#32
  let c0_i32_8 : BitVec 32 := 0#32
  let v18 : BitVec 32 := Scalar.select v17 c1_i32_7 c0_i32_8
  let v19 : BitVec 32 := Scalar.addi v15 v18
  let c6 : Index := 6#32
  let v20 : BitVec 32 := pf.at 0 (Rect.unit (s := S32) ![6] S1.size inb_S32_S1_6) numel1_S1
  let v21 : BitVec 1 := Scalar.cmpi .sge arg0 v20
  let c1_i32_9 : BitVec 32 := 1#32
  let c0_i32_10 : BitVec 32 := 0#32
  let v22 : BitVec 32 := Scalar.select v21 c1_i32_9 c0_i32_10
  let v23 : BitVec 32 := Scalar.addi v19 v22
  let c7 : Index := 7#32
  let v24 : BitVec 32 := pf.at 0 (Rect.unit (s := S32) ![7] S1.size inb_S32_S1_7) numel1_S1
  let v25 : BitVec 1 := Scalar.cmpi .sge arg0 v24
  let c1_i32_11 : BitVec 32 := 1#32
  let c0_i32_12 : BitVec 32 := 0#32
  let v26 : BitVec 32 := Scalar.select v25 c1_i32_11 c0_i32_12
  let v27 : BitVec 32 := Scalar.addi v23 v26
  let c0_i32_13 : BitVec 32 := 0#32
  let c0_i32_14 : BitVec 32 := 0#32
  let c0_i32_15 : BitVec 32 := 0#32
  ![v27.toNat, c0_i32_13.toNat, c0_i32_14.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S2048x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1024 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1024x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1024x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := ⟨2, ![2, 16], ![false, false]⟩

def k3_off1 (i : grid3.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let v3 : BitVec 32 := Scalar.addi v2 c0_i32
  ![v3.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8x128 : Shape := ⟨2, ![8, 128]⟩
abbrev S1024x1 : Shape := ⟨2, ![1024, 1]⟩
abbrev S4x64x128x128 : Shape := ⟨4, ![4, 64, 128, 128]⟩
abbrev S4x128x64x64 : Shape := ⟨4, ![4, 128, 64, 64]⟩
abbrev S4x320x32x32 : Shape := ⟨4, ![4, 320, 32, 32]⟩
abbrev S4x512x16x16 : Shape := ⟨4, ![4, 512, 16, 16]⟩
abbrev S8x512x512 : Shape := ⟨3, ![8, 512, 512]⟩
abbrev S8x512 : Shape := ⟨2, ![8, 512]⟩
abbrev S4x16x16x512 : Shape := ⟨4, ![4, 16, 16, 512]⟩
abbrev S1024x512 : Shape := ⟨2, ![1024, 512]⟩
abbrev S1024 : Shape := ⟨1, ![1024]⟩
abbrev S8x512x1024 : Shape := ⟨3, ![8, 512, 1024]⟩
abbrev S8x1024x512 : Shape := ⟨3, ![8, 1024, 512]⟩
abbrev S8x1x512 : Shape := ⟨3, ![8, 1, 512]⟩
abbrev S_ : Shape := ⟨0, ![]⟩
abbrev S1024x2 : Shape := ⟨2, ![1024, 2]⟩

abbrev nBuf : Space → Nat
  | .hbm => 63
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S1024x1, .f32⟩
  | .hbm, ⟨2, _⟩ => ⟨S4x64x128x128, .f32⟩
  | .hbm, ⟨3, _⟩ => ⟨S4x128x64x64, .f32⟩
  | .hbm, ⟨4, _⟩ => ⟨S4x320x32x32, .f32⟩
  | .hbm, ⟨5, _⟩ => ⟨S4x512x16x16, .f32⟩
  | .hbm, ⟨6, _⟩ => ⟨S8x512x512, .f32⟩
  | .hbm, ⟨7, _⟩ => ⟨S8x512, .f32⟩
  | .hbm, ⟨8, _⟩ => ⟨S8x512x512, .f32⟩
  | .hbm, ⟨9, _⟩ => ⟨S8x512, .f32⟩
  | .hbm, ⟨10, _⟩ => ⟨S4x16x16x512, .f32⟩
  | .hbm, ⟨11, _⟩ => ⟨S1024x512, .f32⟩
  | .hbm, ⟨12, _⟩ => ⟨S1024, .i32⟩
  | .hbm, ⟨13, _⟩ => ⟨S8x512x1024, .f32⟩
  | .hbm, ⟨14, _⟩ => ⟨S8x1024x512, .f32⟩
  | .hbm, ⟨15, _⟩ => ⟨S8x1x512, .f32⟩
  | .hbm, ⟨16, _⟩ => ⟨S8x1024x512, .f32⟩
  | .hbm, ⟨17, _⟩ => ⟨S8x1024x512, .f32⟩
  | .hbm, ⟨18, _⟩ => ⟨S8x1024x512, .f32⟩
  | .hbm, ⟨19, _⟩ => ⟨S8x1024x512, .f32⟩
  | .hbm, ⟨20, _⟩ => ⟨S_, .f32⟩
  | .hbm, ⟨21, _⟩ => ⟨S8x1024x512, .f32⟩
  | .hbm, ⟨22, _⟩ => ⟨S8x1024x512, .f32⟩
  | .hbm, ⟨23, _⟩ => ⟨S8x1024x512, .f32⟩
  | .hbm, ⟨24, _⟩ => ⟨S_, .f32⟩
  | .hbm, ⟨25, _⟩ => ⟨S8x1024x512, .f32⟩
  | .hbm, ⟨26, _⟩ => ⟨S8x1024x512, .f32⟩
  | .hbm, ⟨27, _⟩ => ⟨S8x1024x512, .f32⟩
  | .hbm, ⟨28, _⟩ => ⟨S_, .f32⟩
  | .hbm, ⟨29, _⟩ => ⟨S8x1024x512, .f32⟩
  | .hbm, ⟨30, _⟩ => ⟨S8x1024x512, .f32⟩
  | .hbm, ⟨31, _⟩ => ⟨S_, .f32⟩
  | .hbm, ⟨32, _⟩ => ⟨S8x1024x512, .f32⟩
  | .hbm, ⟨33, _⟩ => ⟨S8x1024x512, .f32⟩
  | .hbm, ⟨34, _⟩ => ⟨S8x1024x512, .f32⟩
  | .hbm, ⟨35, _⟩ => ⟨S8x1024x512, .f32⟩
  | .hbm, ⟨36, _⟩ => ⟨S8x1x512, .f32⟩
  | .hbm, ⟨37, _⟩ => ⟨S8x1024x512, .f32⟩
  | .hbm, ⟨38, _⟩ => ⟨S8x1024x512, .f32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x1, .i32⟩
  | .hbm, ⟨56, _⟩ => ⟨S1024x2, .i32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S4x16x16x512, .f32⟩
  | .hbm, ⟨61, _⟩ => ⟨S4x512x16x16, .f32⟩
  | .hbm, ⟨62, _⟩ => ⟨S4x512x16x16, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Gate.lean ====
abbrev S4x512x16x16 : Shape := ⟨4, ![4, 512, 16, 16]⟩
abbrev S512x512 : Shape := ⟨2, ![512, 512]⟩
abbrev S512 : Shape := ⟨1, ![512]⟩
abbrev S512x8 : Shape := ⟨2, ![512, 8]⟩
abbrev S8 : Shape := ⟨1, ![8]⟩
abbrev S4x16x16x512 : Shape := ⟨4, ![4, 16, 16, 512]⟩
abbrev S1024x512 : Shape := ⟨2, ![1024, 512]⟩
abbrev S1x512 : Shape := ⟨2, ![1, 512]⟩
abbrev S1x8 : Shape := ⟨2, ![1, 8]⟩
abbrev S8x128 : Shape := ⟨2, ![8, 128]⟩
abbrev S1024x1 : Shape := ⟨2, ![1024, 1]⟩
abbrev S512x120 : Shape := ⟨2, ![512, 120]⟩
abbrev S512x128 : Shape := ⟨2, ![512, 128]⟩
abbrev S1024x128 : Shape := ⟨2, ![1024, 128]⟩
abbrev S1x120 : Shape := ⟨2, ![1, 120]⟩
abbrev S1x128 : Shape := ⟨2, ![1, 128]⟩
abbrev S1024 : Shape := ⟨1, ![1024]⟩

abbrev nBuf : Space → Nat
  | .hbm => 11
  | .vmem => 7
  | .smem => 0
  | _ => 0

abbrev bufTy : (tb : Table) → Fin (tcTables nBuf tb) → BufTy
  | .hbm, ⟨0, _⟩ => ⟨S4x512x16x16, .f32⟩
  | .hbm, ⟨1, _⟩ => ⟨S512x512, .f32⟩
  | .hbm, ⟨2, _⟩ => ⟨S512, .f32⟩
  | .hbm, ⟨3, _⟩ => ⟨S512x8, .f32⟩
  | .hbm, ⟨4, _⟩ => ⟨S8, .f32⟩
  | .hbm, ⟨5, _⟩ => ⟨S4x16x16x512, .f32⟩
  | .hbm, ⟨6, _⟩ => ⟨S1024x512, .f32⟩
  | .hbm, ⟨7, _⟩ => ⟨S1x512, .f32⟩
  | .hbm, ⟨8, _⟩ => ⟨S1x8, .f32⟩
  | .hbm, ⟨9, _⟩ => ⟨S8x128, .i32⟩
  | .hbm, ⟨10, _⟩ => ⟨S1024x1, .f32⟩
  | .local _ .vmem, ⟨0, _⟩ => ⟨S1024x512, .f32⟩
  | .local _ .vmem, ⟨1, _⟩ => ⟨S512x512, .f32⟩
  | .local _ .vmem, ⟨2, _⟩ => ⟨S1x512, .f32⟩
  | .local _ .vmem, ⟨3, _⟩ => ⟨S512x8, .f32⟩
  | .local _ .vmem, ⟨4, _⟩ => ⟨S1x8, .f32⟩
  | .local _ .vmem, ⟨5, _⟩ => ⟨S8x128, .i32⟩
  | .local _ .vmem, ⟨6, _⟩ => ⟨S1024x1, .f32⟩
  | _, _ => ⟨S4x512x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== GateIdeal.lean ====
variable {F : FTy → Type} [FloatOps F] [Named F]
def κ : String → Option EReal := fun
  | "mask" => some ⊥
  | _ => none
-- ==== GateRefIdeal.lean ====
abbrev S4x512x16x16 : Shape := ⟨4, ![4, 512, 16, 16]⟩
abbrev S512x512 : Shape := ⟨2, ![512, 512]⟩
abbrev S512 : Shape := ⟨1, ![512]⟩
abbrev S512x8 : Shape := ⟨2, ![512, 8]⟩
abbrev S8 : Shape := ⟨1, ![8]⟩
abbrev S4x16x16x512 : Shape := ⟨4, ![4, 16, 16, 512]⟩
abbrev S1024x512 : Shape := ⟨2, ![1024, 512]⟩
abbrev S1x512 : Shape := ⟨2, ![1, 512]⟩
abbrev S_ : Shape := ⟨0, ![]⟩
abbrev S1024x8 : Shape := ⟨2, ![1024, 8]⟩
abbrev S1x8 : Shape := ⟨2, ![1, 8]⟩
abbrev S1024 : Shape := ⟨1, ![1024]⟩
abbrev S1024x1 : Shape := ⟨2, ![1024, 1]⟩
abbrev S8x128 : Shape := ⟨2, ![8, 128]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S4x512x16x16, .f32⟩
  | .hbm, ⟨1, _⟩ => ⟨S512x512, .f32⟩
  | .hbm, ⟨2, _⟩ => ⟨S512, .f32⟩
  | .hbm, ⟨3, _⟩ => ⟨S512x8, .f32⟩
  | .hbm, ⟨4, _⟩ => ⟨S8, .f32⟩
  | .hbm, ⟨5, _⟩ => ⟨S4x16x16x512, .f32⟩
  | .hbm, ⟨6, _⟩ => ⟨S1024x512, .f32⟩
  | .hbm, ⟨7, _⟩ => ⟨S1024x512, .f32⟩
  | .hbm, ⟨8, _⟩ => ⟨S1x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x8, .f32⟩
  | .hbm, ⟨29, _⟩ => ⟨S1x8, .f32⟩
  | .hbm, ⟨30, _⟩ => ⟨S1024x8, .f32⟩
  | .hbm, ⟨31, _⟩ => ⟨S1024x8, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024x1, .f32⟩
  | .hbm, ⟨38, _⟩ => ⟨S1024x8, .f32⟩
  | .hbm, ⟨39, _⟩ => ⟨S1024x8, .f32⟩
  | .hbm, ⟨40, _⟩ => ⟨S1024x8, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S1024x8, .f32⟩
  | .hbm, ⟨45, _⟩ => ⟨S1024x8, .f32⟩
  | .hbm, ⟨46, _⟩ => ⟨S1024x8, .i32⟩
  | .hbm, ⟨47, _⟩ => ⟨S_, .f32⟩
  | .hbm, ⟨48, _⟩ => ⟨S_, .i32⟩
  | .hbm, ⟨49, _⟩ => ⟨S1024, .f32⟩
  | .hbm, ⟨50, _⟩ => ⟨S1024, .i32⟩
  | .hbm, ⟨51, _⟩ => ⟨S8x128, .i32⟩
  | .hbm, ⟨52, _⟩ => ⟨S1024x1, .i32⟩
  | .hbm, ⟨53, _⟩ => ⟨S_, .i32⟩
  | .hbm, ⟨54, _⟩ => ⟨S1024x1, .i32⟩
  | .hbm, ⟨55, _⟩ => ⟨S1024x1, .i1⟩
  | .hbm, ⟨56, _⟩ => ⟨S_, .i32⟩
  | .hbm, ⟨57, _⟩ => ⟨S1024x1, .i32⟩
  | .hbm, ⟨58, _⟩ => ⟨S1024x1, .i32⟩
  | .hbm, ⟨59, _⟩ => ⟨S1024x1, .i32⟩
  | .hbm, ⟨60, _⟩ => ⟨S1024x1x1, .i32⟩
  | .hbm, ⟨61, _⟩ => ⟨S1, .i32⟩
  | .hbm, ⟨62, _⟩ => ⟨S_, .i32⟩
  | .hbm, ⟨63, _⟩ => ⟨S1024x1x1, .i32⟩
  | .hbm, ⟨64, _⟩ => ⟨S1024x1x1, .i1⟩
  | .hbm, ⟨65, _⟩ => ⟨S1x1x1, .i32⟩
  | .hbm, ⟨66, _⟩ => ⟨S1024x1x1, .i32⟩
  | .hbm, ⟨67, _⟩ => ⟨S1024x1x1, .i1⟩
  | .hbm, ⟨68, _⟩ => ⟨S1024x1x1, .i1⟩
  | .hbm, ⟨69, _⟩ => ⟨S_, .i1⟩
  | .hbm, ⟨70, _⟩ => ⟨S1024x1, .i1⟩
  | .hbm, ⟨71, _⟩ => ⟨S1024x1, .f32⟩
  | .hbm, ⟨72, _⟩ => ⟨S_, .f32⟩
  | .hbm, ⟨73, _⟩ => ⟨S1024x1, .f32⟩
  | .hbm, ⟨74, _⟩ => ⟨S1024x1, .f32⟩
  | _, _ => ⟨S4x512x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_cst : Ref sig .tc := ⟨.hbm, 47, rfl⟩
abbrev main_call0_c : Ref sig .tc := ⟨.hbm, 48, rfl⟩
abbrev main_call0_v1_0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_cst : Ref sig .tc := ⟨.hbm, 72, rfl⟩
abbrev main_call1_v14 : Ref sig .tc := ⟨.hbm, 73, rfl⟩
abbrev main_v37 : Ref sig .tc := ⟨.hbm, 74, rfl⟩

abbrev nD : Nat := 1
abbrev τ : Topo := Topo.v7x

variable {F : FTy → Type} [FloatOps F]
-- ==== Proof.Spec.lean ====
/-
  Where the dispatch puts each token: the counts, the block starts, the destinations, and what they satisfy.
-/
module

public import Idealize.ShloMosaic.Lib.Tactic
public import proofs.«01_k».proof.Defs

@[expose] public section

namespace Cert.Proof.Spec

/-- How many of the first `n` tokens go to expert `e`, the token-to-expert map being `f`. -/
def cnt (f : ℕ → ℕ) (e n : ℕ) : ℕ := ∑ t ∈ Finset.range n, if f t = e then 1 else 0

theorem cnt_zero (f : ℕ → ℕ) (e : ℕ) : cnt f e 0 = 0 := rfl
theorem cnt_succ (f : ℕ → ℕ) (e n : ℕ) : cnt f e (n + 1) = cnt f e n + if f n = e then 1 else 0 := Finset.sum_range_succ _ _
theorem cnt_add (f : ℕ → ℕ) (e n k : ℕ) : cnt f e (n + k) = cnt f e n + ∑ j ∈ Finset.range k, if f (n + j) = e then 1 else 0 :=
  Finset.sum_range_add _ _ _
theorem cnt_mono (f : ℕ → ℕ) (e : ℕ) {n n' : ℕ} (h : n ≤ n') : cnt f e n ≤ cnt f e n' := by
  obtain ⟨k, rfl⟩ := Nat.exists_eq_add_of_le h
  rw [cnt_add]; exact Nat.le_add_right _ _
theorem cnt_le (f : ℕ → ℕ) (e n : ℕ) : cnt f e n ≤ n := by
  induction n with
  | zero => simp [cnt_zero]
  | succ n ih => rw [cnt_succ]; split <;> omega
/-- A token sits strictly below its expert's full count. -/
theorem cnt_lt (f : ℕ → ℕ) {t n : ℕ} (h : t < n) : cnt f (f t) t < cnt f (f t) n := by
  have h1 := cnt_mono f (f t) (show t + 1 ≤ n from h)
  rw [cnt_succ] at h1
  simp only [if_true] at h1
  omega
/-- Every one of the first `n` tokens is counted by exactly one expert. -/
theorem sum_cnt (f : ℕ → ℕ) (n : ℕ) (h : ∀ t < n, f t < 8) : ∑ e ∈ Finset.range 8, cnt f e n = n := by
  induction n with
  | zero => simp [cnt_zero]
  | succ n ih =>
    simp only [cnt_succ, Finset.sum_add_distrib]
    rw [ih fun t ht => h t (by omega), Finset.sum_ite_eq]
    simp [h n (by omega)]

/-- How many blocks of 128 rows expert `e` takes. -/
def nb (f : ℕ → ℕ) (e : ℕ) : ℕ := (cnt f e 1024 + 127) / 128
/-- The block expert `k`'s rows start at. -/
def off (f : ℕ → ℕ) (k : ℕ) : ℕ := ∑ e ∈ Finset.range k, nb f e

theorem off_succ (f : ℕ → ℕ) (k : ℕ) : off f (k + 1) = off f k + nb f k := Finset.sum_range_succ _ _
theorem off_mono (f : ℕ → ℕ) {k k' : ℕ} (h : k ≤ k') : off f k ≤ off f k' :=
  Finset.sum_le_sum_of_subset (Finset.range_mono h)
theorem cnt_le_nb (f : ℕ → ℕ) (e : ℕ) : cnt f e 1024 ≤ 128 * nb f e := by unfold nb; omega
/-- All the experts' blocks together are at most fifteen. -/
theorem off_le (f : ℕ → ℕ) (h : ∀ t < 1024, f t < 8) : off f 8 ≤ 15 := by
  have h1 := sum_cnt f 1024 h
  have h2 : ∀ e, 128 * nb f e ≤ cnt f e 1024 + 127 := fun e => by unfold nb; omega
  have e0 := h2 0; have e1 := h2 1; have e2 := h2 2; have e3 := h2 3
  have e4 := h2 4; have e5 := h2 5; have e6 := h2 6; have e7 := h2 7
  simp only [off, Finset.sum_range_succ, Finset.sum_range_zero] at h1 ⊢
  omega

/-- The row token `t` is put at. -/
def dest (f : ℕ → ℕ) (t : ℕ) : ℕ := 128 * off f (f t) + cnt f (f t) t

/-- The expert block `j` belongs to: how many of the later experts start at or before it. -/
def owner (f : ℕ → ℕ) (j : ℕ) : ℕ := ∑ k ∈ Finset.range 7, if off f (k + 1) ≤ j then 1 else 0

variable {f : ℕ → ℕ}

theorem dest_div (t : ℕ) (ht : t < 1024) : off f (f t) ≤ dest f t / 128 ∧ dest f t / 128 < off f (f t + 1) := by
  have h1 := cnt_lt f ht
  have h2 := cnt_le_nb f (f t)
  rw [off_succ]; unfold dest
  omega

theorem dest_div_lt_used (h : ∀ t < 1024, f t < 8) (t : ℕ) (ht : t < 1024) : dest f t / 128 < off f 8 :=
  lt_of_lt_of_le (dest_div t ht).2 (off_mono f (h t ht))

/-- Every destination is a row of the padded array. -/
theorem dest_lt (h : ∀ t < 1024, f t < 8) (t : ℕ) (ht : t < 1024) : dest f t < 2048 := by
  have h1 := dest_div_lt_used h t ht
  have h2 := off_le f h
  omega

/-- The count is strictly increasing at the tokens of its own expert. -/
theorem cnt_inj {t t' : ℕ} (he : f t = f t') (hc : cnt f (f t) t = cnt f (f t') t') : t = t' := by
  rcases lt_trichotomy t t' with hlt | rfl | hlt
  · have := cnt_lt f hlt; rw [hc, he] at this; omega
  · rfl
  · have := cnt_lt f hlt; rw [← hc, ← he] at this; omega

/-- Distinct tokens go to distinct rows. -/
theorem dest_inj {t t' : ℕ} (ht : t < 1024) (ht' : t' < 1024) (h : dest f t = dest f t') : t = t' := by
  have h1 := dest_div (f := f) t ht
  have h2 := dest_div (f := f) t' ht'
  rw [h] at h1
  have he : f t = f t' := by
    rcases lt_trichotomy (f t) (f t') with hlt | he | hlt
    · have := off_mono f (show f t + 1 ≤ f t' from hlt); omega
    · exact he
    · have := off_mono f (show f t' + 1 ≤ f t from hlt); omega
  refine cnt_inj he ?_
  have h3 : 128 * off f (f t) + cnt f (f t) t = 128 * off f (f t') + cnt f (f t') t' := h
  rw [he] at h3 ⊢
  omega

/-- The block between expert `e`'s start and the next one's belongs to `e`. -/
theorem owner_eq {e j : ℕ} (he : e < 8) (h1 : off f e ≤ j) (h2 : j < off f (e + 1)) : owner f j = e := by
  have hk : ∀ k, (if off f (k + 1) ≤ j then 1 else 0) = if k < e then 1 else 0 := by
    intro k
    by_cases hk : k < e
    · rw [if_pos (le_trans (off_mono f (show k + 1 ≤ e from hk)) h1), if_pos hk]
    · rw [if_neg (fun h => absurd (lt_of_lt_of_le h2 (le_trans (off_mono f (show e + 1 ≤ k + 1 by omega)) h)) (lt_irrefl _)), if_neg hk]
  unfold owner
  simp only [hk, Finset.sum_range_succ, Finset.sum_range_zero]
  interval_cases e <;> simp

theorem owner_dest (h : ∀ t < 1024, f t < 8) (t : ℕ) (ht : t < 1024) : owner f (dest f t / 128) = f t :=
  owner_eq (h t ht) (dest_div t ht).1 (dest_div t ht).2

theorem owner_lt (f : ℕ → ℕ) (j : ℕ) : owner f j < 8 := by
  have : owner f j ≤ ∑ k ∈ Finset.range 7, 1 := Finset.sum_le_sum fun k _ => by split <;> omega
  simp at this; omega

/-- Token `t`'s row within its expert's blocks is its count, below the expert's full count. -/
theorem dest_row (t : ℕ) (ht : t < 1024) :
    dest f t = 128 * off f (f t) + cnt f (f t) t ∧ cnt f (f t) t < cnt f (f t) 1024 := ⟨rfl, cnt_lt f ht⟩

/-! ## The kernel's sums -/

/-- The kernel's histogram, sixteen tokens a trip, lane by lane, then across the lanes, is the count. -/
theorem cnt_lanes (f : ℕ → ℕ) (e K : ℕ) :
    (∑ l ∈ Finset.range 16, ∑ k ∈ Finset.range K, if f (16 * k + l) = e then 1 else 0) = cnt f e (16 * K) := by
  induction K with
  | zero => simp [cnt_zero]
  | succ K ih =>
    simp only [Finset.sum_range_succ _ K, Finset.sum_add_distrib]
    rw [ih, show 16 * (K + 1) = 16 * K + 16 by ring, cnt_add]

/-- The same with only the trips below `B` counted. -/
theorem cnt_lanes_below (f : ℕ → ℕ) (e B K : ℕ) (hB : B ≤ K) :
    (∑ l ∈ Finset.range 16, ∑ k ∈ Finset.range K, (if f (16 * k + l) = e then 1 else 0) * (if k < B then 1 else 0)) = cnt f e (16 * B) := by
  rw [← cnt_lanes]
  refine Finset.sum_congr rfl fun l _ => ?_
  obtain ⟨n, rfl⟩ := Nat.exists_eq_add_of_le hB
  rw [Finset.sum_range_add]
  have h2 : (∑ k ∈ Finset.range n, (if f (16 * (B + k) + l) = e then 1 else 0) * (if B + k < B then 1 else 0)) = 0 :=
    Finset.sum_eq_zero fun k _ => by rw [if_neg (show ¬ B + k < B by omega), mul_zero]
  rw [h2, add_zero]
  exact Finset.sum_congr rfl fun k hk => by rw [if_pos (Finset.mem_range.mp hk), mul_one]

/-- A token's destination from its tile's base: the tokens of the tile before it counted on top. -/
theorem dest_base (f : ℕ → ℕ) (n l : ℕ) :
    128 * off f (f (n + l)) + cnt f (f (n + l)) n + (∑ j ∈ Finset.range l, if f (n + j) = f (n + l) then 1 else 0) = dest f (n + l) := by
  unfold dest; rw [cnt_add]; ring

end Cert.Proof.Spec

end
-- ==== Proof.Base.lean ====
/-
  What the launch theorem needs of the program after the gate: its labels and ghost state, the arrays the two SparseCore
  calls move, the words each of the thirty-two tasks of a call holds, and what each call leaves in them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.SparseCore.Threads
public import Idealize.ShloMosaic.Lib.StableHlo.Run
public import Idealize.ShloMosaic.Lib.StableHlo.RunHlo
public import Idealize.ShloMosaic.Lib.Pipeline.Value
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Spec

@[expose] public section

noncomputable section

namespace Cert.Proof.Base

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 2 := sc (F := F)
theorem nSub_eq [FloatOps F] (q : Fin 2) : (K (F := F)).nSub q = 16 := match q with | 0 => rfl | 1 => rfl
theorem nCore_eq [FloatOps F] (q : Fin 2) : (K (F := F)).nCore q = 2 := match q with | 0 => rfl | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, (1 : Counters)))))

/-! ## The arrays of the two calls -/

abbrev iLoc (d : Dev nD) : Loc nD τ sig := (SparseCore.T d).loc main_v2
abbrev tLoc (d : Dev nD) : Loc nD τ sig := (SparseCore.T d).loc main_v3
abbrev pLoc (d : Dev nD) : Loc nD τ sig := (SparseCore.T d).loc main_v4_0
abbrev dLoc (d : Dev nD) : Loc nD τ sig := (SparseCore.T d).loc main_v4_1
abbrev bLoc (d : Dev nD) : Loc nD τ sig := (SparseCore.T d).loc main_v4_2
abbrev xLoc (d : Dev nD) : Loc nD τ sig := (SparseCore.T d).loc main_v13
abbrev oLoc (d : Dev nD) : Loc nD τ sig := (SparseCore.T d).loc main_v14

/-- The number of the task of SparseCore `c`, subcore `s`. -/
abbrev wid (c : Fin 2) (s : Fin 16) : ℕ := c.val + 2 * s.val

theorem wid_lt (c : Fin 2) (s : Fin 16) : wid c s < 32 := by have := c.isLt; have := s.isLt; unfold wid; omega

/-- Over the tasks core by core is over the tasks by number. -/
theorem bigSep_wid (Φ : ℕ → sProp 𝕄) :
    (bigSep Finset.univ fun c : Fin 2 => bigSep Finset.univ fun s : Fin 16 => Φ (wid c s)) = bigSep Finset.univ fun w : Fin 32 => Φ w.val := by
  rw [← bigSep_univ_prod (fun x : Fin 2 × Fin 16 => Φ (wid x.1 x.2)),
    bigSep_univ_equiv ((Equiv.prodComm (Fin 2) (Fin 16)).trans finProdFinEquiv) (fun w : Fin (16 * 2) => Φ w.val)]
  exact bigSep_congr fun x _ => congrArg Φ rfl

/-! ### Read shares: task `w` reads with the left half of what the tasks before it left -/

def rest (q : PosShare TreeShare) : ℕ → PosShare TreeShare
  | 0 => q
  | n + 1 => (rest q n).right
def part (q : PosShare TreeShare) (n : ℕ) : PosShare TreeShare := (rest q n).left

theorem sep_turn (A B C : sProp 𝕄) : iprop((A ∗ B) ∗ C) ⊢ iprop(B ∗ A ∗ C) := by
  iintro ⟨⟨H1, H2⟩, H3⟩
  isplitl [H2]; · iexact H2
  isplitl [H1] <;> iassumption
theorem sep_turn_back (A B C : sProp 𝕄) : iprop(B ∗ A ∗ C) ⊢ iprop((A ∗ B) ∗ C) := by
  iintro ⟨H2, H1, H3⟩
  isplitl [H1 H2]; · isplitl [H1] <;> iassumption
  iexact H3

theorem share_split (ℓ : Loc nD τ sig) (I : Finset (Idx ℓ)) (f : Buf (Elt F) ℓ) (q : PosShare TreeShare) (n : ℕ) :
    (ℓ ↦[I]{q} f : sProp 𝕄) = iprop((ℓ ↦[I]{rest q n} f) ∗ bigSep Finset.univ fun w : Fin n => ℓ ↦[I]{part q w.val} f) := by
  induction n with
  | zero =>
    rw [show (Finset.univ : Finset (Fin 0)) = ∅ from rfl, bigSep_empty]
    exact (equiv_iff.mp sep_emp).symm
  | succ n ih =>
    rw [Fin.univ_castSuccEmb, Finset.cons_eq_insert, SparseCore.bigSep_insert' (by simp), bigSep_map, ih,
      show (ℓ ↦[I]{rest q n} f : sProp 𝕄) = iprop((ℓ ↦[I]{part q n} f) ∗ ℓ ↦[I]{rest q (n + 1)} f) from
        equiv_iff.mp ⟨(pointsTo_share (PosShare.mem_left_op_right (rest q n))).1, (pointsTo_share (PosShare.mem_left_op_right (rest q n))).2⟩]
    simp only [Fin.coe_castSuccEmb, Fin.val_last, Fin.val_castSucc]
    exact equiv_iff.mp ⟨sep_turn _ _ _, sep_turn_back _ _ _⟩

/-! ### Index tuples -/

def ix1 {n : ℕ} (t : Fin n) : (⟨1, ![n]⟩ : Shape).Idx := fun | ⟨0, _⟩ => t
def ix3 {a b c : ℕ} (i : Fin a) (j : Fin b) (k : Fin c) : (⟨3, ![a, b, c]⟩ : Shape).Idx := fun | ⟨0, _⟩ => i | ⟨1, _⟩ => j | ⟨2, _⟩ => k

/-! ### What the dispatch reads and leaves -/

/-- The expert of token `t`, from the flat index array. -/
def fOf (cI : S1024.Idx → BitVec 32) (t : ℕ) : ℕ := if h : t < 1024 then (cI (ix1 ⟨t, h⟩)).toNat else 0
/-- The place of each token. -/
def Dst (f : ℕ → ℕ) : S1024.Idx → BitVec 32 := fun i => BitVec.ofNat 32 (dest f (i 0).val)
/-- The table: each expert's first block, the number of blocks used in lane 8, sixteen in the lanes above; then each expert's count. -/
def Bsx (f : ℕ → ℕ) : S32.Idx → BitVec 32 := fun i =>
  BitVec.ofNat 32 (if (i 0).val < 16 then (if (i 0).val ≤ 8 then off f (i 0).val else 16) else if (i 0).val < 24 then cnt f ((i 0).val - 16) 1024 else 0)
open Classical in
/-- The padded tokens: each token's row at its place, the other rows as they were. -/
def Xpad {α : Type} (f : ℕ → ℕ) (tok : S1024x4x128.Idx → α) (m₀ : S2048x4x128.Idx → α) : S2048x4x128.Idx → α := fun i =>
  if h : ∃ t : Fin 1024, dest f t.val = (i 0).val then tok (ix3 (Classical.choose h) (i 1) (i 2)) else m₀ i

/-- The tokens of task `w`, their half `h` of the columns. -/
def tokSet (w h : ℕ) : Finset S1024x4x128.Idx := Finset.univ.filter fun i => (i 0).val / 32 = w ∧ (i 1).val / 2 = h
open Classical in
/-- The rows task `w` writes, their half `h` of the columns. -/
def rowSet (f : ℕ → ℕ) (w h : ℕ) : Finset S2048x4x128.Idx :=
  Finset.univ.filter fun i => (∃ t : Fin 1024, t.val / 32 = w ∧ dest f t.val = (i 0).val) ∧ (i 1).val / 2 = h
def wordSet (w : ℕ) : Finset S1024.Idx := Finset.univ.filter fun i => (i 0).val / 32 = w
/-- The first task alone writes the table. -/
def bsSet (w : ℕ) : Finset S32.Idx := Finset.univ.filter fun _ => w = 0
/-- Piece `k` of task `w` of the copy. -/
def pieceSet (w k : ℕ) : Finset S4194304.Idx := Finset.univ.filter fun i => (i 0).val / 65536 = w * 2 + k

variable [FloatOps F] (m : (ℓ : Loc nD τ sig) → Buf (Elt F) ℓ)

/-- The tokens in token order: the feature map with its channels last. -/
def tokM (d : Dev nD) : S1024x512.Idx → Elt F .f32 :=
  shapeCast S1024x512 (transpose S4x16x16x512 [0, 2, 3, 1] (m ((SparseCore.T d).loc main_arg5) : S4x512x16x16.Idx → Elt F .f32)
    transposes_S4x512x16x16_S4x16x16x512_0_2_3_1) shapeCasts_S4x16x16x512_S1024x512
def cI (d : Dev nD) : S1024.Idx → BitVec 32 := shapeCast S1024 (m ((SparseCore.T d).loc main_arg0) : S8x128.Idx → BitVec 32) shapeCasts_S8x128_S1024
def cT (d : Dev nD) : S1024x4x128.Idx → Elt F .f32 := shapeCast S1024x4x128 (tokM m d) shapeCasts_S1024x512_S1024x4x128
abbrev fM (d : Dev nD) : ℕ → ℕ := fOf (cI m d)
def Xp (d : Dev nD) : S2048x4x128.Idx → Elt F .f32 := Xpad (fM m d) (cT m d) (m (pLoc d))
/-- The flat first result. -/
def X (d : Dev nD) : S4194304.Idx → Elt F .f32 := shapeCast S4194304 (m ((SparseCore.T d).loc main_arg2) : S4x64x128x128.Idx → Elt F .f32) shapeCasts_S4x64x128x128_S4194304

/-- What a task of the dispatch holds: its share of the index array, its tokens, the rows it writes, its words of the places,
    and for the first task the table. -/
abbrev res0 (d : Dev nD) (p : Buf (Elt F) (pLoc d)) (dd : Buf (Elt F) (dLoc d)) (b : Buf (Elt F) (bLoc d)) (w : ℕ) : sProp 𝕄 :=
  iprop((iLoc d ↦{part fullShare w} (cI m d : S1024.Idx → Elt F .i32)) ∗ (tLoc d ↦[tokSet w 0]{fullShare} cT m d) ∗ (tLoc d ↦[tokSet w 1]{fullShare} cT m d)
    ∗ (pLoc d ↦[rowSet (fM m d) w 0]{fullShare} p) ∗ (pLoc d ↦[rowSet (fM m d) w 1]{fullShare} p)
    ∗ (dLoc d ↦[wordSet w]{fullShare} dd) ∗ (bLoc d ↦[bsSet w]{fullShare} b))
/-- What a task of the copy holds: its two pieces of the source and of the result. -/
abbrev res1 (d : Dev nD) (o : Buf (Elt F) (oLoc d)) (w : ℕ) : sProp 𝕄 :=
  iprop((xLoc d ↦[pieceSet w (0 : Fin 2).val]{fullShare} X m d) ∗ (xLoc d ↦[pieceSet w (1 : Fin 2).val]{fullShare} X m d)
    ∗ (oLoc d ↦[pieceSet w (0 : Fin 2).val]{fullShare} o) ∗ (oLoc d ↦[pieceSet w (1 : Fin 2).val]{fullShare} o))

/-- Before and after call `q`, task `w`. -/
abbrev pre' (q : Fin 2) (d : Dev nD) (w : ℕ) : sProp 𝕄 := match q with
  | 0 => res0 m d (m (pLoc d)) (m (dLoc d)) (m (bLoc d)) w
  | 1 => res1 m d (m (oLoc d)) w
abbrev post' (q : Fin 2) (d : Dev nD) (w : ℕ) : sProp 𝕄 := match q with
  | 0 => res0 m d (Xp m d) (Dst (fM m d) : S1024.Idx → Elt F .i32) (Bsx (fM m d) : S32.Idx → Elt F .i32) w
  | 1 => res1 m d (X m d) w

instance pre_storable (q : Fin 2) (d : Dev nD) (w : ℕ) : BI.Storable (upEmb : UEmb _ 𝕄) (pre' m q d w) := match q with
  | 0 => (inferInstance : BI.Storable (upEmb : UEmb _ 𝕄) (res0 m d (m (pLoc d)) (m (dLoc d)) (m (bLoc d)) w))
  | 1 => (inferInstance : BI.Storable (upEmb : UEmb _ 𝕄) (res1 m d (m (oLoc d)) w))
instance post_storable (q : Fin 2) (d : Dev nD) (w : ℕ) : BI.Storable (upEmb : UEmb _ 𝕄) (post' m q d w) := match q with
  | 0 => (inferInstance : BI.Storable (upEmb : UEmb _ 𝕄) (res0 m d (Xp m d) (Dst (fM m d) : S1024.Idx → Elt F .i32) (Bsx (fM m d) : S32.Idx → Elt F .i32) w))
  | 1 => (inferInstance : BI.Storable (upEmb : UEmb _ 𝕄) (res1 m d (X m d) w))

/-- The calls deal each task what it holds before, and take back what it holds after. -/
def P : (K (F := F)).Pay (nD := nD) (Val := Elt F) (Name := ℕ) (U := UU) where
  st := fun q d c => bigSep Finset.univ fun s : Fin ((K (F := F)).nSub q) => pre' m q d (wid (Fin.cast (nCore_eq q) c) (Fin.cast (nSub_eq q) s))
  dn := fun q d c => bigSep Finset.univ fun s : Fin ((K (F := F)).nSub q) => post' m q d (wid (Fin.cast (nCore_eq q) c) (Fin.cast (nSub_eq q) s))
  go := fun q d c i => pre' m q d (wid (Fin.cast (nCore_eq q) c) (Fin.cast (nSub_eq q) i))
  td := fun q d c i => post' m q d (wid (Fin.cast (nCore_eq q) c) (Fin.cast (nSub_eq q) i))
  x := fun _ _ => iprop(emp)

instance P_storable : (P (F := F) m).IsStorable where
  st q d c := by unfold P; infer_instance
  dn q d c := by unfold P; infer_instance
  go q d c i := by unfold P; infer_instance
  td q d c i := by unfold P; infer_instance

theorem vecSplit (q : Fin 2) : (K (F := F)).VecSplit' (P m) q := by
  intro d c
  show (P m).st q d c ⊢ |={Set.univ}=> iprop((P m).st q d c ∗ ((P m).dn q d c -∗ (P m).dn q d c))
  iintro H; imodintro
  isplitl [H]; · iexact H
  iintro H; iexact H

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Base

end
-- ==== Proof.Blocks.lean ====
/-
  The two TensorCore bodies of the program after the gate, each run once at symbolic operands: the expert body at one
  block of 128 rows, and the epilogue body; what each leaves in the array it writes.
-/
module

public import proofs.«01_k».proof.Proof.Base

@[expose] public section

noncomputable section

namespace Cert.Proof.Blocks

open Cert.KernelIdeal Cert.KernelIdeal.Gen
open Cert.Proof.Spec Cert.Proof.Base

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [FloatOps F]

local notation "𝕄" => MT nD τ sig (HIx 2) (Elt F) ℕ UU ℕ

/-- A memref's whole buffer on core `c`, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A two-axis index. -/
def ix2 {a b : ℕ} (i : Fin a) (j : Fin b) : (⟨2, ![a, b]⟩ : Shape).Idx := fun | ⟨0, _⟩ => i | ⟨1, _⟩ => j

theorem zero2 : (![0, 0] : Fin 2 → ℕ) = fun _ => 0 := by funext a; fin_cases a <;> rfl

theorem zero3 : (![0, 0, 0] : Fin 3 → ℕ) = fun _ => 0 := by funext a; fin_cases a <;> rfl

/-- One store of the whole array covers it. -/
theorem cover2 {n k : ℕ} {e : EltTy} (inb : ∀ a, (![0, 0] : Fin 2 → ℕ) a + (⟨2, ![n, k]⟩ : Shape).size a ≤ (⟨2, ![n, k]⟩ : Shape).size a)
    (w : (⟨2, ![n, k]⟩ : Shape).Idx → Elt F e) (y : (⟨2, ![n, k]⟩ : Shape).Idx) :
    ∃ p ∈ [(⟨Rect.unit ![0, 0] (⟨2, ![n, k]⟩ : Shape).size inb, w⟩ : View.Piece (Elt F) (⟨2, ![n, k]⟩ : Shape) e)], y ∈ p.1.set :=
  ⟨_, List.mem_singleton_self _, (Rect.mem_set_unit (inb := inb)).mpr fun a => ⟨by rw [zero2]; exact Nat.zero_le _, by rw [zero2]; simp⟩⟩

theorem bit_ne (b : BitVec 1) : IntOp.cmpi .ne (BitVec.setWidth 32 b) 0#32 = b := by
  revert b; decide

/-- The two guards of the expert body exclude each other, -/
theorem cond_not (i : grid1.Coords) (w : BitVec 32) (h : k1_cond1 i w = 1#1) : ¬ k1_cond2 i w = 1#1 := by
  unfold k1_cond1 at h; unfold k1_cond2
  simp only [Scalar.cmpi, Scalar.extui, bit_ne] at h ⊢
  simp only [IntOp.cmpi] at h ⊢
  generalize BitVec.ofNat 32 (i 0).val = a at h ⊢
  rw [BitVec.slt_eq_decide] at h
  rw [BitVec.sle_eq_decide]
  by_cases hs : a.toInt < w.toInt
  · rw [decide_eq_false (Int.not_le.mpr hs)]; decide
  · rw [decide_eq_false hs] at h; exact absurd h (by decide)

/-- and one of them holds. -/
theorem not_cond (i : grid1.Coords) (w : BitVec 32) (h : ¬ k1_cond1 i w = 1#1) : k1_cond2 i w = 1#1 := by
  unfold k1_cond1 at h; unfold k1_cond2
  simp only [Scalar.cmpi, Scalar.extui, bit_ne] at h ⊢
  simp only [IntOp.cmpi] at h ⊢
  generalize BitVec.ofNat 32 (i 0).val = a at h ⊢
  rw [BitVec.slt_eq_decide] at h
  rw [BitVec.sle_eq_decide]
  by_cases hs : a.toInt < w.toInt
  · rw [decide_eq_true hs] at h; exact absurd rfl h
  · rw [decide_eq_true (Int.not_lt.mp hs)]; rfl

/-- The epilogue body: what it leaves is the sum over the blocks of rows, scaled, plus the input. -/
theorem epilogue_run (c : Dev nD)
    (M0 : Memref sig .tc .vmem S2048x512 .bf16) (h0 : M0.IsWhole) (M1 : Memref sig .tc .vmem S1x1024 .i32) (h1 : M1.IsWhole)
    (M2 : Memref sig .tc .vmem S1024x1 .f32) (h2 : M2.IsWhole) (M3 : Memref sig .tc .vmem S1024x512 .f32) (h3 : M3.IsWhole)
    (M4 : Memref sig .tc .vmem S1024x512 .f32) (h4 : M4.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) (E : Set ℕ) (Q : PUnit → sProp 𝕄) :
    iprop(pt c M0 f0 ∗ pt c M1 f1 ∗ pt c M2 f2 ∗ pt c M3 f3 ∗ pt c M4 f4
      ∗ (iprop(pt c M0 f0 ∗ pt c M1 f1 ∗ pt c M2 f2 ∗ pt c M3 f3
          ∗ ∃ g, ⌜M4.view.read (Elt F) g = k2_pay1 (M1.view.read (Elt F) f1) (M0.view.read (Elt F) f0) (M2.view.read (Elt F) f2) (M3.view.read (Elt F) f3)⌝ ∗ pt c M4 g) -∗ Q ⟨⟩))
    ⊢ wp frame (wpE (defs₀ (F := F)) 𝒱₀ c none) E (cc2__epilogue_body M0 h0 M1 h1 M2 h2 M3 h3 M4 h4) Q := by
  rw [cc2__epilogue_body_eq_skeleton]
  unfold cc2__epilogue_body_skel
  iintro ⟨H0, H1, H2, H3, H4, Hk⟩
  sl_exec
  sl_step
  iapply Hk
  isplitl [H0]; · iexact H0
  isplitl [H1]; · iexact H1
  isplitl [H2]; · iexact H2
  isplitl [H3]; · iexact H3
  iexists _
  isplitr
  swap
  · iexact H4
  · ipureintro
    rw [View.read_writes_eq_canon (v := M4.view) _ _ (fun y => cover2 _ _ y), View.canon_unit_zero zero2,
      View.readAt_eq_ld, View.ld_unit_zero zero2, View.readAt_eq_ld, View.ld_unit_zero zero2, View.readAt_eq_ld, View.ld_unit_zero zero2,
      View.readAt_eq_ld, View.ld_unit_zero zero2]

/-- One of eight words, by number, as the body picks it: the sum of eight selects. -/
def pick8 (k : BitVec 32) (w : Fin 8 → BitVec 32) : BitVec 32 :=
  Scalar.addi (Scalar.addi (Scalar.addi (Scalar.addi (Scalar.addi (Scalar.addi (Scalar.addi (Scalar.addi 0#32
    (Scalar.select (Scalar.cmpi .eq k 0#32) (w 0) 0#32)) (Scalar.select (Scalar.cmpi .eq k 1#32) (w 1) 0#32))
    (Scalar.select (Scalar.cmpi .eq k 2#32) (w 2) 0#32)) (Scalar.select (Scalar.cmpi .eq k 3#32) (w 3) 0#32))
    (Scalar.select (Scalar.cmpi .eq k 4#32) (w 4) 0#32)) (Scalar.select (Scalar.cmpi .eq k 5#32) (w 5) 0#32))
    (Scalar.select (Scalar.cmpi .eq k 6#32) (w 6) 0#32)) (Scalar.select (Scalar.cmpi .eq k 7#32) (w 7) 0#32)

theorem inb_word (k : Fin 32) : ∀ a, (![k.val] : Fin 1 → ℕ) a + S1.size a ≤ S32.size a := fun a => by
  fin_cases a; show k.val + 1 ≤ 32; omega

/-- A word of the table, by number. -/
def wd (T : S32.Idx → BitVec 32) (k : Fin 32) : BitVec 32 :=
  T ((Rect.unit (s := S32) ![k.val] S1.size (inb_word k)).emb (Shape.Idx.first (by show 0 < S1.numel; rw [Gen.numel1_S1]; exact Nat.one_pos)))

theorem wd_eq (T : S32.Idx → BitVec 32) (k : Fin 32) : wd T k = T (Base.ix1 k) := by
  show T _ = T _
  congr 1
  funext a
  fin_cases a
  exact Fin.ext (by show k.val + 1 * 0 = k.val; omega)

/-- The expert of block `j`: how many of the words 1 to 7 of the table are at most `j`. -/
def own (j : BitVec 32) (T : S32.Idx → BitVec 32) : BitVec 32 :=
  Scalar.addi (Scalar.addi (Scalar.addi (Scalar.addi (Scalar.addi (Scalar.addi (Scalar.addi 0#32
    (Scalar.select (Scalar.cmpi .sge j (wd T 1)) 1#32 0#32)) (Scalar.select (Scalar.cmpi .sge j (wd T 2)) 1#32 0#32))
    (Scalar.select (Scalar.cmpi .sge j (wd T 3)) 1#32 0#32)) (Scalar.select (Scalar.cmpi .sge j (wd T 4)) 1#32 0#32))
    (Scalar.select (Scalar.cmpi .sge j (wd T 5)) 1#32 0#32)) (Scalar.select (Scalar.cmpi .sge j (wd T 6)) 1#32 0#32))
    (Scalar.select (Scalar.cmpi .sge j (wd T 7)) 1#32 0#32)

/-- Row `o` of an array of eight rows. -/
def row (o : BitVec 32) (B : Vec F S8x512 .f32) : Vec F S1x512 .f32 :=
  fun x => B (ix2 ⟨o.toNat % 8, Nat.mod_lt _ (by decide)⟩ (x 1))

theorem ld_row (o : BitVec 32) (B : Vec F S8x512 .f32) (inb : ∀ a, (![o.toNat, 0] : Fin 2 → ℕ) a + S1x512.size a ≤ S8x512.size a) :
    View.ld (Val := Elt F) (e' := .f32) B (Rect.unit (s := S8x512) ![o.toNat, 0] S1x512.size inb) = row o B := by
  have h0 : o.toNat + 1 ≤ 8 := inb 0
  funext x
  show B _ = B _
  congr 1
  funext a
  fin_cases a
  · have hx : (x 0).val < 1 := (x 0).isLt
    exact Fin.ext (by show o.toNat + 1 * (x 0).val = o.toNat % 8; omega)
  · exact Fin.ext (by show 0 + 1 * (x 1).val = (x 1).val; omega)

/-- What the expert body writes for block `i`: the expert's two layers on the block's rows, the rows past the
    expert's last zero; all zero in a block that is not used. -/
def Yblk (i : grid1.Coords) (T : S32.Idx → BitVec 32) (X : Vec F S128x512 .f32) (W1 : Vec F S1x512x512 .f32) (B1 : Vec F S8x512 .f32)
    (W2 : Vec F S1x512x512 .f32) (B2 : Vec F S8x512 .f32) : FVec F S128x512 .bf16 :=
  if k1_cond1 i (wd T 8) = 1#1 then
    let o := own (BitVec.ofNat 32 (i 0).val) T
    truncf .bf16 (select (broadcastTo S128x512 (shapeCast S128x1
        (cmpi .slt (addi (iota .tc S128x1 32 [0] Gen.iota_S128x1_d0_w32) (broadcast S128x1 (Scalar.muli (Scalar.subi (BitVec.ofNat 32 (i 0).val)
            (pick8 o fun k => wd T ⟨k.val, by omega⟩)) 128#32)))
          (broadcast S128x1 (pick8 o fun k => wd T ⟨k.val + 16, by omega⟩))) Gen.shapeCasts_S128x1_S128x1) Gen.broadcasts_S128x1_S128x512)
      (k1_pay4 (k1_pay3 X) W1 (row o B1) W2 (row o B2)) (broadcast S128x512 (Scalar.ofBits .f32 0x00000000#32))) Gen.bitsLt_bf16_f32
  else k1_pay2

/-- The expert body at any operands. -/
theorem experts_run (c : Dev nD) (i : grid1.Coords)
    (M1 : Memref sig .tc .smem S32 .i32) (h1 : M1.IsWhole) (M2 : Memref sig .tc .vmem S128x512 .f32) (h2 : M2.IsWhole)
    (M3 : Memref sig .tc .vmem S1x512x512 .f32) (h3 : M3.IsWhole) (M4 : Memref sig .tc .vmem S8x512 .f32) (h4 : M4.IsWhole)
    (M5 : Memref sig .tc .vmem S1x512x512 .f32) (h5 : M5.IsWhole) (M6 : Memref sig .tc .vmem S8x512 .f32) (h6 : M6.IsWhole)
    (M7 : Memref sig .tc .vmem S128x512 .bf16) (h7 : M7.IsWhole)
    (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) (f6 : Buf (Elt F) (M6.view.loc (c : Thread nD τ)))
    (f7 : Buf (Elt F) (M7.view.loc (c : Thread nD τ)))
    (E : Set ℕ) (Q : PUnit.{1} → sProp 𝕄) :
    iprop(pt c M1 f1 ∗ pt c M2 f2 ∗ pt c M3 f3 ∗ pt c M4 f4 ∗ pt c M5 f5 ∗ pt c M6 f6 ∗ pt c M7 f7 ∗
        (iprop(pt c M1 f1 ∗ pt c M2 f2 ∗ pt c M3 f3 ∗ pt c M4 f4 ∗ pt c M5 f5 ∗ pt c M6 f6 ∗
          ∃ g, ⌜M7.view.read (Elt F) g = Yblk i (M1.view.read (Elt F) f1) (M2.view.read (Elt F) f2) (M3.view.read (Elt F) f3)
              (M4.view.read (Elt F) f4) (M5.view.read (Elt F) f5) (M6.view.read (Elt F) f6)⌝ ∗ pt c M7 g) -∗ Q ⟨⟩)) ⊢
      wp frame (wpE (defs₀ (F := F)) 𝒱₀ (c : Thread nD τ) none) E (cc1__experts_body i M1 h1 M2 h2 M3 h3 M4 h4 M5 h5 M6 h6 M7 h7) Q := by
  rw [cc1__experts_body_eq_skeleton]
  unfold cc1__experts_body_skel
  iintro ⟨H1, H2, H3, H4, H5, H6, H7, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  iexists _
  isplitr
  swap
  · iexact H7
  · ipureintro
    have hw : experts_run.sl.r c M1 f1 = wd (M1.view.read (Elt F) f1) 8 := by
      rfl
    unfold Yblk
    by_cases hc : k1_cond1 i (wd (M1.view.read (Elt F) f1) 8) = 1#1
    · have hc2 : ¬ k1_cond2 i (wd (M1.view.read (Elt F) f1) 8) = 1#1 := cond_not i _ hc
      have hc' := hc; rw [← hw] at hc'
      rw [dif_neg (by rw [hw]; exact hc2), dif_pos hc', if_pos hc]
      rw [View.read_writes_eq_canon (v := M7.view) _ _ (fun y => cover2 _ _ y), View.canon_unit_zero zero2]
      have e1 : experts_run.sl.v43 c i M1 M4 f1 f4 hc' = row (own (BitVec.ofNat 32 (i 0).val) (M1.view.read (Elt F) f1)) (M4.view.read (Elt F) f4) :=
        ld_row _ _ _
      have e2 : experts_run.sl.v65 c i M1 M6 f1 f6 hc' = row (own (BitVec.ofNat 32 (i 0).val) (M1.view.read (Elt F) f1)) (M6.view.read (Elt F) f6) :=
        ld_row _ _ _
      unfold experts_run.sl.r_11
      have e3 : experts_run.sl.r_8 c M2 f2 = k1_pay3 (M2.view.read (Elt F) f2) :=
        congrArg k1_pay3 (View.ld_unit_zero zero2 _ _)
      have e4 : experts_run.sl.r_9 c M3 f3 = M3.view.read (Elt F) f3 := View.ld_unit_zero zero3 _ _
      rw [e1, e2, e3, e4, View.readAt_eq_ld, View.ld_unit_zero zero3]
      rfl
    · have hc2 : k1_cond2 i (wd (M1.view.read (Elt F) f1) 8) = 1#1 := not_cond i _ hc
      rw [dif_pos (by rw [hw]; exact hc2), if_neg hc]
      rw [View.read_writes_eq_canon (v := M7.view) _ _ (fun y => cover2 _ _ y), View.canon_unit_zero zero2]

end Cert.Proof.Blocks

end
-- ==== Proof.Adm.lean ====
/-
  The routing tables the expert region may be entered with: every table is admissible.
-/
module

public import proofs.«01_k».proof.Proof.Blocks

@[expose] public section

noncomputable section

namespace Cert.Proof.Adm

open Cert.KernelIdeal Cert.KernelIdeal.Gen
open Cert.Proof.Spec Cert.Proof.Base Cert.Proof.Blocks

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [FloatOps F]

local notation "𝕄" => MT nD τ sig (HIx 2) (Elt F) ℕ UU ℕ

/-! ## The tables the first region may be entered with -/

/-- Seven choices of one or zero add up to at most seven. -/
theorem sum_bits : ∀ b1 b2 b3 b4 b5 b6 b7 : BitVec 1,
    (Scalar.addi (Scalar.addi (Scalar.addi (Scalar.addi (Scalar.addi (Scalar.addi (Scalar.addi 0#32
      (Scalar.select b1 1#32 0#32)) (Scalar.select b2 1#32 0#32)) (Scalar.select b3 1#32 0#32)) (Scalar.select b4 1#32 0#32))
      (Scalar.select b5 1#32 0#32)) (Scalar.select b6 1#32 0#32)) (Scalar.select b7 1#32 0#32) : BitVec 32).toNat < 8 := by
  decide

/-- A block's expert number is below 8, whatever the table. -/
theorem own_lt (j : BitVec 32) (T : S32.Idx → BitVec 32) : (own j T).toNat < 8 := sum_bits _ _ _ _ _ _ _

/-- The table as the region reads it. -/
def tbl (T : S32.Idx → BitVec 32) : pre1.Contents (Elt F) := fun | 0 => T

theorem tr1_eq (T : S32.Idx → BitVec 32) (i : grid1.Coords) : ix1 (F := F) (tbl T) 1 i = ![(own (BitVec.ofNat 32 (i 0).val) T).toNat, 0, 0] := rfl

theorem tr3_eq (T : S32.Idx → BitVec 32) (i : grid1.Coords) : ix1 (F := F) (tbl T) 3 i = ![(own (BitVec.ofNat 32 (i 0).val) T).toNat, 0, 0] := rfl

theorem block_in (n : ℕ) (h : n < 8) (v : Fin 3 → ℕ) (e : v = ![n, 0, 0]) (a : Fin 3) : (v a + 1) * S1x512x512.size a ≤ S8x512x512.size a := by
  subst e
  fin_cases a
  · show (n + 1) * 1 ≤ 8; omega
  · show (0 + 1) * 512 ≤ 512; omega
  · show (0 + 1) * 512 ≤ 512; omega

/-- Every table is admissible. -/
theorem ok (T : S32.Idx → BitVec 32) : ok1 (F := F) (tbl T) :=
  ⟨fun i => ⟨block_in _ (own_lt _ T) _ (tr1_eq T i), Or.inl rfl⟩, fun i => ⟨block_in _ (own_lt _ T) _ (tr3_eq T i), Or.inl rfl⟩⟩

/-- The table `T`, and the second region's none. -/
def adm (T : S32.Idx → BitVec 32) : (p : Fin 2) → (pcfgs (F := F) p).Adm
  | ⟨0, _⟩ => ⟨tbl T, ok T⟩
  | ⟨1, _⟩ => ⟨fun k => k.elim0, trivial⟩

end Cert.Proof.Adm
-- ==== Proof.Dats.lean ====
/-
  The two TensorCore regions' proof data, at symbolic entry contents, and their bodies' obligations.
-/
module

public import proofs.«01_k».proof.Proof.Adm
public import proofs.«01_k».proof.Proof.Gen.KernelIdeal.Launch
public import Idealize.ShloMosaic.Lib.Pipeline.RegionArraysTS

@[expose] public section

noncomputable section

namespace Cert.Proof.Dats

open Cert.KernelIdeal Cert.KernelIdeal.Gen
open Cert.Proof.Spec Cert.Proof.Base Cert.Proof.Blocks Cert.Proof.Adm

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [FloatOps F]

local notation "𝕄" => MT nD τ sig (HIx 2) (Elt F) ℕ UU ℕ

open Idealize.ShloMosaic.Pipeline (Dat Cfg Window BodyObligation pin arrRef)

variable (T : S32.Idx → BitVec 32) (W : Valuation τ sig (Elt F))

/-- The pairs a wait may have recorded while the regions run: those of the first call and the regions' own. -/
def recd (c : Dev nD) : Set (SemLoc sig × HIx 2) :=
  {q | (K (F := F)).lev ((c : Thread nD τ), q.1) q.2 ≤ 8 * SparseCore.Cfg.Blocks.fst 2 2 1}

/-- Window `w`'s array at the region's entry. -/
abbrev ent0 (w : Fin 6) (c : Dev nD) : Buf (Elt F) ((((cfg1 (F := F) (adm T 0)).win w).arr.view.loc (c : Thread nD τ))) :=
  W (Proc.devRef .tc (arrRef (cfg1 (F := F) (adm T 0)).spec w))

/-- The block of window `w`'s array at point `t`. -/
abbrev blk0 (w : Fin 6) (t : Fin 16) : (((cfg1 (F := F) (adm T 0)).win w).xblock (grid1.coords t)).Idx → Elt F ((cfg1 (F := F) (adm T 0)).win w).elt :=
  (((cfg1 (F := F) (adm T 0)).win w).blk t).view.read (Elt F) (W (Proc.devRef .tc (arrRef (cfg1 (F := F) (adm T 0)).spec w)))

/-- What the expert body leaves at point `t`. -/
def y0 (t : Fin 16) : FVec F S128x512 .bf16 :=
  Yblk (grid1.coords t) T (blk0 T W 0 t) (blk0 T W 1 t) (blk0 T W 2 t) (blk0 T W 3 t) (blk0 T W 4 t)

/-- The expert region's data on core `c`. -/
def dat0 (c : Dev nD) : Dat τ (Elt F) (HIx 2) ℕ UU ℕ (pin (pcfgs (F := F)) (adm T) 0) c where
  A w := W (Proc.devRef .tc (arrRef (cfg1 (F := F) (adm T 0)).spec w))
  after w t := match w with
    | ⟨0, _⟩ => blk0 T W 0 t
    | ⟨1, _⟩ => blk0 T W 1 t
    | ⟨2, _⟩ => blk0 T W 2 t
    | ⟨3, _⟩ => blk0 T W 3 t
    | ⟨4, _⟩ => blk0 T W 4 t
    | ⟨5, _⟩ => y0 T W t
  Φ _ := iprop(Pipeline.scopedRest (Ix := HIx 2) (Name := ℕ) (U := UU) (Lvl := ℕ) (Val := Elt F) spec1 c
    ∗ Pipeline.tablesAt pcfgs (adm T) 0 c)
  q _ := fullShare
  owed _ := (K (F := F)).Otc c 1
  recorded _ := recd (F := F) c

/-- The epilogue's blocks: the whole arrays. -/
abbrev blk1 (w : Fin 5) (t : Fin 1) : ((cfg2.win w).xblock (grid2.coords t)).Idx → Elt F (cfg2.win w).elt :=
  ((cfg2.win w).blk t).view.read (Elt F) (W (Proc.devRef .tc (arrRef cfg2.spec w)))

/-- What the epilogue leaves. -/
def y1 (t : Fin 1) : FVec F S1024x512 .f32 := k2_pay1 (blk1 W 1 t) (blk1 W 0 t) (blk1 W 2 t) (blk1 W 3 t)

/-- The epilogue region's data on core `c`. -/
def dat1 (c : Dev nD) : Dat τ (Elt F) (HIx 2) ℕ UU ℕ (pin (pcfgs (F := F)) (adm T) 1) c where
  A w := W (Proc.devRef .tc (arrRef cfg2.spec w))
  after w t := match w with
    | ⟨0, _⟩ => blk1 W 0 t
    | ⟨1, _⟩ => blk1 W 1 t
    | ⟨2, _⟩ => blk1 W 2 t
    | ⟨3, _⟩ => blk1 W 3 t
    | ⟨4, _⟩ => y1 W t
  Φ _ := iprop(Pipeline.scopedRest (Ix := HIx 2) (Name := ℕ) (U := UU) (Lvl := ℕ) (Val := Elt F) spec2 c
    ∗ Pipeline.tablesAt pcfgs (adm T) 1 c)
  q _ := fullShare
  owed _ := (K (F := F)).Otc c 1
  recorded _ := recd (F := F) c

/-- Both regions' data: the first entered at `W`, the second at `W'`. -/
def pdats (W W' : Valuation τ sig (Elt F)) : (p : Fin 2) → (c : Dev nD) → Dat τ (Elt F) (HIx 2) ℕ UU ℕ (pin (pcfgs (F := F)) (adm T) p) c
  | ⟨0, _⟩ => dat0 T W
  | ⟨1, _⟩ => dat1 T W'

/-- The expert body always writes its block. -/
theorem live5 (i : grid1.Coords) (pf : pre1.Contents (Elt F)) : idle1 pf 5 i = false := by
  show (!(k1_cond1 i (pf.atD 0 ![8]) == 1#1) && !(k1_cond2 i (pf.atD 0 ![8]) == 1#1)) = false
  by_cases h : k1_cond1 i (pf.atD 0 ![8]) = 1#1
  · rw [h]; rfl
  · rw [not_cond i _ h]; simp

theorem live (i : grid1.Coords) (pf : pre1.Contents (Elt F)) : ∀ w, idle1 pf w i = false
  | ⟨0, _⟩ => rfl | ⟨1, _⟩ => rfl | ⟨2, _⟩ => rfl | ⟨3, _⟩ => rfl | ⟨4, _⟩ => rfl
  | ⟨5, _⟩ => live5 i pf

/-- A whole memref owned at `X` is its buffer held at some contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [show M.view.set = Finset.univ from h.set_eq_univ]

/-- Every input window's buffer holds its block when the expert body runs. -/
theorem before0 (c : Dev nD) (w : Fin 6) (hw : ((cfg1 (F := F) (adm T 0)).win w).isOut = false)
    (hkeep : ∀ t, ((cfg1 (F := F) (adm T 0)).win w).cut (grid1.coords t) ((dat0 T W c).after w t) = (dat0 T W c).blockOf w t) (t : Fin 16)
    (d : ((cfg1 (F := F) (adm T 0)).win w).block.Idx → Elt F ((cfg1 (F := F) (adm T 0)).win w).elt) :
    (dat0 T W c).before w t d = (dat0 T W c).fetched w t d :=
  Dat.before_in_eq_fetched (dat0 T W c) w hw (fun i => live i (tbl T) w) (fun _ _ _ => rfl) hkeep t d

/-- The expert region's table. -/
theorem tables0 (c : Dev nD) : (Pipeline.tablesAt (pcfgs (F := F)) (adm T) 0 c : sProp 𝕄) = pt c (Memref.whole main_v7) T := by
  show (bigSep (Finset.univ : Finset (Fin 1)) fun k => ((c.tc : Thread nD τ).loc (pre1.ref k)) ↦{fullShare} (tbl (F := F) T) k : sProp 𝕄) = _
  rw [show (Finset.univ : Finset (Fin 1)) = {0} from rfl, bigSep_singleton]
  rfl

/-- What holds between the expert region's points. -/
theorem phi0 (c : Dev nD) (t) : (dat0 T W c).Φ t = iprop(Pipeline.scopedRest spec1 c ∗ pt c (Memref.whole main_v7) T) := by
  dsimp only [dat0]; rw [tables0]

theorem bef0_0 (c : Dev nD) (t : Fin 16) (d) : (dat0 T W c).before 0 t d = blk0 T W 0 t := by
  exact (before0 T W c 0 rfl (fun t => by dsimp only [dat0]; rfl) t d).trans rfl

theorem bef0_1 (c : Dev nD) (t : Fin 16) (d) : (dat0 T W c).before 1 t d = blk0 T W 1 t := by
  exact (before0 T W c 1 rfl (fun t => by dsimp only [dat0]; rfl) t d).trans rfl

theorem bef0_2 (c : Dev nD) (t : Fin 16) (d) : (dat0 T W c).before 2 t d = blk0 T W 2 t := by
  exact (before0 T W c 2 rfl (fun t => by dsimp only [dat0]; rfl) t d).trans rfl

theorem bef0_3 (c : Dev nD) (t : Fin 16) (d) : (dat0 T W c).before 3 t d = blk0 T W 3 t := by
  exact (before0 T W c 3 rfl (fun t => by dsimp only [dat0]; rfl) t d).trans rfl

theorem bef0_4 (c : Dev nD) (t : Fin 16) (d) : (dat0 T W c).before 4 t d = blk0 T W 4 t := by
  exact (before0 T W c 4 rfl (fun t => by dsimp only [dat0]; rfl) t d).trans rfl

/-- No point of the expert region is idle. -/
theorem idle0 (w : Fin (pin (pcfgs (F := F)) (adm T) 0).W) (i) : (pin (pcfgs (F := F)) (adm T) 0).idle w i = false := live i (tbl T) w

/-- A memref's buffer at contents that read `X`, owned. -/
theorem own_of (c : Dev nD) {sp : Space} {S : Shape} {e : EltTy} (M : Memref sig .tc sp S e) (h : M.IsWhole) (X : S.Idx → Elt F e) (f)
    (hf : M.view.read (Elt F) f = X) : pt c M f ⊢ (owns (c : Thread nD τ) M fullShare X : sProp 𝕄) := by
  rw [owns_pt c M h]
  iintro H; iexists f; isplitr; · ipureintro; exact hf
  iexact H

/-- An owned memref's buffer holds some contents that read `X`. -/
theorem of_own (c : Dev nD) {sp : Space} {S : Shape} {e : EltTy} (M : Memref sig .tc sp S e) (h : M.IsWhole) (X Y : S.Idx → Elt F e) (hX : X = Y) :
    (owns (c : Thread nD τ) M fullShare X : sProp 𝕄) ⊢ iprop(∃ f, ⌜M.view.read (Elt F) f = Y⌝ ∗ pt c M f) := by
  subst hX; exact Entails.of_eq (owns_pt c M h X)

set_option maxHeartbeats 4000000 in
/-- The expert region's body obligation. -/
theorem body0 (c : Dev nD) : BodyObligation (dat0 T W c) (defs₀ (F := F)) 𝒱₀ none Set.univ := by
  intro t
  rw [bigSep_W1, bigSep_W1]
  rw [idle0 T 0, idle0 T 1, idle0 T 2, idle0 T 3, idle0 T 4, idle0 T 5]
  rw [show (dat0 T W c).owesAt none t.succ = (dat0 T W c).owesAt none t.castSucc from rfl, phi0, phi0]
  iintro ⟨⟨Hs, Ht⟩, Ho, ⟨%d0, H0⟩, ⟨%d1, H1⟩, ⟨%d2, H2⟩, ⟨%d3, H3⟩, ⟨%d4, H4⟩, ⟨%d5, H5⟩⟩
  let s := (pin (pcfgs (F := F)) (adm T) 0).slots t
  ihave H0 := (of_own c (spec1_0.stage (s 0)) (Gen.hstage1_0 ((s 0).cast Gen.nbuf1_0)) _ _ (bef0_0 T W c t d0)) $$ H0
  ihave H1 := (of_own c (spec1_1.stage (s 1)) (Gen.hstage1_1 ((s 1).cast Gen.nbuf1_1)) _ _ (bef0_1 T W c t d1)) $$ H1
  ihave H2 := (of_own c (spec1_2.stage (s 2)) (Gen.hstage1_2 ((s 2).cast Gen.nbuf1_2)) _ _ (bef0_2 T W c t d2)) $$ H2
  ihave H3 := (of_own c (spec1_3.stage (s 3)) (Gen.hstage1_3 ((s 3).cast Gen.nbuf1_3)) _ _ (bef0_3 T W c t d3)) $$ H3
  ihave H4 := (of_own c (spec1_4.stage (s 4)) (Gen.hstage1_4 ((s 4).cast Gen.nbuf1_4)) _ _ (bef0_4 T W c t d4)) $$ H4
  ihave H5 := (of_own c (spec1_5.stage (s 5)) (Gen.hstage1_5 ((s 5).cast Gen.nbuf1_5)) _ _ rfl) $$ H5
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  iapply (experts_run c (grid1.coords t) (Memref.whole main_v7) (Memref.isWhole_whole _) (spec1_0.stage (s 0)) (Gen.hstage1_0 ((s 0).cast Gen.nbuf1_0))
    (spec1_1.stage (s 1)) (Gen.hstage1_1 ((s 1).cast Gen.nbuf1_1)) (spec1_2.stage (s 2)) (Gen.hstage1_2 ((s 2).cast Gen.nbuf1_2))
    (spec1_3.stage (s 3)) (Gen.hstage1_3 ((s 3).cast Gen.nbuf1_3)) (spec1_4.stage (s 4)) (Gen.hstage1_4 ((s 4).cast Gen.nbuf1_4))
    (spec1_5.stage (s 5)) (Gen.hstage1_5 ((s 5).cast Gen.nbuf1_5)) T f0 f1 f2 f3 f4 f5 Set.univ _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  iintro ⟨Ht, H0, H1, H2, H3, H4, %g, %hg, H5⟩
  rw [show (Memref.whole main_v7).view.read (Elt F) T = T from View.read_whole _ _, e0, e1, e2, e3, e4] at hg
  isplitl [Hs Ht]
  · isplitl [Hs]; · iexact Hs
    iexact Ht
  isplitl [Ho]; · iexact Ho
  isplitl [H0]; · iapply (own_of c _ (Gen.hstage1_0 ((s 0).cast Gen.nbuf1_0)) _ f0 (by dsimp only [dat0]; exact e0)); iexact H0
  isplitl [H1]; · iapply (own_of c _ (Gen.hstage1_1 ((s 1).cast Gen.nbuf1_1)) _ f1 (by dsimp only [dat0]; exact e1)); iexact H1
  isplitl [H2]; · iapply (own_of c _ (Gen.hstage1_2 ((s 2).cast Gen.nbuf1_2)) _ f2 (by dsimp only [dat0]; exact e2)); iexact H2
  isplitl [H3]; · iapply (own_of c _ (Gen.hstage1_3 ((s 3).cast Gen.nbuf1_3)) _ f3 (by dsimp only [dat0]; exact e3)); iexact H3
  isplitl [H4]; · iapply (own_of c _ (Gen.hstage1_4 ((s 4).cast Gen.nbuf1_4)) _ f4 (by dsimp only [dat0]; exact e4)); iexact H4
  iapply (own_of c _ (Gen.hstage1_5 ((s 5).cast Gen.nbuf1_5)) _ g (by dsimp only [dat0]; exact hg)); iexact H5

/-- Every input window's buffer holds its array when the epilogue runs. -/
theorem before1 (c : Dev nD) (w : Fin 5) (hw : (cfg2.win w).isOut = false)
    (hclip : ∀ t t' : Fin 1, (cfg2.win w).index t = (cfg2.win w).index t' → (cfg2.win w).clip (grid2.coords t) = (cfg2.win w).clip (grid2.coords t'))
    (hkeep : ∀ t, (cfg2.win w).cut (grid2.coords t) ((dat1 T W c).after w t) = (dat1 T W c).blockOf w t) (t : Fin 1)
    (d : (cfg2.win w).block.Idx → Elt F (cfg2.win w).elt) : (dat1 T W c).before w t d = (dat1 T W c).fetched w t d :=
  Dat.before_in_eq_fetched (dat1 T W c) w hw (fun _ => rfl) hclip hkeep t d

theorem bef1_0 (c : Dev nD) (t : Fin 1) (d) : (dat1 T W c).before 0 t d = blk1 W 0 t := by
  exact (before1 T W c 0 rfl (fun _ _ _ => rfl) (fun t => by dsimp only [dat1]; rfl) t d).trans rfl

theorem bef1_1 (c : Dev nD) (t : Fin 1) (d) : (dat1 T W c).before 1 t d = blk1 W 1 t := by
  exact (before1 T W c 1 rfl (fun _ _ _ => rfl) (fun t => by dsimp only [dat1]; rfl) t d).trans rfl

theorem bef1_2 (c : Dev nD) (t : Fin 1) (d) : (dat1 T W c).before 2 t d = blk1 W 2 t := by
  exact (before1 T W c 2 rfl (fun _ _ _ => rfl) (fun t => by dsimp only [dat1]; rfl) t d).trans rfl

theorem bef1_3 (c : Dev nD) (t : Fin 1) (d) : (dat1 T W c).before 3 t d = blk1 W 3 t := by
  exact (before1 T W c 3 rfl (fun _ _ _ => rfl) (fun t => by dsimp only [dat1]; rfl) t d).trans rfl

set_option maxHeartbeats 4000000 in
/-- The epilogue's body obligation. -/
theorem body1 (c : Dev nD) : BodyObligation (dat1 T W c) (defs₀ (F := F)) 𝒱₀ none Set.univ := by
  intro t
  rw [bigSep_W2, bigSep_W2]
  rw [show (dat1 T W c).owesAt none t.succ = (dat1 T W c).owesAt none t.castSucc from rfl,
    show (dat1 T W c).Φ t.succ = (dat1 T W c).Φ t.castSucc from rfl]
  iintro ⟨Hs, Ho, ⟨%d0, H0⟩, ⟨%d1, H1⟩, ⟨%d2, H2⟩, ⟨%d3, H3⟩, ⟨%d4, H4⟩⟩
  let s := cfg2.slots t
  ihave H0 := (of_own c (win2_0.stage (s 0)) (Gen.hstage2_0 0) _ _ (bef1_0 T W c t d0)) $$ H0
  ihave H1 := (of_own c (win2_1.stage (s 1)) (Gen.hstage2_1 0) _ _ (bef1_1 T W c t d1)) $$ H1
  ihave H2 := (of_own c (win2_2.stage (s 2)) (Gen.hstage2_2 0) _ _ (bef1_2 T W c t d2)) $$ H2
  ihave H3 := (of_own c (win2_3.stage (s 3)) (Gen.hstage2_3 0) _ _ (bef1_3 T W c t d3)) $$ H3
  ihave H4 := (of_own c (win2_4.stage (s 4)) (Gen.hstage2_4 0) _ _ rfl) $$ H4
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  iapply (epilogue_run c (win2_0.stage (s 0)) (Gen.hstage2_0 0) (win2_1.stage (s 1)) (Gen.hstage2_1 0) (win2_2.stage (s 2)) (Gen.hstage2_2 0)
    (win2_3.stage (s 3)) (Gen.hstage2_3 0) (win2_4.stage (s 4)) (Gen.hstage2_4 0) f0 f1 f2 f3 f4 Set.univ _)
  isplitl [H0]; · iexact H0
  isplitl [H1]; · iexact H1
  isplitl [H2]; · iexact H2
  isplitl [H3]; · iexact H3
  isplitl [H4]; · iexact H4
  iintro ⟨H0, H1, H2, H3, %g, %hg, H4⟩
  rw [e0, e1, e2, e3] at hg
  isplitl [Hs]; · iexact Hs
  isplitl [Ho]; · iexact Ho
  isplitl [H0]; · iapply (own_of c _ (Gen.hstage2_0 0) _ f0 (by dsimp only [dat1]; exact e0)); iexact H0
  isplitl [H1]; · iapply (own_of c _ (Gen.hstage2_1 0) _ f1 (by dsimp only [dat1]; exact e1)); iexact H1
  isplitl [H2]; · iapply (own_of c _ (Gen.hstage2_2 0) _ f2 (by dsimp only [dat1]; exact e2)); iexact H2
  isplitl [H3]; · iapply (own_of c _ (Gen.hstage2_3 0) _ f3 (by dsimp only [dat1]; exact e3)); iexact H3
  iapply (own_of c _ (Gen.hstage2_4 0) _ g (by dsimp only [dat1]; exact hg)); iexact H4

end Cert.Proof.Dats
-- ==== Proof.Regs.lean ====
/-
  A TensorCore region of @main between the two SparseCore calls, as one segment: entered and left with every array of
  the core held at a valuation and with what the core owes the second call.
-/
module

public import proofs.«01_k».proof.Proof.Dats

@[expose] public section

noncomputable section

namespace Cert.Proof.Regs

open Cert.KernelIdeal Cert.KernelIdeal.Gen
open Cert.Proof.Spec Cert.Proof.Base Cert.Proof.Blocks Cert.Proof.Adm Cert.Proof.Dats

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [FloatOps F]

local notation "𝕄" => MT nD τ sig (HIx 2) (Elt F) ℕ UU ℕ

open Idealize.ShloMosaic.Pipeline (Dat Cfg Window BodyObligation BodyObligationLoose pin arrRef RegionSeg PLaunchFacts OwnSemFacts afterRegion arrRefs tblRefs tablesAt
  prefHeld_held arrays_held tblRefs_sub_sdiff afterRegion_arr afterRegion_of_not_arr afterRegion_off ucRefs cellsWaits_of_cut arrRefs_sub_ucRefs tblRefs_sub_ucRefs)

/-- What the core owes between the two SparseCore calls, its recorded waits within the first call's levels. -/
def owing (c : Dev nD) : sProp 𝕄 :=
  iprop(∃ Wd, ⌜(K (F := F)).WBelow (c : Thread nD τ) Wd (8 * SparseCore.Cfg.Blocks.fst 2 2 1)⌝ ∗ owes (c : Thread nD τ) ((K (F := F)).Otc c 1) Wd)

section Seg

variable (T : S32.Idx → BitVec 32)
  (pd : (p : Fin 2) → (c : Dev nD) → Dat τ (Elt F) (HIx 2) ℕ UU ℕ (pin (pcfgs (F := F)) (adm T) p) c) (p : Fin 2)

/-- The core owes only at the second call's signals, above every level of the regions' own waits. -/
theorem owes_above (c : Dev nD) (g : GSem nD τ sig) (i : HIx 2) (h : 0 < (K (F := F)).Otc c 1 g i) : i ∈ (K (F := F)).L g ∧ 0 < (K (F := F)).lev g i :=
  ⟨Finset.mem_univ _, lt_of_lt_of_le (Nat.succ_pos _) (SparseCore.Cfg.lev_of_Otc_pos h)⟩

def seg (kit : PLaunchFacts (nD := nD) (τ := τ) (pcfgs (F := F)) p) (W : Valuation τ sig (Elt F))
    (hbody : ∀ c, BodyObligationLoose (pd p c) (defs₀ (F := F)) 𝒱₀ none Set.univ)
    (howed : ∀ c t, (pd p c).owed t = (K (F := F)).Otc c 1) (hrec : ∀ c t, (pd p c).recorded t = recd (F := F) c)
    (hshare : ∀ c w, (pd p c).share w = fullShare)
    (hΦ : ∀ c t, (pd p c).Φ t = iprop(Pipeline.scopedRest (pin (pcfgs (F := F)) (adm T) p).spec c ∗ tablesAt pcfgs (adm T) p c))
    (hW : ∀ c w, (pd p c).arrAt w 0 = W (Proc.devRef .tc (arrRef (pin (pcfgs (F := F)) (adm T) p).spec w)))
    (hT : ∀ k, (adm (F := F) T p).1 k = W (Proc.devRef .tc ((pcfgs (F := F) p).pre.ref k))) :
    RegionSeg pcfgs (adm T) pd none (defs₀ (F := F)) 𝒱₀ (K (F := F)).L (K (F := F)).lev p where
  win := kit.to₀.win
  block_pos := kit.to₀.block_pos
  stage_whole := kit.to₀.stage_whole
  K := PEmpty
  osem k := k.elim
  ho := OwnSemFacts.none _
  hbody := hbody
  hwaits c := cellsWaits_of_cut (pin (pcfgs (F := F)) (adm T)) pd none p c 0 ((K (F := F)).Otc c 1) (howed c)
    (fun w s => Finset.mem_univ _) (fun w s => le_rfl) (owes_above c)
  pre c := iprop(StableHlo.held (c.tc : Thread nD τ) (ucRefs τ sig) W ∗ owing (F := F) c)
  post c := iprop(StableHlo.held (c.tc : Thread nD τ) (ucRefs τ sig) (afterRegion (pd p c) W) ∗ owing (F := F) c)
  X c := iprop(emp)
  Y c := tablesAt pcfgs (adm T) p c
  Z c := StableHlo.held (c.tc : Thread nD τ) ((ucRefs τ sig \ arrRefs (pcfgs (F := F) p).spec) \ tblRefs (pcfgs (F := F) p).pre) W
  hentry c := by
    rw [Pipeline.ownSems0_none, StableHlo.held_sub_split (c.tc : Thread nD τ) (S := ucRefs τ sig) (arrRefs_sub_ucRefs _ kit.win.arr_unscoped) W,
      StableHlo.held_sub_split (c.tc : Thread nD τ) (tblRefs_sub_sdiff (pcfgs (F := F) p).spec (pcfgs (F := F) p).pre kit.pre.disj (tblRefs_sub_ucRefs _ kit.pre.unscoped)) W,
      ← arrays_held pcfgs (adm T) pd p kit c (hshare c) ((pd p c).arrAt · 0) W (hW c),
      ← prefHeld_held (pcfgs (F := F) p).pre kit.pre.inj c (adm (F := F) T p).1 W hT]
    iintro ⟨⟨⟨Ha, Ht, Hu⟩, HO⟩, -, -⟩
    imodintro
    isplitl [Ha]; · iexact Ha
    isplitl [Ht]; · iexact Ht
    isplitl [HO]
    · unfold Dat.owesAt Pipeline.owesWithin Dat.bound owing
      rw [howed c 0, hrec c]
      icases HO with ⟨%Wd, %hWd, HO⟩; iexists Wd; isplitr; · ipureintro; exact fun q hq => Or.inl (hWd q hq)
      iexact HO
    isplitr; · iempintro
    iexact Hu
  hin c := by
    rw [hΦ]
    iintro ⟨-, Hp, Hr⟩
    isplitl [Hr]; · iexact Hr
    iexact Hp
  hout c := by
    rw [hΦ, Pipeline.ownSems0_none]
    iintro ⟨Hr, Hp⟩
    isplitl [Hp]; · iexact Hp
    isplitr; · iempintro
    iexact Hr
  hexit c := by
    rw [StableHlo.held_sub_split (c.tc : Thread nD τ) (S := ucRefs τ sig) (arrRefs_sub_ucRefs _ kit.win.arr_unscoped) (afterRegion (pd p c) W),
      StableHlo.held_sub_split (c.tc : Thread nD τ) (tblRefs_sub_sdiff (pcfgs (F := F) p).spec (pcfgs (F := F) p).pre kit.pre.disj (tblRefs_sub_ucRefs _ kit.pre.unscoped)) (afterRegion (pd p c) W),
      StableHlo.held_congr (c.tc : Thread nD τ) (S := (ucRefs τ sig \ arrRefs (pcfgs (F := F) p).spec) \ tblRefs (pcfgs (F := F) p).pre) (V := afterRegion (pd p c) W) (V' := W)
        (fun b hb => afterRegion_off (pd p c) W (ucRefs τ sig) b (Finset.mem_sdiff.mp hb).1),
      ← arrays_held pcfgs (adm T) pd p kit c (hshare c) ((pd p c).arrAt · (pin (pcfgs (F := F)) (adm T) p).N) (afterRegion (pd p c) W)
        (fun w => (afterRegion_arr (pd p c) W kit.win.arr_inj w).symm),
      ← prefHeld_held (pcfgs (F := F) p).pre kit.pre.inj c (adm (F := F) T p).1 (afterRegion (pd p c) W)
        (fun k => (hT k).trans (afterRegion_of_not_arr (pd p c) W (kit.pre.disj k)).symm)]
    iintro ⟨Ha, HO, Ht, Hu⟩
    imodintro
    isplitr [HO]
    · isplitl [Ha]; · iexact Ha
      isplitl [Ht]; · iexact Ht
      iexact Hu
    unfold Dat.owesAt Pipeline.owesWithin Dat.bound owing
    rw [howed c, hrec c]
    icases HO with ⟨%Wd, %hWd, HO⟩; iexists Wd; isplitr
    · ipureintro
      intro q hq
      rcases hWd hq with h | h
      · exact h
      · obtain ⟨w, st, rfl⟩ := h
        exact Nat.zero_le _
    iexact HO

end Seg

variable (T : S32.Idx → BitVec 32) (W W' : Valuation τ sig (Elt F))

/-- The expert region, entered with the table `T` at `main_v7`. -/
def seg0 (hT : W (Proc.devRef .tc main_v7) = T) :
    RegionSeg pcfgs (adm T) (pdats T W W') none (defs₀ (F := F)) 𝒱₀ (K (F := F)).L (K (F := F)).lev 0 :=
  seg T (pdats T W W') 0 launch1 W (fun c => (body0 T W c).loose) (fun _ _ => rfl) (fun _ _ => rfl)
    (fun c w => by unfold Dat.share; split <;> rfl) (fun _ _ => rfl) (fun _ _ => rfl) (fun | ⟨0, _⟩ => hT.symm)

/-- The epilogue region. -/
def seg1 :
    RegionSeg pcfgs (adm T) (pdats T W W') none (defs₀ (F := F)) 𝒱₀ (K (F := F)).L (K (F := F)).lev 1 :=
  seg T (pdats T W W') 1 launch2 W' (fun c => (body1 T W' c).loose) (fun _ _ => rfl) (fun _ _ => rfl)
    (fun c w => by unfold Dat.share; split <;> rfl) (fun _ _ => rfl) (fun _ _ => rfl) (fun k => k.elim0)

end Cert.Proof.Regs
-- ==== Proof.Vals.lean ====
/-
  What the TensorCore's arrays hold at each point of @main: after each run of host operations, after each SparseCore call
  and after each TensorCore region.
-/
module

public import proofs.«01_k».proof.Proof.Regs

@[expose] public section

noncomputable section

namespace Cert.Proof.Vals

open Cert.KernelIdeal Cert.KernelIdeal.Gen
open Cert.Proof.Spec Cert.Proof.Base Cert.Proof.Blocks Cert.Proof.Adm Cert.Proof.Dats Cert.Proof.Regs

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [FloatOps F]

local notation "𝕄" => MT nD τ sig (HIx 2) (Elt F) ℕ UU ℕ
open Idealize.ShloMosaic.Pipeline (afterRegion arrRef)

variable (m : (ℓ : Loc nD τ sig) → Buf (Elt F) ℓ)

abbrev rf (b : Ref sig .tc) : DevRef τ sig := Proc.devRef .tc b

/-! ### The host operations -/

abbrev opA0 : HloOp τ sig (Elt F) := StableHlo.unary main_arg5 main_v0 ((transpose S4x16x16x512 [0, 2, 3, 1] · Gen.transposes_S4x512x16x16_S4x16x16x512_0_2_3_1) : (⟨S4x512x16x16, .f32⟩ : BufTy).Contents (Elt F) → (⟨S4x16x16x512, .f32⟩ : BufTy).Contents (Elt F))
abbrev opA1 : HloOp τ sig (Elt F) := StableHlo.reshape main_v0 main_v1 (rfl : (.f32 : EltTy) = .f32) Gen.shapeCasts_S4x16x16x512_S1024x512
abbrev opA2 : HloOp τ sig (Elt F) := StableHlo.reshape main_arg0 main_v2 (rfl : (.i32 : EltTy) = .i32) Gen.shapeCasts_S8x128_S1024
abbrev opA3 : HloOp τ sig (Elt F) := StableHlo.reshape main_v1 main_v3 (rfl : (.f32 : EltTy) = .f32) Gen.shapeCasts_S1024x512_S1024x4x128
abbrev opC0 : HloOp τ sig (Elt F) := StableHlo.reshape main_v4_0 main_v5 (rfl : (.f32 : EltTy) = .f32) Gen.shapeCasts_S2048x4x128_S2048x512
abbrev opC1 : HloOp τ sig (Elt F) := StableHlo.reshape main_v4_2 main_v6 (rfl : (.i32 : EltTy) = .i32) Gen.shapeCasts_S32_S2x16
abbrev opC2 : HloOp τ sig (Elt F) := StableHlo.reshape main_v6 main_v7 (rfl : (.i32 : EltTy) = .i32) Gen.shapeCasts_S2x16_S32
abbrev opE : HloOp τ sig (Elt F) := StableHlo.reshape main_v4_1 main_v9 (rfl : (.i32 : EltTy) = .i32) Gen.shapeCasts_S1024_S1x1024
abbrev opG0 : HloOp τ sig (Elt F) := StableHlo.reshape main_v10 main_v11 (rfl : (.f32 : EltTy) = .f32) Gen.shapeCasts_S1024x512_S4x16x16x512
abbrev opG1 : HloOp τ sig (Elt F) := StableHlo.unary main_v11 main_v12 ((transpose S4x512x16x16 [0, 3, 1, 2] · Gen.transposes_S4x16x16x512_S4x512x16x16_0_3_1_2) : (⟨S4x16x16x512, .f32⟩ : BufTy).Contents (Elt F) → (⟨S4x512x16x16, .f32⟩ : BufTy).Contents (Elt F))
abbrev opG2 : HloOp τ sig (Elt F) := StableHlo.reshape main_arg2 main_v13 (rfl : (.f32 : EltTy) = .f32) Gen.shapeCasts_S4x64x128x128_S4194304
abbrev opI : HloOp τ sig (Elt F) := StableHlo.reshape main_v14 main_v15 (rfl : (.f32 : EltTy) = .f32) Gen.shapeCasts_S4194304_S4x64x128x128

/-! ### The contents, point by point -/

def V0 (d : Dev nD) : Valuation τ sig (Elt F) := fun b => m (d, b)
def VA1 (d : Dev nD) : Valuation τ sig (Elt F) := (opA0 (F := F)).result (V0 m d)
def VA2 (d : Dev nD) : Valuation τ sig (Elt F) := (opA1 (F := F)).result (VA1 m d)
def VA3 (d : Dev nD) : Valuation τ sig (Elt F) := (opA2 (F := F)).result (VA2 m d)
def VA (d : Dev nD) : Valuation τ sig (Elt F) := (opA3 (F := F)).result (VA3 m d)
/-- After the dispatch. -/
def VB (d : Dev nD) : Valuation τ sig (Elt F) :=
  Function.update (Function.update (Function.update (VA m d) (rf main_v4_0) (Xp m d)) (rf main_v4_1) (Dst (fM m d) : S1024.Idx → Elt F .i32))
    (rf main_v4_2) (Bsx (fM m d) : S32.Idx → Elt F .i32)
def VC1 (d : Dev nD) : Valuation τ sig (Elt F) := (opC0 (F := F)).result (VB m d)
def VC2 (d : Dev nD) : Valuation τ sig (Elt F) := (opC1 (F := F)).result (VC1 m d)
def VC (d : Dev nD) : Valuation τ sig (Elt F) := (opC2 (F := F)).result (VC2 m d)
/-- The table. -/
abbrev tab : S32.Idx → BitVec 32 := Bsx (fM m 0)
/-- After the experts' region. -/
def VD (d : Dev nD) : Valuation τ sig (Elt F) := afterRegion (dat0 (tab m) (VC m d) d) (VC m d)
def VE (d : Dev nD) : Valuation τ sig (Elt F) := (opE (F := F)).result (VD m d)
/-- After the epilogue's region. -/
def VF (d : Dev nD) : Valuation τ sig (Elt F) := afterRegion (dat1 (tab m) (VE m d) d) (VE m d)
def VG1 (d : Dev nD) : Valuation τ sig (Elt F) := (opG0 (F := F)).result (VF m d)
def VG2 (d : Dev nD) : Valuation τ sig (Elt F) := (opG1 (F := F)).result (VG1 m d)
def VG (d : Dev nD) : Valuation τ sig (Elt F) := (opG2 (F := F)).result (VG2 m d)
/-- After the copy. -/
def VH (d : Dev nD) : Valuation τ sig (Elt F) := Function.update (VG m d) (rf main_v14) (X m d)
def VI (d : Dev nD) : Valuation τ sig (Elt F) := (opI (F := F)).result (VH m d)

/-! ### What each step leaves as it was -/

omit [FloatOps F] in
theorem keep (op : HloOp τ sig (Elt F)) (V : Valuation τ sig (Elt F)) {o b : DevRef τ sig} (ho : op.writes = {o}) (h : b ≠ o) : op.result V b = V b :=
  op.result_of_not_mem V (fun hb => h (Finset.mem_singleton.mp (ho ▸ hb)))

theorem VA_of (d : Dev nD) {b : DevRef τ sig} (h0 : b ≠ rf main_v0) (h1 : b ≠ rf main_v1) (h2 : b ≠ rf main_v2) (h3 : b ≠ rf main_v3) : VA m d b = m (d, b) :=
  (keep opA3 _ rfl h3).trans ((keep opA2 _ rfl h2).trans ((keep opA1 _ rfl h1).trans (keep opA0 _ rfl h0)))
theorem VB_of (d : Dev nD) {b : DevRef τ sig} (h0 : b ≠ rf main_v4_0) (h1 : b ≠ rf main_v4_1) (h2 : b ≠ rf main_v4_2) : VB m d b = VA m d b :=
  (Function.update_of_ne h2 _ _).trans ((Function.update_of_ne h1 _ _).trans (Function.update_of_ne h0 _ _))
theorem VC_of (d : Dev nD) {b : DevRef τ sig} (h0 : b ≠ rf main_v5) (h1 : b ≠ rf main_v6) (h2 : b ≠ rf main_v7) : VC m d b = VB m d b :=
  (keep opC2 _ rfl h2).trans ((keep opC1 _ rfl h1).trans (keep opC0 _ rfl h0))
theorem VD_of (d : Dev nD) {b : Ref sig .tc} (h : b ≠ main_v8) : VD m d (rf b) = VC m d (rf b) :=
  Pipeline.afterRegion_keeps _ _ winFacts1.arr_inj (fun _ => rfl) b (fun w hw => by
    subst hw
    exact match w with
    | ⟨0, _⟩ => rfl | ⟨1, _⟩ => rfl | ⟨2, _⟩ => rfl | ⟨3, _⟩ => rfl | ⟨4, _⟩ => rfl
    | ⟨5, _⟩ => absurd rfl h)
theorem VE_of (d : Dev nD) {b : DevRef τ sig} (h : b ≠ rf main_v9) : VE m d b = VD m d b := keep opE _ rfl h
theorem VF_of (d : Dev nD) {b : Ref sig .tc} (h : b ≠ main_v10) : VF m d (rf b) = VE m d (rf b) :=
  Pipeline.afterRegion_keeps _ _ winFacts2.arr_inj (fun _ => rfl) b (fun w hw => by
    subst hw
    exact match w with
    | ⟨0, _⟩ => rfl | ⟨1, _⟩ => rfl | ⟨2, _⟩ => rfl | ⟨3, _⟩ => rfl
    | ⟨4, _⟩ => absurd rfl h)
theorem VG_of (d : Dev nD) {b : DevRef τ sig} (h0 : b ≠ rf main_v11) (h1 : b ≠ rf main_v12) (h2 : b ≠ rf main_v13) : VG m d b = VF m d b :=
  (keep opG2 _ rfl h2).trans ((keep opG1 _ rfl h1).trans (keep opG0 _ rfl h0))
theorem VH_of (d : Dev nD) {b : DevRef τ sig} (h : b ≠ rf main_v14) : VH m d b = VG m d b := Function.update_of_ne h _ _
theorem VI_of (d : Dev nD) {b : DevRef τ sig} (h : b ≠ rf main_v15) : VI m d b = VH m d b := keep opI _ rfl h

/-- A buffer none of the steps up to the copy writes is as at launch. -/
theorem VG_arg (d : Dev nD) {b : Ref sig .tc} (hb : b ∉ ({main_v0, main_v1, main_v2, main_v3, main_v4_0, main_v4_1, main_v4_2, main_v5, main_v6, main_v7, main_v8, main_v9,
    main_v10, main_v11, main_v12, main_v13} : Finset (Ref sig .tc))) : VG m d (rf b) = m (d, rf b) := by
  have hne : ∀ x ∈ ({main_v0, main_v1, main_v2, main_v3, main_v4_0, main_v4_1, main_v4_2, main_v5, main_v6, main_v7, main_v8, main_v9,
      main_v10, main_v11, main_v12, main_v13} : Finset (Ref sig .tc)), b ≠ x := fun x hx e => hb (e ▸ hx)
  have hr : ∀ x ∈ ({main_v0, main_v1, main_v2, main_v3, main_v4_0, main_v4_1, main_v4_2, main_v5, main_v6, main_v7, main_v8, main_v9,
      main_v10, main_v11, main_v12, main_v13} : Finset (Ref sig .tc)), rf b ≠ rf x := fun x hx e => hne x hx (Proc.devRef_injective _ e)
  rw [VG_of m d (hr _ (by decide)) (hr _ (by decide)) (hr _ (by decide)), VF_of m d (hne _ (by decide)), VE_of m d (hr _ (by decide)), VD_of m d (hne _ (by decide)),
    VC_of m d (hr _ (by decide)) (hr _ (by decide)) (hr _ (by decide)), VB_of m d (hr _ (by decide)) (hr _ (by decide)) (hr _ (by decide)),
    VA_of m d (hr _ (by decide)) (hr _ (by decide)) (hr _ (by decide)) (hr _ (by decide))]

/-- The arguments are at the end what they were at launch. -/
theorem VI_arg (d : Dev nD) {b : Ref sig .tc} (hb : b ∈ ({main_arg0, main_arg1, main_arg2, main_arg3, main_arg4, main_arg5, main_arg6, main_arg7, main_arg8, main_arg9} : Finset (Ref sig .tc))) :
    VI m d (rf b) = m (d, rf b) := by
  have hn : ∀ b ∈ ({main_arg0, main_arg1, main_arg2, main_arg3, main_arg4, main_arg5, main_arg6, main_arg7, main_arg8, main_arg9} : Finset (Ref sig .tc)),
      b ≠ main_v14 ∧ b ≠ main_v15 ∧ b ∉ ({main_v0, main_v1, main_v2, main_v3, main_v4_0, main_v4_1, main_v4_2, main_v5, main_v6, main_v7, main_v8, main_v9,
        main_v10, main_v11, main_v12, main_v13} : Finset (Ref sig .tc)) := by decide
  obtain ⟨h14, h15, h⟩ := hn b hb
  rw [VI_of m d (fun e => h15 (Proc.devRef_injective _ e)), VH_of m d (fun e => h14 (Proc.devRef_injective _ e)), VG_arg m d h]

/-! ### What each step writes -/

theorem VA_v1 (d : Dev nD) : VA m d (rf main_v1) = tokM m d :=
  (keep opA3 _ rfl (by decide)).trans ((keep opA2 _ rfl (by decide)).trans ((StableHlo.reshape_result _ _ _ _ _ _ _).trans
    (congrArg (fun x => shapeCast S1024x512 x Gen.shapeCasts_S4x16x16x512_S1024x512) (StableHlo.unary_result _ _ _ _ _ _))))
theorem VA_v2 (d : Dev nD) : VA m d (rf main_v2) = (cI m d : S1024.Idx → Elt F .i32) :=
  (keep opA3 _ rfl (by decide)).trans ((StableHlo.reshape_result _ _ _ _ _ _ _).trans
    (congrArg (fun x => shapeCast S1024 x Gen.shapeCasts_S8x128_S1024) ((keep opA1 _ rfl (by decide)).trans (keep opA0 _ rfl (by decide)))))
theorem VA_v3 (d : Dev nD) : VA m d (rf main_v3) = cT m d :=
  (StableHlo.reshape_result _ _ _ _ _ _ _).trans (congrArg (fun x => shapeCast S1024x4x128 x Gen.shapeCasts_S1024x512_S1024x4x128)
    ((keep opA3 (VA3 m d) rfl (by decide : rf main_v1 ≠ rf main_v3)).symm.trans (VA_v1 m d)))
theorem VB_v4_0 (d : Dev nD) : VB m d (rf main_v4_0) = Xp m d :=
  (Function.update_of_ne (by decide) _ _).trans ((Function.update_of_ne (by decide) _ _).trans (Function.update_self _ _ _))
theorem VB_v4_1 (d : Dev nD) : VB m d (rf main_v4_1) = (Dst (fM m d) : S1024.Idx → Elt F .i32) :=
  (Function.update_of_ne (by decide) _ _).trans (Function.update_self _ _ _)
theorem VB_v4_2 (d : Dev nD) : VB m d (rf main_v4_2) = (Bsx (fM m d) : S32.Idx → Elt F .i32) := Function.update_self _ _ _
theorem VC_v5 (d : Dev nD) : VC m d (rf main_v5) = shapeCast S2048x512 (Xp m d) Gen.shapeCasts_S2048x4x128_S2048x512 :=
  (keep opC2 _ rfl (by decide)).trans ((keep opC1 _ rfl (by decide)).trans ((StableHlo.reshape_result _ _ _ _ _ _ _).trans
    (congrArg (fun x => shapeCast S2048x512 x Gen.shapeCasts_S2048x4x128_S2048x512) (VB_v4_0 m d))))
theorem VC_v7 (d : Dev nD) : VC m d (rf main_v7) = (Bsx (fM m d) : S32.Idx → Elt F .i32) :=
  (StableHlo.reshape_result _ _ _ _ _ _ _).trans ((congrArg (fun x => shapeCast S32 x Gen.shapeCasts_S2x16_S32)
    ((StableHlo.reshape_result _ _ _ _ _ _ _).trans (congrArg (fun x => shapeCast S2x16 x Gen.shapeCasts_S32_S2x16) ((keep opC0 _ rfl (by decide)).trans (VB_v4_2 m d))))).trans
    (shapeCast_shapeCast _ _ _))
theorem VE_v9 (d : Dev nD) : VE m d (rf main_v9) = shapeCast S1x1024 (Dst (fM m d) : S1024.Idx → Elt F .i32) Gen.shapeCasts_S1024_S1x1024 :=
  (StableHlo.reshape_result _ _ _ _ _ _ _).trans (congrArg (fun x => shapeCast S1x1024 x Gen.shapeCasts_S1024_S1x1024)
    ((VD_of m d (by decide)).trans ((VC_of m d (by decide) (by decide) (by decide)).trans (VB_v4_1 m d))))
theorem VG_v13 (d : Dev nD) : VG m d (rf main_v13) = X m d :=
  (StableHlo.reshape_result _ _ _ _ _ _ _).trans (congrArg (fun x => shapeCast S4194304 x Gen.shapeCasts_S4x64x128x128_S4194304)
    ((keep opG2 (VG2 m d) rfl (by decide : rf main_arg2 ≠ rf main_v13)).symm.trans (VG_arg m d (by decide))))
theorem VI_v15 (d : Dev nD) : VI m d (rf main_v15) = m (d, rf main_arg2) :=
  (StableHlo.reshape_result _ _ _ _ _ _ _).trans ((congrArg (fun x => shapeCast S4x64x128x128 x Gen.shapeCasts_S4194304_S4x64x128x128)
    (Function.update_self _ _ _ : VH m d (rf main_v14) = X m d)).trans (shapeCast_shapeCast _ _ _))
theorem VI_v12 (d : Dev nD) : VI m d (rf main_v12) = transpose S4x512x16x16 [0, 3, 1, 2]
    (shapeCast S4x16x16x512 (VF m d (rf main_v10)) Gen.shapeCasts_S1024x512_S4x16x16x512) Gen.transposes_S4x16x16x512_S4x512x16x16_0_3_1_2 :=
  (VI_of m d (by decide)).trans ((VH_of m d (by decide)).trans ((keep opG2 _ rfl (by decide)).trans ((StableHlo.unary_result _ _ _ _ _ _).trans
    (congrArg (fun x => transpose S4x512x16x16 [0, 3, 1, 2] x Gen.transposes_S4x16x16x512_S4x512x16x16_0_3_1_2) (StableHlo.reshape_result _ _ _ _ _ _ _)))))

end Cert.Proof.Vals

end
-- ==== Proof.Pieces.lean ====
/-
  How the arrays of the two SparseCore calls are dealt among the tasks, and joined again.
-/
module

public import proofs.«01_k».proof.Proof.Base

@[expose] public section

noncomputable section

namespace Cert.Proof.Pieces

open Cert.KernelIdeal Cert.KernelIdeal.Gen
open Cert.Proof.Spec Cert.Proof.Base

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [FloatOps F]

local notation "𝕄" => MT nD τ sig (HIx 2) (Elt F) ℕ UU ℕ

/-! ### Rearranging -/

theorem turn0 (Ir Ib T0 T1 P0 P1 Pr Dd Bb : sProp 𝕄) :
    iprop((Ir ∗ Ib) ∗ (T0 ∗ T1) ∗ ((P0 ∗ P1) ∗ Pr) ∗ Dd ∗ Bb) ⊢ iprop((Ib ∗ T0 ∗ T1 ∗ P0 ∗ P1 ∗ Dd ∗ Bb) ∗ Ir ∗ Pr) := by
  iintro ⟨⟨Hir, Hib⟩, ⟨H0, H1⟩, ⟨⟨Hp0, Hp1⟩, Hpr⟩, Hd, Hb⟩
  isplitr [Hir Hpr]
  · isplitl [Hib]; · iexact Hib
    isplitl [H0]; · iexact H0
    isplitl [H1]; · iexact H1
    isplitl [Hp0]; · iexact Hp0
    isplitl [Hp1]; · iexact Hp1
    isplitl [Hd] <;> iassumption
  · isplitl [Hir] <;> iassumption
theorem turn0_back (Ir Ib T0 T1 P0 P1 Pr Dd Bb : sProp 𝕄) :
    iprop((Ib ∗ T0 ∗ T1 ∗ P0 ∗ P1 ∗ Dd ∗ Bb) ∗ Ir ∗ Pr) ⊢ iprop((Ir ∗ Ib) ∗ (T0 ∗ T1) ∗ ((P0 ∗ P1) ∗ Pr) ∗ Dd ∗ Bb) := by
  iintro ⟨⟨Hib, H0, H1, Hp0, Hp1, Hd, Hb⟩, Hir, Hpr⟩
  isplitl [Hir Hib]; · isplitl [Hir] <;> iassumption
  isplitl [H0 H1]; · isplitl [H0] <;> iassumption
  isplitl [Hp0 Hp1 Hpr]
  · isplitl [Hp0 Hp1]
    · isplitl [Hp0] <;> iassumption
    · iexact Hpr
  isplitl [Hd] <;> iassumption
theorem turn1 (X0 X1 O0 O1 : sProp 𝕄) : iprop((X0 ∗ X1) ∗ O0 ∗ O1) ⊢ iprop(X0 ∗ X1 ∗ O0 ∗ O1) := by
  iintro ⟨⟨H0, H1⟩, H2, H3⟩
  isplitl [H0]; · iexact H0
  isplitl [H1]; · iexact H1
  isplitl [H2] <;> iassumption
theorem turn1_back (X0 X1 O0 O1 : sProp 𝕄) : iprop(X0 ∗ X1 ∗ O0 ∗ O1) ⊢ iprop((X0 ∗ X1) ∗ O0 ∗ O1) := by
  iintro ⟨H0, H1, H2, H3⟩
  isplitl [H0 H1]; · isplitl [H0] <;> iassumption
  isplitl [H2] <;> iassumption

/-! ### The sets of the tasks together -/

theorem tok_disjoint (h : ℕ) : ∀ w ∈ (Finset.univ : Finset (Fin 32)), ∀ w' ∈ (Finset.univ : Finset (Fin 32)), w ≠ w' → Disjoint (tokSet w.val h) (tokSet w'.val h) :=
  fun w _ w' _ hw => Finset.disjoint_left.mpr fun i h1 h2 => hw (Fin.ext ((Finset.mem_filter.mp h1).2.1.symm.trans (Finset.mem_filter.mp h2).2.1))
theorem word_disjoint : ∀ w ∈ (Finset.univ : Finset (Fin 32)), ∀ w' ∈ (Finset.univ : Finset (Fin 32)), w ≠ w' → Disjoint (wordSet w.val) (wordSet w'.val) :=
  fun w _ w' _ hw => Finset.disjoint_left.mpr fun i h1 h2 => hw (Fin.ext ((Finset.mem_filter.mp h1).2.symm.trans (Finset.mem_filter.mp h2).2))
theorem bs_disjoint : ∀ w ∈ (Finset.univ : Finset (Fin 32)), ∀ w' ∈ (Finset.univ : Finset (Fin 32)), w ≠ w' → Disjoint (bsSet w.val) (bsSet w'.val) :=
  fun w _ w' _ hw => Finset.disjoint_left.mpr fun i h1 h2 => hw (Fin.ext ((Finset.mem_filter.mp h1).2.trans (Finset.mem_filter.mp h2).2.symm))
theorem piece_disjoint (k : ℕ) : ∀ w ∈ (Finset.univ : Finset (Fin 32)), ∀ w' ∈ (Finset.univ : Finset (Fin 32)), w ≠ w' → Disjoint (pieceSet w.val k) (pieceSet w'.val k) :=
  fun w _ w' _ hw => Finset.disjoint_left.mpr fun i h1 h2 => hw (Fin.ext (by
    have a := (Finset.mem_filter.mp h1).2; have b := (Finset.mem_filter.mp h2).2; omega))
theorem row_disjoint {f : ℕ → ℕ} (hf : ∀ t, f t < 8) (h : ℕ) : ∀ w ∈ (Finset.univ : Finset (Fin 32)), ∀ w' ∈ (Finset.univ : Finset (Fin 32)), w ≠ w' →
    Disjoint (rowSet f w.val h) (rowSet f w'.val h) :=
  fun w _ w' _ hw => Finset.disjoint_left.mpr fun i h1 h2 => hw (Fin.ext (by
    obtain ⟨⟨t, ht, hd⟩, -⟩ := (Finset.mem_filter.mp h1).2
    obtain ⟨⟨t', ht', hd'⟩, -⟩ := (Finset.mem_filter.mp h2).2
    rw [← ht, ← ht', dest_inj t.isLt t'.isLt (hd.trans hd'.symm)]))

abbrev tokU (h : ℕ) : Finset S1024x4x128.Idx := Finset.univ.biUnion fun w : Fin 32 => tokSet w.val h
abbrev rowU (f : ℕ → ℕ) (h : ℕ) : Finset S2048x4x128.Idx := Finset.univ.biUnion fun w : Fin 32 => rowSet f w.val h
abbrev pieceU (k : ℕ) : Finset S4194304.Idx := Finset.univ.biUnion fun w : Fin 32 => pieceSet w.val k

theorem tok_cover : tokU 0 ∪ tokU 1 = Finset.univ := by
  refine Finset.eq_univ_of_forall fun i => ?_
  have hi0 : (i 0).val < 1024 := (i 0).isLt
  have hi1 : (i 1).val < 4 := (i 1).isLt
  by_cases hh : (i 1).val / 2 = 0
  · exact Finset.mem_union_left _ (Finset.mem_biUnion.mpr ⟨⟨(i 0).val / 32, by omega⟩, Finset.mem_univ _, Finset.mem_filter.mpr ⟨Finset.mem_univ _, rfl, hh⟩⟩)
  · exact Finset.mem_union_right _ (Finset.mem_biUnion.mpr ⟨⟨(i 0).val / 32, by omega⟩, Finset.mem_univ _, Finset.mem_filter.mpr ⟨Finset.mem_univ _, rfl, by omega⟩⟩)
theorem tok_halves : Disjoint (tokU 0) (tokU 1) := Finset.disjoint_left.mpr fun i h0 h1 => by
  obtain ⟨_, _, h0⟩ := Finset.mem_biUnion.mp h0
  obtain ⟨_, _, h1⟩ := Finset.mem_biUnion.mp h1
  have a := (Finset.mem_filter.mp h0).2.2; have b := (Finset.mem_filter.mp h1).2.2; omega
theorem row_halves (f : ℕ → ℕ) : Disjoint (rowU f 0) (rowU f 1) := Finset.disjoint_left.mpr fun i h0 h1 => by
  obtain ⟨_, _, h0⟩ := Finset.mem_biUnion.mp h0
  obtain ⟨_, _, h1⟩ := Finset.mem_biUnion.mp h1
  have a := (Finset.mem_filter.mp h0).2.2; have b := (Finset.mem_filter.mp h1).2.2; omega
theorem word_cover : (Finset.univ.biUnion fun w : Fin 32 => wordSet w.val) = Finset.univ :=
  Finset.eq_univ_of_forall fun i => by
    have hi0 : (i 0).val < 1024 := (i 0).isLt
    exact Finset.mem_biUnion.mpr ⟨⟨(i 0).val / 32, by omega⟩, Finset.mem_univ _, Finset.mem_filter.mpr ⟨Finset.mem_univ _, rfl⟩⟩
theorem bs_cover : (Finset.univ.biUnion fun w : Fin 32 => bsSet w.val) = Finset.univ :=
  Finset.eq_univ_of_forall fun i => Finset.mem_biUnion.mpr ⟨0, Finset.mem_univ _, Finset.mem_filter.mpr ⟨Finset.mem_univ _, rfl⟩⟩
theorem piece_cover : pieceU 0 ∪ pieceU 1 = Finset.univ := by
  refine Finset.eq_univ_of_forall fun i => ?_
  have hi0 : (i 0).val < 4194304 := (i 0).isLt
  by_cases hh : (i 0).val / 65536 % 2 = 0
  · exact Finset.mem_union_left _ (Finset.mem_biUnion.mpr ⟨⟨(i 0).val / 65536 / 2, by omega⟩, Finset.mem_univ _, Finset.mem_filter.mpr ⟨Finset.mem_univ _, by show _ = (i 0).val / 65536 / 2 * 2 + 0; omega⟩⟩)
  · exact Finset.mem_union_right _ (Finset.mem_biUnion.mpr ⟨⟨(i 0).val / 65536 / 2, by omega⟩, Finset.mem_univ _, Finset.mem_filter.mpr ⟨Finset.mem_univ _, by show _ = (i 0).val / 65536 / 2 * 2 + 1; omega⟩⟩)
theorem piece_halves : Disjoint (pieceU 0) (pieceU 1) := Finset.disjoint_left.mpr fun i h0 h1 => by
  obtain ⟨_, _, h0⟩ := Finset.mem_biUnion.mp h0
  obtain ⟨_, _, h1⟩ := Finset.mem_biUnion.mp h1
  have a := (Finset.mem_filter.mp h0).2; have b := (Finset.mem_filter.mp h1).2; omega

variable (m : (ℓ : Loc nD τ sig) → Buf (Elt F) ℓ)

/-- What no task of the dispatch holds: the last share of the index array, and the padded rows no token goes to. -/
abbrev left0 (d : Dev nD) (p : Buf (Elt F) (pLoc d)) : sProp 𝕄 :=
  iprop((iLoc d ↦{rest fullShare 32} (cI m d : S1024.Idx → Elt F .i32)) ∗ pLoc d ↦[Finset.univ \ (rowU (fM m d) 0 ∪ rowU (fM m d) 1)]{fullShare} p)

/-- The five arrays of the dispatch are what the tasks hold together, and what no task holds. -/
theorem deal0 (d : Dev nD) (hc : ∀ t, fM m d t < 8) (p : Buf (Elt F) (pLoc d)) (dd : Buf (Elt F) (dLoc d)) (b : Buf (Elt F) (bLoc d)) :
    (iprop((iLoc d ↦{fullShare} (cI m d : S1024.Idx → Elt F .i32)) ∗ (tLoc d ↦{fullShare} cT m d) ∗ (pLoc d ↦{fullShare} p) ∗ (dLoc d ↦{fullShare} dd) ∗ (bLoc d ↦{fullShare} b)) : sProp 𝕄)
      = iprop((bigSep Finset.univ fun w : Fin 32 => res0 m d p dd b w.val) ∗ left0 m d p) := by
  rw [bigSep_sep', bigSep_sep', bigSep_sep', bigSep_sep', bigSep_sep', bigSep_sep']
  rw [← pointsTo_biUnion Finset.univ (ℓ := tLoc d) (fun w : Fin 32 => tokSet w.val 0) (tok_disjoint 0),
    ← pointsTo_biUnion Finset.univ (ℓ := tLoc d) (fun w : Fin 32 => tokSet w.val 1) (tok_disjoint 1),
    ← pointsTo_biUnion Finset.univ (ℓ := pLoc d) (fun w : Fin 32 => rowSet (fM m d) w.val 0) (row_disjoint hc 0),
    ← pointsTo_biUnion Finset.univ (ℓ := pLoc d) (fun w : Fin 32 => rowSet (fM m d) w.val 1) (row_disjoint hc 1),
    ← pointsTo_biUnion Finset.univ (ℓ := dLoc d) (fun w : Fin 32 => wordSet w.val) word_disjoint,
    ← pointsTo_biUnion Finset.univ (ℓ := bLoc d) (fun w : Fin 32 => bsSet w.val) bs_disjoint, word_cover, bs_cover,
    share_split (iLoc d) Finset.univ (cI m d : S1024.Idx → Elt F .i32) fullShare 32,
    show (tLoc d ↦{fullShare} cT m d : sProp 𝕄) = iprop((tLoc d ↦[tokU 0]{fullShare} cT m d) ∗ tLoc d ↦[tokU 1]{fullShare} cT m d) from
      (congrArg (fun I => (tLoc d ↦[I]{fullShare} cT m d : sProp 𝕄)) tok_cover.symm).trans (equiv_iff.mp ⟨(pointsTo_union tok_halves).1, (pointsTo_union tok_halves).2⟩),
    show (pLoc d ↦{fullShare} p : sProp 𝕄) = iprop(((pLoc d ↦[rowU (fM m d) 0]{fullShare} p) ∗ pLoc d ↦[rowU (fM m d) 1]{fullShare} p)
        ∗ pLoc d ↦[Finset.univ \ (rowU (fM m d) 0 ∪ rowU (fM m d) 1)]{fullShare} p) from
      (equiv_iff.mp ⟨(pointsTo_split_subset (Finset.subset_univ (rowU (fM m d) 0 ∪ rowU (fM m d) 1))).1, (pointsTo_split_subset (Finset.subset_univ (rowU (fM m d) 0 ∪ rowU (fM m d) 1))).2⟩).trans
        (congrArg (fun A : sProp 𝕄 => iprop(A ∗ pLoc d ↦[Finset.univ \ (rowU (fM m d) 0 ∪ rowU (fM m d) 1)]{fullShare} p))
          (equiv_iff.mp ⟨(pointsTo_union (row_halves _)).1, (pointsTo_union (row_halves _)).2⟩))]
  exact equiv_iff.mp ⟨turn0 _ _ _ _ _ _ _ _ _, turn0_back _ _ _ _ _ _ _ _ _⟩

omit [FloatOps F] in
theorem Xpad_of_not {α : Type} {f : ℕ → ℕ} {tok : S1024x4x128.Idx → α} {m₀ : S2048x4x128.Idx → α} {i : S2048x4x128.Idx}
    (h : ¬ ∃ t : Fin 1024, dest f t.val = (i 0).val) : Xpad f tok m₀ i = m₀ i := by
  unfold Xpad; exact dif_neg h

omit [FloatOps F] in
theorem row_mem {f : ℕ → ℕ} {i : S2048x4x128.Idx} (h : ∃ t : Fin 1024, dest f t.val = (i 0).val) : i ∈ rowU f 0 ∪ rowU f 1 := by
  obtain ⟨t, ht⟩ := h
  have ht' : t.val < 1024 := t.isLt
  have hi1 : (i 1).val < 4 := (i 1).isLt
  by_cases hh : (i 1).val / 2 = 0
  · exact Finset.mem_union_left _ (Finset.mem_biUnion.mpr ⟨⟨t.val / 32, by omega⟩, Finset.mem_univ _, Finset.mem_filter.mpr ⟨Finset.mem_univ _, ⟨t, rfl, ht⟩, hh⟩⟩)
  · exact Finset.mem_union_right _ (Finset.mem_biUnion.mpr ⟨⟨t.val / 32, by omega⟩, Finset.mem_univ _, Finset.mem_filter.mpr ⟨Finset.mem_univ _, ⟨t, rfl, ht⟩, by omega⟩⟩)

/-- The rows no token goes to are in the padded tokens what they were. -/
theorem left_congr (d : Dev nD) : (pLoc d ↦[Finset.univ \ (rowU (fM m d) 0 ∪ rowU (fM m d) 1)]{fullShare} m (pLoc d) : sProp 𝕄)
    = pLoc d ↦[Finset.univ \ (rowU (fM m d) 0 ∪ rowU (fM m d) 1)]{fullShare} Xp m d :=
  pointsTo_congr fun i hi => (Xpad_of_not fun h => (Finset.mem_sdiff.mp hi).2 (row_mem h)).symm
theorem left0_eq (d : Dev nD) : (left0 m d (m (pLoc d)) : sProp 𝕄) = left0 m d (Xp m d) := by
  unfold left0
  rw [left_congr]

/-- The two arrays of the copy are what the tasks hold together. -/
theorem deal1 (d : Dev nD) (o : Buf (Elt F) (oLoc d)) :
    (iprop((xLoc d ↦{fullShare} X m d) ∗ (oLoc d ↦{fullShare} o)) : sProp 𝕄) = bigSep Finset.univ fun w : Fin 32 => res1 m d o w.val := by
  rw [bigSep_sep', bigSep_sep', bigSep_sep']
  rw [← pointsTo_biUnion Finset.univ (ℓ := xLoc d) (fun w : Fin 32 => pieceSet w.val (0 : Fin 2).val) (piece_disjoint 0),
    ← pointsTo_biUnion Finset.univ (ℓ := xLoc d) (fun w : Fin 32 => pieceSet w.val (1 : Fin 2).val) (piece_disjoint 1),
    ← pointsTo_biUnion Finset.univ (ℓ := oLoc d) (fun w : Fin 32 => pieceSet w.val (0 : Fin 2).val) (piece_disjoint 0),
    ← pointsTo_biUnion Finset.univ (ℓ := oLoc d) (fun w : Fin 32 => pieceSet w.val (1 : Fin 2).val) (piece_disjoint 1),
    show (xLoc d ↦{fullShare} X m d : sProp 𝕄) = iprop((xLoc d ↦[pieceU 0]{fullShare} X m d) ∗ xLoc d ↦[pieceU 1]{fullShare} X m d) from
      (congrArg (fun I => (xLoc d ↦[I]{fullShare} X m d : sProp 𝕄)) piece_cover.symm).trans (equiv_iff.mp ⟨(pointsTo_union piece_halves).1, (pointsTo_union piece_halves).2⟩),
    show (oLoc d ↦{fullShare} o : sProp 𝕄) = iprop((oLoc d ↦[pieceU 0]{fullShare} o) ∗ oLoc d ↦[pieceU 1]{fullShare} o) from
      (congrArg (fun I => (oLoc d ↦[I]{fullShare} o : sProp 𝕄)) piece_cover.symm).trans (equiv_iff.mp ⟨(pointsTo_union piece_halves).1, (pointsTo_union piece_halves).2⟩)]
  exact equiv_iff.mp ⟨turn1 _ _ _ _, turn1_back _ _ _ _⟩

/-! ### What the calls are handed and hand back -/

theorem st0_eq (d : Dev nD) : (bigSep Finset.univ fun c : Fin ((K (F := F)).nCore 0) => (P m).st 0 d c)
    = bigSep Finset.univ fun w : Fin 32 => res0 m d (m (pLoc d)) (m (dLoc d)) (m (bLoc d)) w.val :=
  bigSep_wid (F := F) (fun w => res0 m d (m (pLoc d)) (m (dLoc d)) (m (bLoc d)) w)
theorem dn0_eq (d : Dev nD) : (bigSep Finset.univ fun c : Fin ((K (F := F)).nCore 0) => (P m).dn 0 d c)
    = bigSep Finset.univ fun w : Fin 32 => res0 m d (Xp m d) (Dst (fM m d) : S1024.Idx → Elt F .i32) (Bsx (fM m d) : S32.Idx → Elt F .i32) w.val :=
  bigSep_wid (F := F) (fun w => res0 m d (Xp m d) (Dst (fM m d) : S1024.Idx → Elt F .i32) (Bsx (fM m d) : S32.Idx → Elt F .i32) w)
theorem st1_eq (d : Dev nD) : (bigSep Finset.univ fun c : Fin ((K (F := F)).nCore 1) => (P m).st 1 d c)
    = iprop((xLoc d ↦{fullShare} X m d) ∗ oLoc d ↦{fullShare} m (oLoc d)) :=
  (bigSep_wid (F := F) (fun w => res1 m d (m (oLoc d)) w)).trans (deal1 m d _).symm
theorem dn1_eq (d : Dev nD) : (bigSep Finset.univ fun c : Fin ((K (F := F)).nCore 1) => (P m).dn 1 d c)
    = iprop((xLoc d ↦{fullShare} X m d) ∗ oLoc d ↦{fullShare} X m d) :=
  (bigSep_wid (F := F) (fun w => res1 m d (X m d) w)).trans (deal1 m d _).symm

end Cert.Proof.Pieces

end
-- ==== Proof.Lanes.lean ====
/-
  The dispatch's vectors, lane by lane: what each of its sixteen-lane computations holds, as natural numbers.
-/
module

public import proofs.«01_k».proof.Proof.Spec
public import proofs.«01_k».proof.Proof.Gen.KernelIdeal.Skeleton
public import Idealize.ShloMosaic.Lib.Pointwise.Reshape

@[expose] public section

noncomputable section

namespace Cert.Proof.Lanes

open Cert.KernelIdeal Cert.KernelIdeal.Gen
open Idealize.ShloMosaic
open Cert.Proof.Spec

/-- The vector of the words of `g`'s values, lane `l` that of `g l`. -/
def vec (g : ℕ → ℕ) : IVec S16 32 := fun i => BitVec.ofNat 32 (g (i 0).val)

theorem lane_lt (i : S16.Idx) : (i 0).val < 16 := (i 0).isLt

theorem vec_congr {g h : ℕ → ℕ} (e : ∀ l < 16, g l = h l) : vec g = vec h :=
  funext fun i => congrArg (BitVec.ofNat 32) (e _ (lane_lt i))

theorem addi_vec (g h : ℕ → ℕ) : addi (vec g) (vec h) = vec fun l => g l + h l :=
  funext fun i => (BitVec.ofNat_add _ _).symm
theorem muli_vec (g h : ℕ → ℕ) : muli (vec g) (vec h) = vec fun l => g l * h l :=
  funext fun i => (BitVec.ofNat_mul _ _).symm
theorem broadcast_vec (n : ℕ) : broadcast S16 (BitVec.ofNat 32 n) = vec fun _ => n := rfl
theorem subi_vec (g h : ℕ → ℕ) (hle : ∀ l < 16, h l ≤ g l) : subi (vec g) (vec h) = vec fun l => g l - h l :=
  funext fun i => by
    show BitVec.ofNat 32 (g (i 0).val) - BitVec.ofNat 32 (h (i 0).val) = BitVec.ofNat 32 (g (i 0).val - h (i 0).val)
    have e : g (i 0).val = (g (i 0).val - h (i 0).val) + h (i 0).val := (Nat.sub_add_cancel (hle _ (lane_lt i))).symm
    conv_lhs => rw [e, BitVec.ofNat_add]
    exact BitVec.add_sub_cancel _ _

theorem extract_vec (g : ℕ → ℕ) (h) : extractAt ![15] (vec g) h = BitVec.ofNat 32 (g 15) := rfl

theorem iota_vec : iota .scVector S16 32 [0] iota_S16_d0_w32_scVector = vec fun l => l :=
  funext fun i => by
    show BitVec.ofNat 32 _ = BitVec.ofNat 32 _
    simp

theorem foldl_add (l : List (Fin 16)) (g : ℕ → ℕ) (n : ℕ) :
    l.foldl (fun r k => ScanKind.step .sum r (BitVec.ofNat 32 (g k.val))) (BitVec.ofNat 32 n) = BitVec.ofNat 32 (n + (l.map fun k => g k.val).sum) := by
  induction l generalizing n with
  | nil => simp
  | cons a l ih =>
    rw [List.foldl_cons, show ScanKind.step .sum (BitVec.ofNat 32 n) (BitVec.ofNat 32 (g a.val)) = BitVec.ofNat 32 (n + g a.val) from (BitVec.ofNat_add _ _).symm,
      ih, List.map_cons, List.sum_cons, Nat.add_assoc]

theorem lanes_upto (g : ℕ → ℕ) (j : Fin 16) :
    g 0 + (((List.finRange 16).filter fun k => decide (0 < k.val ∧ k.val ≤ j.val)).map fun k => g k.val).sum = ∑ l ∈ Finset.range (j.val + 1), g l := by
  have e : ((List.finRange 16).filter fun k => decide (0 < k.val ∧ k.val ≤ j.val)).map (fun k => k.val) = (List.range j.val).map (· + 1) := by
    revert j; decide
  have e' : ((List.finRange 16).filter fun k => decide (0 < k.val ∧ k.val ≤ j.val)).map (fun k => g k.val) = (List.range j.val).map fun l => g (l + 1) := by
    have := congrArg (List.map g) e
    rw [List.map_map, List.map_map] at this
    exact this
  rw [e', Finset.sum_range_succ', Nat.add_comm]
  rfl

theorem scan_vec (g : ℕ → ℕ) : (scan .sum (vec g) : IVec S16 32) = vec fun l => ∑ j ∈ Finset.range (l + 1), g j := by
  funext i
  exact (foldl_add _ g (g 0)).trans (congrArg (BitVec.ofNat 32) (lanes_upto g (i 0)))

theorem eq_vec (g : ℕ → ℕ) (e : ℕ) (hg : ∀ l < 16, g l < 2 ^ 32) (he : e < 2 ^ 32) (i : S16.Idx) :
    cmpi .eq (vec g) (vec fun _ => e) i = BitVec.ofBool (decide (g (i 0).val = e)) := by
  show BitVec.ofBool (BitVec.ofNat 32 _ == BitVec.ofNat 32 _) = _
  congr 1
  rw [Bool.eq_iff_iff, beq_iff_eq, decide_eq_true_iff]
  constructor
  · intro h
    have := congrArg BitVec.toNat h
    simp only [BitVec.toNat_ofNat] at this
    rwa [Nat.mod_eq_of_lt (hg _ (lane_lt i)), Nat.mod_eq_of_lt he] at this
  · exact fun h => congrArg _ h

theorem select_eq_vec (g : ℕ → ℕ) (e : ℕ) (p q : IVec S16 32) (hg : ∀ l < 16, g l < 2 ^ 32) (he : e < 2 ^ 32) :
    select (cmpi .eq (vec g) (vec fun _ => e)) p q = fun i => if g (i 0).val = e then p i else q i := by
  funext i
  show (if cmpi .eq (vec g) (vec fun _ => e) i = 1 then p i else q i) = _
  rw [eq_vec g e hg he]
  by_cases h : g (i 0).val = e <;> simp [h]

theorem sel01_vec (g : ℕ → ℕ) (e : ℕ) (hg : ∀ l < 16, g l < 2 ^ 32) (he : e < 2 ^ 32) :
    select (cmpi .eq (vec g) (vec fun _ => e)) (vec fun _ => 1) (vec fun _ => 0) = vec fun l => if g l = e then 1 else 0 := by
  rw [select_eq_vec g e _ _ hg he]
  funext i
  show (if _ then BitVec.ofNat 32 1 else BitVec.ofNat 32 0) = BitVec.ofNat 32 (if _ then 1 else 0)
  split <;> rfl

variable {F : FTy → Type} [FloatOps F]

theorem iota_small : ∀ l < 16, (fun l : ℕ => l) l < 2 ^ 32 := fun l hl => by dsimp only; omega

/-- The iota of the sixteen lanes. -/
abbrev io : IVec S16 32 := iota .scVector S16 32 [0] iota_S16_d0_w32_scVector

/-! ## The histogram loop -/

/-- What the histogram holds for expert `e` after `K` trips, lane by lane. -/
def tot (f : ℕ → ℕ) (e K : ℕ) (l : ℕ) : ℕ := ∑ k ∈ Finset.range K, if f (16 * k + l) = e then 1 else 0
/-- The same with only the trips below `B` counted. -/
def pre (f : ℕ → ℕ) (B e K : ℕ) (l : ℕ) : ℕ := ∑ k ∈ Finset.range K, (if f (16 * k + l) = e then 1 else 0) * (if k < B then 1 else 0)

theorem tot_zero (f : ℕ → ℕ) (e : ℕ) : k0_pay13 = vec (tot f e 0) := rfl
theorem pre_zero (f : ℕ → ℕ) (B e : ℕ) : k0_pay13 = vec (pre f B e 0) := rfl

theorem tot_step (f : ℕ → ℕ) (e K : ℕ) :
    addi (vec (tot f e K)) (vec fun l => if f (16 * K + l) = e then 1 else 0) = vec (tot f e (K + 1)) := by
  rw [addi_vec]; exact vec_congr fun l _ => (Finset.sum_range_succ _ _).symm
theorem pre_step (f : ℕ → ℕ) (B e K : ℕ) :
    addi (vec (pre f B e K)) (muli (vec fun l => if f (16 * K + l) = e then 1 else 0) (vec fun _ => if K < B then 1 else 0)) = vec (pre f B e (K + 1)) := by
  rw [muli_vec, addi_vec]; exact vec_congr fun l _ => (Finset.sum_range_succ _ _).symm

/-- The sixteen tokens of trip `K`, all experts' numbers small. -/
theorem trip_small {f : ℕ → ℕ} (hf : ∀ t, f t < 8) (K : ℕ) : ∀ l < 16, (fun l => f (16 * K + l)) l < 2 ^ 32 := fun l _ => by
  have := hf (16 * K + l); dsimp only; omega

section Trip
variable {f : ℕ → ℕ} (hf : ∀ t, f t < 8) (K : ℕ)
include hf

theorem pay1_eq : k0_pay1 (F := F) (vec fun l => f (16 * K + l)) = vec fun l => if f (16 * K + l) = 0 then 1 else 0 := sel01_vec _ 0 (trip_small hf K) (by decide)
theorem pay4_eq : k0_pay4 (F := F) (vec fun l => f (16 * K + l)) = vec fun l => if f (16 * K + l) = 1 then 1 else 0 := sel01_vec _ 1 (trip_small hf K) (by decide)
theorem pay7_eq : k0_pay7 (F := F) (vec fun l => f (16 * K + l)) = vec fun l => if f (16 * K + l) = 2 then 1 else 0 := sel01_vec _ 2 (trip_small hf K) (by decide)
theorem pay10_eq : k0_pay10 (F := F) (vec fun l => f (16 * K + l)) = vec fun l => if f (16 * K + l) = 3 then 1 else 0 := sel01_vec _ 3 (trip_small hf K) (by decide)
theorem pay14_eq : k0_pay14 (F := F) (vec fun l => f (16 * K + l)) 4#32 = vec fun l => if f (16 * K + l) = 4 then 1 else 0 := sel01_vec _ 4 (trip_small hf K) (by decide)
theorem pay17_eq : k0_pay17 (F := F) (vec fun l => f (16 * K + l)) = vec fun l => if f (16 * K + l) = 5 then 1 else 0 := sel01_vec _ 5 (trip_small hf K) (by decide)
theorem pay20_eq : k0_pay20 (F := F) (vec fun l => f (16 * K + l)) = vec fun l => if f (16 * K + l) = 6 then 1 else 0 := sel01_vec _ 6 (trip_small hf K) (by decide)
theorem pay23_eq : k0_pay23 (F := F) (vec fun l => f (16 * K + l)) = vec fun l => if f (16 * K + l) = 7 then 1 else 0 := sel01_vec _ 7 (trip_small hf K) (by decide)

end Trip

/-- The trip's flag: whether it comes before trip `2 * wid`. -/
theorem flag_eq (wid : ℕ) (hw : wid < 32) (k : Fin k0_t1_loop.trips) :
    broadcast S16 (Scalar.select (Scalar.cmpi .slt (Scf.iv 0#32 1#32 k) (Scalar.muli 2#32 (BitVec.ofNat 32 wid))) 1#32 0#32)
      = vec fun _ => if k.val < 2 * wid then 1 else 0 := by
  have hk : k.val < 64 := k.isLt
  have h1 : Scf.iv 0#32 1#32 k = BitVec.ofNat 32 k.val := by simp [Scf.iv]
  have h2 : Scalar.muli 2#32 (BitVec.ofNat 32 wid) = BitVec.ofNat 32 (2 * wid) := (BitVec.ofNat_mul 2 wid).symm
  have h3 : Scalar.cmpi .slt (BitVec.ofNat 32 k.val) (BitVec.ofNat 32 (2 * wid)) = BitVec.ofBool (decide (k.val < 2 * wid)) := by
    show BitVec.ofBool (BitVec.slt _ _) = _
    congr 1
    rw [BitVec.slt_eq_decide, BitVec.toInt_eq_toNat_cond, BitVec.toInt_eq_toNat_cond]
    simp only [BitVec.toNat_ofNat]
    rw [Nat.mod_eq_of_lt (by omega), Nat.mod_eq_of_lt (by omega)]
    congr 1
    apply propext
    rw [if_pos (by omega), if_pos (by omega)]
    omega
  rw [h1, h2, h3]
  by_cases h : k.val < 2 * wid
  · simp only [h, if_true, decide_true]; rfl
  · simp only [h, if_false, decide_false]; rfl

/-! ## The counts and the base rows -/

theorem vec_scan_one (g : ℕ → ℕ) (h) : broadcast S16 (extractAt ![15] (scan .sum (vec g) : IVec S16 32) h) = vec fun _ => ∑ j ∈ Finset.range 16, g j := by
  rw [scan_vec, extract_vec, broadcast_vec]

theorem pay26_eq : k0_pay26 = vec fun l => if l = 0 then 1 else 0 := by
  unfold k0_pay26; rw [iota_vec]; exact sel01_vec _ 0 iota_small (by decide)
theorem pay27_eq : k0_pay27 = vec fun l => if l = 1 then 1 else 0 := by
  unfold k0_pay27; rw [iota_vec]; exact sel01_vec _ 1 iota_small (by decide)

/-- The experts' counts, in the first eight lanes. -/
theorem hv_eq (t0 t1 t2 t3 t4 t5 t6 t7 : ℕ → ℕ) :
    k0_pay40 (vec t7) (k0_pay37 io (vec t5) (vec t6) (k0_pay34 io (vec t2) (vec t3) (vec t4) (k0_pay28 (vec t0) (vec t1)))) (k0_pay39 io)
      = vec fun l => if l = 0 then ∑ j ∈ Finset.range 16, t0 j else if l = 1 then ∑ j ∈ Finset.range 16, t1 j
          else if l = 2 then ∑ j ∈ Finset.range 16, t2 j else if l = 3 then ∑ j ∈ Finset.range 16, t3 j
          else if l = 4 then ∑ j ∈ Finset.range 16, t4 j else if l = 5 then ∑ j ∈ Finset.range 16, t5 j
          else if l = 6 then ∑ j ∈ Finset.range 16, t6 j else if l = 7 then ∑ j ∈ Finset.range 16, t7 j else 0 := by
  rw [show io = vec fun l => l from iota_vec]
  simp only [k0_pay40, k0_pay37, k0_pay34, k0_pay28, k0_pay39, pay26_eq, pay27_eq, k0_pay30, k0_pay31, k0_pay33, k0_pay35, k0_pay36, k0_pay13,
    vec_scan_one, broadcast_vec]
  rw [sel01_vec _ 2 iota_small (by decide), sel01_vec _ 3 iota_small (by decide),
    sel01_vec _ 4 iota_small (by decide), sel01_vec _ 5 iota_small (by decide), sel01_vec _ 6 iota_small (by decide), sel01_vec _ 7 iota_small (by decide)]
  simp only [muli_vec, addi_vec]
  refine vec_congr fun l hl => ?_
  interval_cases l <;> simp

/-- The counts before the tile, in the first eight lanes. -/
theorem pv_eq (t0 t1 t2 t3 t4 t5 t6 : ℕ → ℕ) :
    k0_pay38 io (vec t4) (vec t5) (vec t6) (k0_pay32 io (vec t2) (vec t3) (k0_pay29 (vec t0) (vec t1))) (k0_pay33 io)
      = vec fun l => if l = 0 then ∑ j ∈ Finset.range 16, t0 j else if l = 1 then ∑ j ∈ Finset.range 16, t1 j
          else if l = 2 then ∑ j ∈ Finset.range 16, t2 j else if l = 3 then ∑ j ∈ Finset.range 16, t3 j
          else if l = 4 then ∑ j ∈ Finset.range 16, t4 j else if l = 5 then ∑ j ∈ Finset.range 16, t5 j
          else if l = 6 then ∑ j ∈ Finset.range 16, t6 j else 0 := by
  rw [show io = vec fun l => l from iota_vec]
  simp only [k0_pay38, k0_pay32, k0_pay29, pay26_eq, pay27_eq, k0_pay30, k0_pay31, k0_pay33, k0_pay35, k0_pay36, k0_pay13,
    vec_scan_one, broadcast_vec]
  rw [sel01_vec _ 2 iota_small (by decide), sel01_vec _ 3 iota_small (by decide),
    sel01_vec _ 4 iota_small (by decide), sel01_vec _ 5 iota_small (by decide), sel01_vec _ 6 iota_small (by decide)]
  simp only [muli_vec, addi_vec]
  refine vec_congr fun l hl => ?_
  interval_cases l <;> simp

theorem toInt_small (n : ℕ) (h : n < 2 ^ 31) : (BitVec.ofNat 32 n).toInt = n := by
  rw [BitVec.toInt_eq_toNat_cond, BitVec.toNat_ofNat, Nat.mod_eq_of_lt (by omega), if_pos (by omega)]

theorem msb_small (n : ℕ) (h : n < 2 ^ 31) : (BitVec.ofNat 32 n).msb = false := by
  rw [BitVec.msb_eq_decide, BitVec.toNat_ofNat, Nat.mod_eq_of_lt (by omega)]
  exact decide_eq_false (by omega)

theorem slt_small (n k : ℕ) (h : n < 2 ^ 31) (hk : k < 2 ^ 31) : (BitVec.ofNat 32 n).slt (BitVec.ofNat 32 k) = decide (n < k) := by
  rw [BitVec.slt_eq_decide, toInt_small n h, toInt_small k hk]
  congr 1
  exact propext Nat.cast_lt

/-- A word below 2^31 over 128, on a vector subcore. -/
theorem div_small (n : ℕ) (h : n < 2 ^ 31) : IntOp.divsi .vector (BitVec.ofNat 32 n) 128#32 = BitVec.ofNat 32 (n / 128) := by
  have hc : ¬ IntOp.SDivCorner (BitVec.ofNat 32 n) 128#32 := by
    rintro (e | ⟨-, e⟩)
    · exact absurd e (by decide)
    · exact absurd e (by decide)
  unfold IntOp.divsi
  rw [if_neg hc, BitVec.sdiv_eq, msb_small n h, show (128#32).msb = false by decide]
  apply BitVec.eq_of_toNat_eq
  show (BitVec.ofNat 32 n / 128#32).toNat = _
  rw [BitVec.toNat_udiv, BitVec.toNat_ofNat, BitVec.toNat_ofNat, BitVec.toNat_ofNat, Nat.mod_eq_of_lt (show n < 2 ^ 32 by omega),
    Nat.mod_eq_of_lt (show n / 128 < 2 ^ 32 by omega)]

/-- The blocks each count takes: the count over 128, rounded up. -/
theorem nb_eq (v5_7 v118 v129 : IVec S16 32) (g : ℕ → ℕ) (h : k0_pay40 v5_7 v118 v129 = vec g) (hg : ∀ l < 16, g l ≤ 1024) :
    k0_pay41 v5_7 v118 v129 = vec fun l => (g l + 127) / 128 := by
  unfold k0_pay41
  rw [h]
  funext i
  have hi := hg _ (lane_lt i)
  have e : IntOp.addi (BitVec.ofNat 32 (g (i 0).val)) 127#32 = BitVec.ofNat 32 (g (i 0).val + 127) := (BitVec.ofNat_add _ _).symm
  have h1 : IntOp.cmpi .sgt (BitVec.ofNat 32 (g (i 0).val + 127)) 0#32 = 1#1 := by
    show BitVec.ofBool (BitVec.slt 0#32 _) = _
    rw [slt_small 0 _ (by omega) (by omega), decide_eq_true (by omega)]; rfl
  have h2 : IntOp.cmpi .slt (BitVec.ofNat 32 (g (i 0).val + 127)) 0#32 = 0#1 := by
    show BitVec.ofBool (BitVec.slt _ 0#32) = _
    rw [slt_small _ 0 (by omega) (by omega), decide_eq_false (by omega)]; rfl
  show Scalar.select (IntOp.andi (IntOp.cmpi .ne (IntOp.subi ((IntOp.cmpi .sgt (IntOp.addi (BitVec.ofNat 32 (g (i 0).val)) 127#32) 0#32).setWidth 32)
      ((IntOp.cmpi .slt (IntOp.addi (BitVec.ofNat 32 (g (i 0).val)) 127#32) 0#32).setWidth 32)) _) _) _
      (IntOp.divsi .vector (IntOp.addi (BitVec.ofNat 32 (g (i 0).val)) 127#32) 128#32) = _
  rw [e, h1, h2, div_small _ (by omega)]
  have hz : IntOp.cmpi .ne (IntOp.subi (BitVec.setWidth 32 1#1) (BitVec.setWidth 32 0#1))
      (Scalar.subi (Scalar.extui (Scalar.cmpi .sgt 128#32 0#32)) (Scalar.extui (Scalar.cmpi .slt 128#32 0#32))) = 0#1 := by decide
  refine (congrArg (fun b => Scalar.select (IntOp.andi b _) _ _) hz).trans ?_
  show Scalar.select (0#1 &&& _) _ _ = _
  rw [BitVec.zero_and]
  exact if_neg (by decide)

/-- The running block counts. -/
theorem bs_eq (v5_7 v118 v129 : IVec S16 32) (g : ℕ → ℕ) (h : k0_pay40 v5_7 v118 v129 = vec g) (hg : ∀ l < 16, g l ≤ 1024) :
    k0_pay42 v5_7 v118 v129 = vec fun l => ∑ j ∈ Finset.range (l + 1), (g j + 127) / 128 := by
  unfold k0_pay42; rw [nb_eq _ _ _ g h hg]; exact scan_vec _

/-- Each expert's first row, plus its tokens before the tile. -/
theorem base_eq (v5_7 v118 v129 v124 : IVec S16 32) (g p t7 : ℕ → ℕ) (h : k0_pay40 v5_7 v118 v129 = vec g) (hg : ∀ l < 16, g l ≤ 1024)
    (h1 : v124 = vec p) (h129 : v129 = k0_pay39 io) :
    k0_pay43 v5_7 (vec t7) v118 v124 v129
      = vec fun l => (∑ j ∈ Finset.range l, (g j + 127) / 128) * 128 + (p l + if l = 7 then ∑ j ∈ Finset.range 16, t7 j else 0) := by
  unfold k0_pay43
  rw [nb_eq _ _ _ g h hg, bs_eq _ _ _ g h hg, h1, h129, show io = vec fun l => l from iota_vec]
  simp only [k0_pay39, vec_scan_one, broadcast_vec]
  rw [sel01_vec _ 7 iota_small (by decide), subi_vec _ _ (fun l _ => by
    rw [Finset.sum_range_succ]; exact Nat.le_add_left _ _)]
  simp only [muli_vec, addi_vec]
  refine vec_congr fun l hl => ?_
  rw [Finset.sum_range_succ, Nat.add_sub_cancel]
  simp

/-! ## The tile's own tokens -/

/-- One expert's step of the in-tile ranks: the lanes of expert `e` take their rank, the others keep theirs. -/
theorem rank_step (a : ℕ → ℕ) (e : ℕ) (p : IVec S16 32) (q : ℕ → ℕ) (hp : p = vec q) (ha : ∀ l < 16, a l < 8) (he : e < 8) :
    select (cmpi .eq (vec a) (vec fun _ => e)) (subi (scan .sum (vec fun l => if a l = e then 1 else 0) : IVec S16 32) (vec fun _ => 1)) p
      = vec fun l => if a l = e then (∑ j ∈ Finset.range l, if a j = e then 1 else 0) else q l := by
  rw [select_eq_vec a e _ _ (fun l hl => by have := ha l hl; omega) (by omega), scan_vec, hp]
  funext i
  show (if a (i 0).val = e then BitVec.ofNat 32 _ - BitVec.ofNat 32 1 else BitVec.ofNat 32 _) = BitVec.ofNat 32 (if a (i 0).val = e then _ else _)
  split
  · next h =>
      show BitVec.ofNat 32 (∑ j ∈ Finset.range ((i 0).val + 1), if a j = e then 1 else 0) - _ = _
      rw [Finset.sum_range_succ, if_pos h, BitVec.ofNat_add, BitVec.add_sub_cancel]
  · rfl

/-- The ranks within the tile, the experts taken one after another. -/
def rank (a : ℕ → ℕ) (l : ℕ) : ℕ := ∑ j ∈ Finset.range l, if a j = a l then 1 else 0

theorem rank_all (a : ℕ → ℕ) (l : ℕ) (h : a l < 8) :
    (if a l = 7 then (∑ j ∈ Finset.range l, if a j = 7 then 1 else 0) else if a l = 6 then (∑ j ∈ Finset.range l, if a j = 6 then 1 else 0)
      else if a l = 5 then (∑ j ∈ Finset.range l, if a j = 5 then 1 else 0) else if a l = 4 then (∑ j ∈ Finset.range l, if a j = 4 then 1 else 0)
      else if a l = 3 then (∑ j ∈ Finset.range l, if a j = 3 then 1 else 0) else if a l = 2 then (∑ j ∈ Finset.range l, if a j = 2 then 1 else 0)
      else if a l = 1 then (∑ j ∈ Finset.range l, if a j = 1 then 1 else 0) else if a l = 0 then (∑ j ∈ Finset.range l, if a j = 0 then 1 else 0)
      else 0) = rank a l := by
  unfold rank
  generalize a l = e at h ⊢
  interval_cases e <;> simp

section Ranks
variable (a : ℕ → ℕ) (ha : ∀ l < 16, a l < 8)
include ha

theorem small8 : ∀ l < 16, a l < 2 ^ 32 := fun l hl => by have := ha l hl; omega

/-- The first sixteen tokens' ranks, as the kernel computes them. -/
theorem rank_a_eq :
    k0_pay79 (F := F) (vec a) (k0_pay76 (F := F) (vec a) (k0_pay70 (F := F) (vec a) (k0_pay59 (F := F) (vec a)
        (k0_pay54 (F := F) (vec a) (k0_pay50 (F := F) (vec a) (k0_pay45 (F := F) k0_pay13 (vec a))) (k0_pay53 (F := F) (vec a))) (k0_pay57 (F := F) (vec a)))
        (k0_pay63 (F := F) (vec a)) (k0_pay65 (F := F) (vec a)) 1#32)) = vec (rank a) := by
  have hs := small8 a ha
  simp only [k0_pay79, k0_pay76, k0_pay70, k0_pay59, k0_pay54, k0_pay50, k0_pay45, k0_pay53, k0_pay57, k0_pay63, k0_pay65, k0_pay78, k0_pay74, k0_pay68,
    k0_pay62, k0_pay49, k0_pay44, k0_pay13, broadcast_vec]
  simp only [sel01_vec a _ hs (show (0 : ℕ) < 2 ^ 32 by decide), sel01_vec a _ hs (show (1 : ℕ) < 2 ^ 32 by decide), sel01_vec a _ hs (show (2 : ℕ) < 2 ^ 32 by decide),
    sel01_vec a _ hs (show (3 : ℕ) < 2 ^ 32 by decide), sel01_vec a _ hs (show (4 : ℕ) < 2 ^ 32 by decide), sel01_vec a _ hs (show (5 : ℕ) < 2 ^ 32 by decide),
    sel01_vec a _ hs (show (6 : ℕ) < 2 ^ 32 by decide), sel01_vec a _ hs (show (7 : ℕ) < 2 ^ 32 by decide)]
  refine (rank_step a 7 _ _ (rank_step a 6 _ _ (rank_step a 5 _ _ (rank_step a 4 _ _ (rank_step a 3 _ _ (rank_step a 2 _ _ (rank_step a 1 _ _
    (rank_step a 0 _ _ rfl ha (by decide)) ha (by decide)) ha (by decide)) ha (by decide)) ha (by decide)) ha (by decide)) ha (by decide)) ha (by decide)).trans ?_
  exact vec_congr fun l hl => rank_all a l (ha l hl)

/-- The second sixteen tokens' ranks, as the kernel computes them. -/
theorem rank_b_eq :
    k0_pay81 (F := F) (vec a) (k0_pay73 (F := F) (vec a) (k0_pay67 (F := F) (vec a) (k0_pay61 (F := F) (vec a) (k0_pay56 (F := F) (vec a)
        (k0_pay52 (F := F) k0_pay13 (vec a) (k0_pay47 (F := F) (vec a)) (k0_pay48 (F := F) (vec a)))) (k0_pay58 (F := F) (vec a))) (k0_pay64 (F := F) (vec a)))
        (k0_pay69 (F := F) (vec a))) (k0_pay75 (F := F) (vec a)) = vec (rank a) := by
  have hs := small8 a ha
  simp only [k0_pay81, k0_pay73, k0_pay67, k0_pay61, k0_pay56, k0_pay52, k0_pay47, k0_pay48, k0_pay58, k0_pay64, k0_pay69, k0_pay75, k0_pay13, broadcast_vec]
  simp only [sel01_vec a _ hs (show (0 : ℕ) < 2 ^ 32 by decide), sel01_vec a _ hs (show (1 : ℕ) < 2 ^ 32 by decide), sel01_vec a _ hs (show (2 : ℕ) < 2 ^ 32 by decide),
    sel01_vec a _ hs (show (3 : ℕ) < 2 ^ 32 by decide), sel01_vec a _ hs (show (4 : ℕ) < 2 ^ 32 by decide), sel01_vec a _ hs (show (5 : ℕ) < 2 ^ 32 by decide),
    sel01_vec a _ hs (show (6 : ℕ) < 2 ^ 32 by decide), sel01_vec a _ hs (show (7 : ℕ) < 2 ^ 32 by decide)]
  refine (rank_step a 7 _ _ (rank_step a 6 _ _ (rank_step a 5 _ _ (rank_step a 4 _ _ (rank_step a 3 _ _ (rank_step a 2 _ _ (rank_step a 1 _ _
    (rank_step a 0 _ _ rfl ha (by decide)) ha (by decide)) ha (by decide)) ha (by decide)) ha (by decide)) ha (by decide)) ha (by decide)) ha (by decide)).trans ?_
  exact vec_congr fun l hl => rank_all a l (ha l hl)

/-- How many of the first sixteen tokens each expert takes. -/
theorem cnt_a_eq :
    k0_pay80 (F := F) io (vec a) (k0_pay77 (F := F) io (vec a) (k0_pay66 io (k0_pay60 io (k0_pay55 io (k0_pay51 (F := F) io (vec a) (k0_pay46 (F := F) io k0_pay13 (vec a)))
        (k0_pay53 (F := F) (vec a))) (k0_pay57 (F := F) (vec a))) (k0_pay62 (F := F) (vec a))) (k0_pay68 (F := F) (vec a)) (k0_pay71 io) 0#32 k0_pay72)
      = vec fun l => if l < 8 then ∑ j ∈ Finset.range 16, (if a j = l then 1 else 0) else 0 := by
  have hs := small8 a ha
  rw [show io = vec fun l => l from iota_vec]
  simp only [k0_pay80, k0_pay77, k0_pay66, k0_pay60, k0_pay55, k0_pay51, k0_pay46, k0_pay53, k0_pay57, k0_pay62, k0_pay68, k0_pay71, k0_pay72, k0_pay74, k0_pay78,
    k0_pay49, k0_pay44, k0_pay13, broadcast_vec]
  simp only [sel01_vec a _ hs (show (0 : ℕ) < 2 ^ 32 by decide), sel01_vec a _ hs (show (1 : ℕ) < 2 ^ 32 by decide), sel01_vec a _ hs (show (2 : ℕ) < 2 ^ 32 by decide),
    sel01_vec a _ hs (show (3 : ℕ) < 2 ^ 32 by decide), sel01_vec a _ hs (show (4 : ℕ) < 2 ^ 32 by decide), sel01_vec a _ hs (show (5 : ℕ) < 2 ^ 32 by decide),
    sel01_vec a _ hs (show (6 : ℕ) < 2 ^ 32 by decide), sel01_vec a _ hs (show (7 : ℕ) < 2 ^ 32 by decide), vec_scan_one]
  rw [sel01_vec _ 0 iota_small (by decide), sel01_vec _ 1 iota_small (by decide), sel01_vec _ 2 iota_small (by decide), sel01_vec _ 3 iota_small (by decide),
    sel01_vec _ 4 iota_small (by decide), sel01_vec _ 5 iota_small (by decide), sel01_vec _ 6 iota_small (by decide), sel01_vec _ 7 iota_small (by decide)]
  simp only [muli_vec, addi_vec]
  refine vec_congr fun l hl => ?_
  interval_cases l <;> simp

end Ranks

/-! ## The block table -/

/-- The table's index vector: each lane's predecessor, zero's itself. -/
theorem pred_eq : k0_pay85 io = vec fun l => l - 1 := by
  rw [show io = vec fun l => l from iota_vec]
  unfold k0_pay85
  funext i
  have hi := lane_lt i
  show IntOp.maxsi (BitVec.ofNat 32 (i 0).val - 1#32) 0#32 = BitVec.ofNat 32 ((i 0).val - 1)
  generalize (i 0).val = n at hi ⊢
  interval_cases n <;> decide

/-- The first half of the table from the running block counts: zero, the counts, then sixteen past lane eight. -/
theorem table_eq (g : ℕ → ℕ) : k0_pay86 (F := F) io (vec g) = vec fun l => if l = 0 then 0 else if 8 < l then 16 else g l := by
  rw [show io = vec fun l => l from iota_vec]
  unfold k0_pay86
  funext i
  have hi := lane_lt i
  show IntOp.addi (IntOp.muli (IntOp.muli (BitVec.ofNat 32 (g (i 0).val)) (Scalar.select (IntOp.cmpi .eq (BitVec.ofNat 32 (i 0).val) 0#32) 0#32 1#32))
      (Scalar.select (IntOp.cmpi .sgt (BitVec.ofNat 32 (i 0).val) 8#32) 0#32 1#32)) (Scalar.select (IntOp.cmpi .sgt (BitVec.ofNat 32 (i 0).val) 8#32) 16#32 0#32)
    = BitVec.ofNat 32 (if (i 0).val = 0 then 0 else if 8 < (i 0).val then 16 else g (i 0).val)
  generalize (i 0).val = n at hi ⊢
  rw [show Scalar.select (IntOp.cmpi .eq (BitVec.ofNat 32 n) 0#32) 0#32 1#32 = if n = 0 then 0#32 else 1#32 by interval_cases n <;> decide,
    show Scalar.select (IntOp.cmpi .sgt (BitVec.ofNat 32 n) 8#32) 0#32 1#32 = if 8 < n then 0#32 else 1#32 by interval_cases n <;> decide,
    show Scalar.select (IntOp.cmpi .sgt (BitVec.ofNat 32 n) 8#32) 16#32 0#32 = if 8 < n then 16#32 else 0#32 by interval_cases n <;> decide]
  show BitVec.ofNat 32 (g n) * _ * _ + _ = _
  by_cases h0 : n = 0
  · subst h0; simp
  · by_cases h8 : 8 < n <;> simp [h0, h8]

end Cert.Proof.Lanes

end
-- ==== Proof.Count0.lean ====
/-
  The counting of the dispatch: each task copies the index array into tile memory and counts, over its sixty-four groups of
  sixteen tokens, each expert's tokens lane by lane, once over all of them and once over those before its own.
-/
module

public import proofs.«01_k».proof.Proof.Base
public import proofs.«01_k».proof.Proof.Lanes

@[expose] public section

noncomputable section

namespace Cert.Proof.Tile0

open Cert.KernelIdeal Cert.KernelIdeal.Gen
open Cert.Proof.Spec Cert.Proof.Base Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (m : (ℓ : Loc nD τ sig) → Buf (Elt F) ℓ)

local notation "𝕄" => MT nD τ sig (HIx 2) (Elt F) ℕ UU ℕ
local notation "iV" => (Memref.whole Cert.KernelIdeal.main_v2_scv : Memref Cert.KernelIdeal.sig Kind.scVector Space.hbm Cert.KernelIdeal.S1024 EltTy.i32)
local notation "tV" => (Memref.whole Cert.KernelIdeal.main_v3_scv : Memref Cert.KernelIdeal.sig Kind.scVector Space.hbm Cert.KernelIdeal.S1024x4x128 EltTy.f32)
local notation "pV" => (Memref.whole Cert.KernelIdeal.main_v4_0_scv : Memref Cert.KernelIdeal.sig Kind.scVector Space.hbm Cert.KernelIdeal.S2048x4x128 EltTy.f32)
local notation "dV" => (Memref.whole Cert.KernelIdeal.main_v4_1_scv : Memref Cert.KernelIdeal.sig Kind.scVector Space.hbm Cert.KernelIdeal.S1024 EltTy.i32)
local notation "bV" => (Memref.whole Cert.KernelIdeal.main_v4_2_scv : Memref Cert.KernelIdeal.sig Kind.scVector Space.hbm Cert.KernelIdeal.S32 EltTy.i32)
local notation "sI" => (Memref.whole Cert.KernelIdeal.cc0_scratch0 : Memref Cert.KernelIdeal.sig Kind.scVector Space.vmem Cert.KernelIdeal.S1024 EltTy.i32)
local notation "sD" => (Memref.whole Cert.KernelIdeal.cc0_scratch1 : Memref Cert.KernelIdeal.sig Kind.scVector Space.vmem Cert.KernelIdeal.S32 EltTy.i32)
local notation "sR" => (Memref.whole Cert.KernelIdeal.cc0_scratch2 : Memref Cert.KernelIdeal.sig Kind.scVector Space.vmem Cert.KernelIdeal.S32x2x128 EltTy.f32)
local notation "sB" => (Memref.whole Cert.KernelIdeal.cc0_scratch3 : Memref Cert.KernelIdeal.sig Kind.scVector Space.vmem Cert.KernelIdeal.S32 EltTy.i32)
local notation "sT" => (Memref.whole Cert.KernelIdeal.cc0_scratch4 : Memref Cert.KernelIdeal.sig Kind.scVector Space.vmem Cert.KernelIdeal.S16 EltTy.i32)

variable (d : Dev nD) (L : grid0.Coords)

abbrev cV (L : grid0.Coords) : Fin τ.nSC := (L 0).castLE hcore0
abbrev jV (L : grid0.Coords) : Fin τ.nSub := (L 1).castLE hsub0
/-- The task's number. -/
abbrev wL (L : grid0.Coords) : ℕ := wid (Fin.cast rfl (L 0)) (Fin.cast rfl (L 1))

theorem wL_lt : wL L < 32 := wid_lt _ _

/-- The task's number as the task computes it. -/
theorem wL_word : Scalar.addi (Scalar.muli (BitVec.ofNat 32 (L 1).val) 2#32) (BitVec.ofNat 32 (L 0).val) = BitVec.ofNat 32 (wL L) := by
  have h0 : wL L = (L 0).val + 2 * (L 1).val := rfl
  rw [h0]
  show BitVec.ofNat 32 (L 1).val * BitVec.ofNat 32 2 + BitVec.ofNat 32 (L 0).val = _
  rw [← BitVec.ofNat_mul, ← BitVec.ofNat_add]
  congr 1; omega

/-- Sixteen words of the index array from `n`: the experts of tokens `n` to `n + 15`. -/
theorem read_index (c : S1024.Idx → BitVec 32) (off : Fin 1 → ℕ) (n : ℕ) (ho : off = ![n]) (inb : ∀ a, off a + S16.size a ≤ S1024.size a) :
    (((sI).access (Rect.unit (s := S1024) off S16.size inb)).read (Elt F) c : S16.Idx → BitVec 32) = vec fun l => fOf c (n + l) := by
  subst ho
  funext i
  have hi := lane_lt i
  have h0 := inb 0
  simp only [Matrix.cons_val_zero] at h0
  have h1 : n + 16 ≤ 1024 := h0
  have hlt : n + (i 0).val < 1024 := by omega
  show c ((Rect.unit (s := S1024) ![n] S16.size inb).emb i) = BitVec.ofNat 32 (fOf c (n + (i 0).val))
  have e : (Rect.unit (s := S1024) ![n] S16.size inb).emb i = Base.ix1 ⟨n + (i 0).val, hlt⟩ := by
    funext a; fin_cases a
    apply Fin.ext
    show n + 1 * (i 0).val = n + (i 0).val
    omega
  rw [e, fOf, dif_pos hlt, BitVec.ofNat_toNat, BitVec.setWidth_eq]

/-- The sixteen running counts before trip `k`. -/
def St (f : ℕ → ℕ) (B k : ℕ) : IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 :=
  (vec (tot f 0 k), vec (tot f 1 k), vec (tot f 2 k), vec (tot f 3 k), vec (tot f 4 k), vec (tot f 5 k), vec (tot f 6 k), vec (tot f 7 k),
    vec (pre f B 0 k), vec (pre f B 1 k), vec (pre f B 2 k), vec (pre f B 3 k), vec (pre f B 4 k), vec (pre f B 5 k), vec (pre f B 6 k), vec (pre f B 7 k))

abbrev trip (L : grid0.Coords) (v1 : BitVec 32) :=
  k0_t1_body (F := F) L iV (Memref.isWhole_whole _) tV (Memref.isWhole_whole _) pV (Memref.isWhole_whole _) dV (Memref.isWhole_whole _)
    bV (Memref.isWhole_whole _) sI (Memref.isWhole_whole _) sD (Memref.isWhole_whole _) sR (Memref.isWhole_whole _) sB (Memref.isWhole_whole _)
    sT (Memref.isWhole_whole _) cc0_scratch5 cc0_scoped0 cc0_scoped1 cc0_scoped2 cc0_scoped3 cc0_scoped4 v1

/-- The counts so far, and the index array in tile memory. -/
abbrev inv (c : S1024.Idx → BitVec 32) (k : ℕ)
    (acc : IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32) : sProp 𝕄 :=
  iprop(⌜acc = St (fOf c) (2 * wL L) k⌝ ∗ (sI).view.loc (V d (cV L) (jV L)) ↦{fullShare} (c : S1024.Idx → Elt F .i32))

set_option maxRecDepth 8192 in
/-- One trip adds its group of tokens to the counts. -/
theorem trip_step (c : S1024.Idx → BitVec 32) (hc : ∀ t, fOf c t < 8) (k : Fin k0_t1_loop.trips) (acc) :
    inv (F := F) d L c k.val acc
      ⊢ wp frame (wpE (defs₀ (F := F)) 𝒱₀ (V d (cV L) (jV L)) none) Set.univ (trip L (BitVec.ofNat 32 (wL L)) k acc) (inv (F := F) d L c (k.val + 1)) := by
  iintro ⟨%e, Hs⟩
  subst e
  unfold St trip k0_t1_body
  simp only [k0_part1_eq_skeleton]; unfold k0_part1_skel
  simp only [Prog.lift, Prog.bind_op, Prog.bind_ret, Prog.pure_eq_ret]
  iapply (wp_load_rect 𝒱₀ (V d (cV L) (jV L)) none Set.univ (m := sI) (r := Rect.unit (s := S1024) (k0_off1 k) S16.size (k0_off1_inb k)) (S := Finset.univ) (f := (c : S1024.Idx → Elt F .i32)) (q := fullShare) (Finset.subset_univ _)) $$ Hs
  iintro Hs
  rw [wp_ret]; imodintro
  isplitr
  · ipureintro
    rw [read_index (F := F) c (k0_off1 k) (16 * k.val) (k0_off1_eq k) _]
    unfold St
    simp only [k0_pay2, k0_pay3, k0_pay5, k0_pay6, k0_pay8, k0_pay9, k0_pay11, k0_pay12, k0_pay15, k0_pay16, k0_pay18, k0_pay19, k0_pay21, k0_pay22, k0_pay24, k0_pay25,
      pay1_eq hc, pay4_eq hc, pay7_eq hc, pay10_eq hc, pay14_eq hc, pay17_eq hc, pay20_eq hc, pay23_eq hc, flag_eq (wL L) (wL_lt L), tot_step, pre_step]
  · iexact Hs

abbrev part2 (L : grid0.Coords) :=
  k0_part2 (F := F) L iV (Memref.isWhole_whole _) tV (Memref.isWhole_whole _) pV (Memref.isWhole_whole _) dV (Memref.isWhole_whole _)
    bV (Memref.isWhole_whole _) sI (Memref.isWhole_whole _) sD (Memref.isWhole_whole _) sR (Memref.isWhole_whole _) sB (Memref.isWhole_whole _)
    sT (Memref.isWhole_whole _) cc0_scratch5 cc0_scoped0 cc0_scoped1 cc0_scoped2 cc0_scoped3 cc0_scoped4

abbrev cell (d : Dev nD) (c : Fin τ.nSC) (i : Fin τ.nSub) (s : DmaSems sig S_) : GSem nD τ sig := (V d c i, .dma s.sem)

set_option maxRecDepth 8192 in
/-- The index array copied and counted: the values the rest of the dispatch goes on with. -/
theorem wp_part2 (c : S1024.Idx → BitVec 32) (hc : ∀ t, fOf c t < 8) (q : PosShare TreeShare) (fs : Buf (Elt F) ((sI).view.loc (V d (cV L) (jV L))))
    (O : CellTallies nD τ sig (HIx 2)) (W : Waits sig (HIx 2)) {β : Type} (kk : _ → Prog _ β) (Q : β → sProp 𝕄) :
    iprop(Transfers.MayWaits (V d (cV L) (jV L)) (default : HIx 2) O
        ∗ ((iV).view.loc (V d (cV L) (jV L)) ↦[(iV).view.set]{q} (c : S1024.Idx → Elt F .i32)) ∗ ((sI).view.loc (V d (cV L) (jV L)) ↦{fullShare} fs)
        ∗ semVal (cell d (cV L) (jV L) cc0_scoped0) 0 ∗ owes (V d (cV L) (jV L)) O W
        ∗ (∀ W', (⌜∀ p ∈ W', p ∈ W ∨ p.2 = none⌝
            ∗ ((iV).view.loc (V d (cV L) (jV L)) ↦[(iV).view.set]{q} (c : S1024.Idx → Elt F .i32)) ∗ ((sI).view.loc (V d (cV L) (jV L)) ↦{fullShare} (c : S1024.Idx → Elt F .i32))
            ∗ semVal (cell d (cV L) (jV L) cc0_scoped0) 0 ∗ owes (V d (cV L) (jV L)) O W')
          -∗ wp frame (wpE (defs₀ (F := F)) 𝒱₀ (V d (cV L) (jV L)) none) Set.univ
              (kk ⟨BitVec.ofNat 32 (wL L), io, k0_pay13, vec (tot (fOf c) 2 64), vec (tot (fOf c) 3 64), vec (tot (fOf c) 4 64), vec (tot (fOf c) 5 64),
                vec (tot (fOf c) 6 64), vec (tot (fOf c) 7 64), vec (pre (fOf c) (2 * wL L) 2 64), vec (pre (fOf c) (2 * wL L) 3 64),
                vec (pre (fOf c) (2 * wL L) 4 64), vec (pre (fOf c) (2 * wL L) 5 64), vec (pre (fOf c) (2 * wL L) 6 64), vec (pre (fOf c) (2 * wL L) 7 64),
                k0_pay28 (vec (tot (fOf c) 0 64)) (vec (tot (fOf c) 1 64)),
                k0_pay29 (vec (pre (fOf c) (2 * wL L) 0 64)) (vec (pre (fOf c) (2 * wL L) 1 64))⟩) Q))
      ⊢ wp frame (wpE (defs₀ (F := F)) 𝒱₀ (V d (cV L) (jV L)) none) Set.univ (part2 L >>= kk) Q := by
  unfold part2
  rw [k0_part2_eq_skeleton]; unfold k0_part2_skel
  iintro ⟨Hmw, Hi, Hs, Hsem, HO, HK⟩
  sl_exec
  have ev : wp_part2.sl.v1 L = BitVec.ofNat 32 (wL L) := wL_word L
  have ed : View.write (Elt F) (sI).view fs (wp_part2.sl.dma0 c) Finset.univ = (c : S1024.Idx → Elt F .i32) := by
    rw [View.write_whole_univ]; unfold wp_part2.sl.dma0; rfl
  rw [ev, ed, wp_bind]
  iapply (Scf.wp_for_bind frame (wpE (defs₀ (F := F)) 𝒱₀ (V d (cV L) (jV L)) none) Set.univ _ _ _ k0_t1_ok _ _
    (fun k acc => inv (F := F) d L c k acc) (fun k acc => trip_step d L c hc k acc)) $$ [Hs]
  · isplitr
    · ipureintro; rfl
    · iexact Hs
  iintro %acc ⟨%e, Hs⟩
  subst e
  unfold St
  dsimp only
  rw [Prog.pure_eq_ret, wp_ret]; imodintro
  rw [show Scf.trips 0#32 (Scalar.addi 0#32 64#32) 1#32 = 64 by decide, show wp_part2.sl.v2 = io from rfl]
  iapply HK
  isplitr
  swap
  · isplitl [Hi]; · iexact Hi
    isplitl [Hs]; · iexact Hs
    isplitl [Hsem]; · iexact Hsem
    iexact HO
  ipureintro; intro p hp
  rcases Finset.mem_insert.mp hp with rfl | hp
  · exact .inr rfl
  · exact .inl hp

end Cert.Proof.Tile0

end
-- ==== Proof.Words0.lean ====
/-
  The words the dispatch computes from its counts: each expert's first row plus the tokens before the task, the place of
  each of the task's thirty-two tokens, and the table of the experts' blocks.
-/
module

public import proofs.«01_k».proof.Proof.Count0

@[expose] public section

noncomputable section

namespace Cert.Proof.Tile0

open Cert.KernelIdeal Cert.KernelIdeal.Gen
open Cert.Proof.Spec Cert.Proof.Base Cert.Proof.Lanes
open Idealize.ShloMosaic

variable {F : FTy → Type} [FloatOps F]

local notation "sD" => (Memref.whole Cert.KernelIdeal.cc0_scratch1 : Memref Cert.KernelIdeal.sig Kind.scVector Space.vmem Cert.KernelIdeal.S32 EltTy.i32)
local notation "sB" => (Memref.whole Cert.KernelIdeal.cc0_scratch3 : Memref Cert.KernelIdeal.sig Kind.scVector Space.vmem Cert.KernelIdeal.S32 EltTy.i32)
local notation "sT" => (Memref.whole Cert.KernelIdeal.cc0_scratch4 : Memref Cert.KernelIdeal.sig Kind.scVector Space.vmem Cert.KernelIdeal.S16 EltTy.i32)

variable (f : ℕ → ℕ) (hf : ∀ t, f t < 8) (w : ℕ) (hw : w < 32)

/-- Each expert's count over all tokens, lane by lane. -/
def hvL (l : ℕ) : ℕ := if l < 8 then cnt f l 1024 else 0
/-- Each expert's first row plus its tokens before token `n`. -/
def baseL (n l : ℕ) : ℕ := 128 * off f l + cnt f l n

theorem sum_tot (e : ℕ) : ∑ j ∈ Finset.range 16, tot f e 64 j = cnt f e 1024 := cnt_lanes f e 64
include hw in
theorem sum_pre (e : ℕ) : ∑ j ∈ Finset.range 16, pre f (2 * w) e 64 j = cnt f e (32 * w) :=
  (cnt_lanes_below f e (2 * w) 64 (by omega)).trans (congrArg _ (by omega))

/-- The counts as the dispatch puts them together. -/
theorem hv_word :
    k0_pay40 (vec (tot f 7 64)) (k0_pay37 io (vec (tot f 5 64)) (vec (tot f 6 64)) (k0_pay34 io (vec (tot f 2 64)) (vec (tot f 3 64)) (vec (tot f 4 64))
        (k0_pay28 (vec (tot f 0 64)) (vec (tot f 1 64))))) (k0_pay39 io) = vec (hvL f) := by
  rw [hv_eq]
  simp only [sum_tot]
  refine vec_congr fun l hl => ?_
  unfold hvL
  interval_cases l <;> simp

theorem hvL_le (l : ℕ) : hvL f l ≤ 1024 := by
  unfold hvL; split
  · exact cnt_le _ _ _
  · omega

theorem sum_hv (l : ℕ) (hl : l ≤ 8) : ∑ j ∈ Finset.range l, (hvL f j + 127) / 128 = off f l :=
  Finset.sum_congr rfl fun j hj => by
    unfold hvL nb; rw [if_pos (by have := Finset.mem_range.mp hj; omega)]

/-- The running sums of the experts' block numbers. -/
theorem bs_word :
    k0_pay42 (vec (tot f 7 64)) (k0_pay37 io (vec (tot f 5 64)) (vec (tot f 6 64)) (k0_pay34 io (vec (tot f 2 64)) (vec (tot f 3 64)) (vec (tot f 4 64))
        (k0_pay28 (vec (tot f 0 64)) (vec (tot f 1 64))))) (k0_pay39 io) = vec fun l => ∑ j ∈ Finset.range (l + 1), (hvL f j + 127) / 128 :=
  bs_eq _ _ _ _ (hv_word f) fun l _ => hvL_le f l

include hw in
/-- The first rows plus the tokens before the task. -/
theorem base_word : ∃ g : ℕ → ℕ, (∀ l < 8, g l = baseL f (32 * w) l) ∧
    k0_pay43 (vec (tot f 7 64)) (vec (pre f (2 * w) 7 64)) (k0_pay37 io (vec (tot f 5 64)) (vec (tot f 6 64)) (k0_pay34 io (vec (tot f 2 64)) (vec (tot f 3 64)) (vec (tot f 4 64))
        (k0_pay28 (vec (tot f 0 64)) (vec (tot f 1 64)))))
      (k0_pay38 io (vec (pre f (2 * w) 4 64)) (vec (pre f (2 * w) 5 64)) (vec (pre f (2 * w) 6 64)) (k0_pay32 io (vec (pre f (2 * w) 2 64)) (vec (pre f (2 * w) 3 64))
        (k0_pay29 (vec (pre f (2 * w) 0 64)) (vec (pre f (2 * w) 1 64)))) (k0_pay33 io)) (k0_pay39 io) = vec g := by
  refine ⟨_, ?_, base_eq _ _ _ _ _ _ _ (hv_word f) (fun l _ => hvL_le f l) (pv_eq _ _ _ _ _ _ _) rfl⟩
  intro l hl
  simp only [sum_pre f w hw]
  rw [sum_hv f l (by omega)]
  unfold baseL
  interval_cases l <;> simp <;> ring

/-! ### The small table's loads and stores -/

theorem at_T (a : S16.Idx → Elt F .i32) (v : S16.Idx → Elt F .i32) (inb : ∀ k, (![0] : Fin 1 → ℕ) k + S16.size k ≤ S16.size k) :
    ((sT).access (Rect.unit (s := S16) ![0] S16.size inb)).write (Elt F) a v Finset.univ = v := by
  funext i
  have e : ((sT).access (Rect.unit (s := S16) ![0] S16.size inb)).emb i = i := by
    show (Rect.unit (s := S16) ![0] S16.size inb).emb i = i
    funext k; fin_cases k
    apply Fin.ext
    show 0 + 1 * (i 0).val = (i 0).val
    omega
  have h := View.write_emb_of_mem (v := (sT).access (Rect.unit (s := S16) ![0] S16.size inb)) a v (M := Finset.univ) (Finset.mem_univ i)
  rw [e] at h
  exact h

theorem whole_T (a : S16.Idx → Elt F .i32) : ((sT).access (Rect.whole S16)).read (Elt F) a = a := by
  funext i
  show a ((Rect.whole S16).emb i) = a i
  rw [Rect.emb_whole_apply]

theorem chk_vec (a : ℕ → ℕ) (ha : ∀ l < 16, a l < 16) : ∀ (k : Fin 1) x, ((![vec a] : Fin 1 → IVec S16 32) k x).toNat < S16.size k := by
  intro k x
  fin_cases k
  show (BitVec.ofNat 32 (a (x 0).val)).toNat < 16
  have := ha _ (lane_lt x)
  rw [BitVec.toNat_ofNat, Nat.mod_eq_of_lt (by omega)]; exact this

/-- An indexed load of the small table. -/
theorem pick_vec (g a : ℕ → ℕ) (ha : ∀ l < 16, a l < 16) (h : ∀ (k : Fin 1) x, ((![vec a] : Fin 1 → IVec S16 32) k x).toNat < S16.size k) :
    loadIdx (F := F) (e := .i32) (s := S16) (vec g) ![vec a] h = vec fun l => g (a l) := by
  funext x
  show BitVec.ofNat 32 (g (BitVec.ofNat 32 (a (x 0).val)).toNat) = BitVec.ofNat 32 (g (a (x 0).val))
  have := ha _ (lane_lt x)
  rw [BitVec.toNat_ofNat, Nat.mod_eq_of_lt (by omega)]

/-! ### The task's tokens -/

/-- The places of sixteen tokens from `n`: the base of each one's expert and its rank among them. -/
theorem place (n : ℕ) (g : ℕ → ℕ) (hg : ∀ l < 8, g l = baseL f n l) (hf : ∀ t, f t < 8) :
    addi (vec fun l => g (f (n + l))) (vec (rank fun l => f (n + l))) = vec fun l => dest f (n + l) := by
  rw [addi_vec]
  refine vec_congr fun l _ => ?_
  rw [hg _ (hf _), ← dest_base]; rfl

theorem base_next (n : ℕ) (g : ℕ → ℕ) (hg : ∀ l < 8, g l = baseL f n l) :
    ∀ l < 8, g l + (if l < 8 then ∑ j ∈ Finset.range 16, (if f (n + j) = l then 1 else 0) else 0) = baseL f (n + 16) l := by
  intro l hl
  rw [hg l hl, if_pos hl]; unfold baseL
  rw [cnt_add, Nat.add_assoc]

/-- The table of the experts' first blocks. -/
theorem table_word :
    k0_pay86 (F := F) io (vec fun l => ∑ j ∈ Finset.range (l - 1 + 1), (hvL f j + 127) / 128)
      = vec fun l => if l ≤ 8 then off f l else 16 := by
  rw [table_eq]
  refine vec_congr fun l hl => ?_
  by_cases h0 : l = 0
  · subst h0; rfl
  rw [if_neg h0]
  by_cases h8 : 8 < l
  · rw [if_pos h8, if_neg (by omega)]
  · rw [if_neg h8, if_pos (by omega), show l - 1 + 1 = l by omega, sum_hv f l (by omega)]

/-- Two vectors side by side. -/
def two (a b : ℕ → ℕ) : S32.Idx → BitVec 32 := fun i => BitVec.ofNat 32 (if (i 0).val < 16 then a (i 0).val else b ((i 0).val - 16))

theorem emb_lo (inb : ∀ k, (![0] : Fin 1 → ℕ) k + S16.size k ≤ S32.size k) (x : S16.Idx) : ((Rect.unit (s := S32) ![0] S16.size inb).emb x 0).val = (x 0).val := by
  show 0 + 1 * (x 0).val = _; omega
theorem emb_hi (inb : ∀ k, (![16] : Fin 1 → ℕ) k + S16.size k ≤ S32.size k) (x : S16.Idx) : ((Rect.unit (s := S32) ![16] S16.size inb).emb x 0).val = 16 + (x 0).val := by
  show 16 + 1 * (x 0).val = _; omega
theorem not_hi (inb : ∀ k, (![16] : Fin 1 → ℕ) k + S16.size k ≤ S32.size k) (i : S32.Idx) (hi : (i 0).val < 16) : i ∉ (Rect.unit (s := S32) ![16] S16.size inb).set := by
  intro h
  have h0 : 16 ≤ (i 0).val ∧ (i 0).val < 16 + 16 := (Rect.mem_set_unit.mp h) 0
  omega

/-- Every place of thirty-two words is in one of the two halves. -/
theorem halves (inb0 : ∀ k, (![0] : Fin 1 → ℕ) k + S16.size k ≤ S32.size k) (inb1 : ∀ k, (![16] : Fin 1 → ℕ) k + S16.size k ≤ S32.size k) (i : S32.Idx) :
    ((i 0).val < 16 ∧ ∃ x : S16.Idx, (Rect.unit (s := S32) ![0] S16.size inb0).emb x = i)
      ∨ (¬ (i 0).val < 16 ∧ ∃ x : S16.Idx, (Rect.unit (s := S32) ![16] S16.size inb1).emb x = i) := by
  have hi : (i 0).val < 32 := (i 0).isLt
  by_cases h : (i 0).val < 16
  · refine .inl ⟨h, Base.ix1 ⟨(i 0).val, h⟩, ?_⟩
    funext k; fin_cases k; apply Fin.ext
    exact (emb_lo inb0 _)
  · refine .inr ⟨h, Base.ix1 ⟨(i 0).val - 16, by omega⟩, ?_⟩
    funext k; fin_cases k; apply Fin.ext
    refine (emb_hi inb1 _).trans ?_
    show 16 + ((i 0).val - 16) = (i 0).val
    omega

theorem two_D (c : S32.Idx → Elt F .i32) (a b : ℕ → ℕ) (inb0 : ∀ k, (![0] : Fin 1 → ℕ) k + S16.size k ≤ S32.size k) (inb1 : ∀ k, (![16] : Fin 1 → ℕ) k + S16.size k ≤ S32.size k) :
    ((sD).access (Rect.unit (s := S32) ![16] S16.size inb1)).write (Elt F) (((sD).access (Rect.unit (s := S32) ![0] S16.size inb0)).write (Elt F) c (vec a) Finset.univ) (vec b) Finset.univ
      = two a b := by
  funext i
  rcases halves inb0 inb1 i with ⟨h, x, rfl⟩ | ⟨h, x, rfl⟩
  · refine (View.write_of_not_mem _ _ Finset.univ fun hm => not_hi inb1 _ h ?_).trans ?_
    · rw [View.setOn_univ] at hm
      have e : ((sD).access (Rect.unit (s := S32) ![16] S16.size inb1)).set = (Rect.unit (s := S32) ![16] S16.size inb1).set := View.set_slice_whole _ _
      rw [e] at hm; exact hm
    refine (View.write_emb_of_mem (v := (sD).access (Rect.unit (s := S32) ![0] S16.size inb0)) c (vec a) (M := Finset.univ) (Finset.mem_univ x)).trans ?_
    unfold two; rw [if_pos h, emb_lo]; rfl
  · refine (View.write_emb_of_mem (Val := Elt F) (v := (sD).access (Rect.unit (s := S32) ![16] S16.size inb1)) _ (vec b) (M := Finset.univ) (Finset.mem_univ x)).trans ?_
    unfold two; rw [if_neg h, emb_hi]
    show BitVec.ofNat 32 _ = BitVec.ofNat 32 _
    congr 2; omega

theorem two_B (c : S32.Idx → Elt F .i32) (a b : ℕ → ℕ) (inb0 : ∀ k, (![0] : Fin 1 → ℕ) k + S16.size k ≤ S32.size k) (inb1 : ∀ k, (![16] : Fin 1 → ℕ) k + S16.size k ≤ S32.size k) :
    ((sB).access (Rect.unit (s := S32) ![16] S16.size inb1)).write (Elt F) (((sB).access (Rect.unit (s := S32) ![0] S16.size inb0)).write (Elt F) c (vec a) Finset.univ) (vec b) Finset.univ
      = two a b := two_D c a b inb0 inb1

end Cert.Proof.Tile0

end
-- ==== Proof.Scatter0.lean ====
/-
  The scatter of the dispatch: which rows of the padded tokens a task's thirty-two words name, and what its two streams
  leave in them.
-/
module

public import proofs.«01_k».proof.Proof.Words0

@[expose] public section

noncomputable section

namespace Cert.Proof.Tile0

open Cert.KernelIdeal Cert.KernelIdeal.Gen
open Cert.Proof.Spec Cert.Proof.Base Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (m : (ℓ : Loc nD τ sig) → Buf (Elt F) ℓ)

local notation "𝕄" => MT nD τ sig (HIx 2) (Elt F) ℕ UU ℕ
local notation "iV" => (Memref.whole Cert.KernelIdeal.main_v2_scv : Memref Cert.KernelIdeal.sig Kind.scVector Space.hbm Cert.KernelIdeal.S1024 EltTy.i32)
local notation "tV" => (Memref.whole Cert.KernelIdeal.main_v3_scv : Memref Cert.KernelIdeal.sig Kind.scVector Space.hbm Cert.KernelIdeal.S1024x4x128 EltTy.f32)
local notation "pV" => (Memref.whole Cert.KernelIdeal.main_v4_0_scv : Memref Cert.KernelIdeal.sig Kind.scVector Space.hbm Cert.KernelIdeal.S2048x4x128 EltTy.f32)
local notation "dV" => (Memref.whole Cert.KernelIdeal.main_v4_1_scv : Memref Cert.KernelIdeal.sig Kind.scVector Space.hbm Cert.KernelIdeal.S1024 EltTy.i32)
local notation "bV" => (Memref.whole Cert.KernelIdeal.main_v4_2_scv : Memref Cert.KernelIdeal.sig Kind.scVector Space.hbm Cert.KernelIdeal.S32 EltTy.i32)
local notation "sI" => (Memref.whole Cert.KernelIdeal.cc0_scratch0 : Memref Cert.KernelIdeal.sig Kind.scVector Space.vmem Cert.KernelIdeal.S1024 EltTy.i32)
local notation "sD" => (Memref.whole Cert.KernelIdeal.cc0_scratch1 : Memref Cert.KernelIdeal.sig Kind.scVector Space.vmem Cert.KernelIdeal.S32 EltTy.i32)
local notation "sR" => (Memref.whole Cert.KernelIdeal.cc0_scratch2 : Memref Cert.KernelIdeal.sig Kind.scVector Space.vmem Cert.KernelIdeal.S32x2x128 EltTy.f32)
local notation "sB" => (Memref.whole Cert.KernelIdeal.cc0_scratch3 : Memref Cert.KernelIdeal.sig Kind.scVector Space.vmem Cert.KernelIdeal.S32 EltTy.i32)
local notation "sT" => (Memref.whole Cert.KernelIdeal.cc0_scratch4 : Memref Cert.KernelIdeal.sig Kind.scVector Space.vmem Cert.KernelIdeal.S16 EltTy.i32)

theorem inb_dst (h : ℕ) (hh : h < 2) : ∀ a, (![0, 2 * h, 0] : Fin 3 → ℕ) a + S2048x2x128.size a ≤ S2048x4x128.size a := by
  intro a; fin_cases a
  · show 0 + 2048 ≤ 2048; omega
  · show 2 * h + 2 ≤ 4; omega
  · show 0 + 128 ≤ 128; omega

abbrev dK (off : Fin 3 → ℕ) (inb : ∀ a, off a + S2048x2x128.size a ≤ S2048x4x128.size a) : Memref sig .scVector .hbm S2048x2x128 .f32 :=
  (pV).slice (Rect.unit (s := S2048x4x128) off S2048x2x128.size inb) (fun _ => rfl)
abbrev tK (off : Fin 3 → ℕ) (inb : ∀ a, off a + S32x2x128.size a ≤ S1024x4x128.size a) : Memref sig .scVector .hbm S32x2x128 .f32 :=
  (tV).slice (Rect.unit (s := S1024x4x128) off S32x2x128.size inb) (fun _ => rfl)
abbrev gG : S2048x2x128.Gathers 0 S32x2x128 := gathers_S2048x2x128_S32x2x128
/-- Row `r` of half of the columns of the padded tokens. -/
abbrev rowK (off : Fin 3 → ℕ) (inb : ∀ a, off a + S2048x2x128.size a ≤ S2048x4x128.size a) (r : Fin (S2048x2x128.size gG.axis)) :=
  (dK off inb).view.slice (S2048x2x128.rowRect gG.axis r)

/-- Where a place of row `r` lies. -/
theorem rowK_emb (off : Fin 3 → ℕ) (inb : ∀ a, off a + S2048x2x128.size a ≤ S2048x4x128.size a) (r : Fin (S2048x2x128.size gG.axis))
    (x : (S2048x2x128.rowShape gG.axis).Idx) (b : Fin 3) :
    ((show S2048x4x128.Idx from (rowK off inb r).emb x) b).val = off b + if b = gG.axis then r.val else (x b).val := by
  have h := Shape.rowRect_emb_val (s := S2048x2x128) gG.axis r x b
  rw [← h]
  show off b + 1 * _ = _
  rw [Nat.one_mul]

theorem mem_rowK (h : ℕ) (inb : ∀ a, (![0, 2 * h, 0] : Fin 3 → ℕ) a + S2048x2x128.size a ≤ S2048x4x128.size a) (r : Fin (S2048x2x128.size gG.axis)) (i : S2048x4x128.Idx) :
    i ∈ (rowK ![0, 2 * h, 0] inb r).set ↔ (i 0).val = r.val ∧ (i 1).val / 2 = h := by
  constructor
  · intro hi
    obtain ⟨x, -, rfl⟩ := Finset.mem_map.mp hi
    have hx : (x 1).val < 2 := (x 1).isLt
    have e0 : ((show S2048x4x128.Idx from (rowK ![0, 2 * h, 0] inb r).emb x) 0).val = 0 + r.val := rowK_emb ![0, 2 * h, 0] inb r x 0
    have e1 : ((show S2048x4x128.Idx from (rowK ![0, 2 * h, 0] inb r).emb x) 1).val = 2 * h + (x 1).val := rowK_emb ![0, 2 * h, 0] inb r x 1
    exact ⟨e0.trans (Nat.zero_add _), (congrArg (· / 2) e1).trans (by show (2 * h + (x 1).val) / 2 = h; omega)⟩
  · rintro ⟨h0, h1⟩
    have l1 : (i 1).val - 2 * h < 2 := by omega
    let x : (S2048x2x128.rowShape gG.axis).Idx := fun b => match b with
      | ⟨0, _⟩ => ⟨0, Nat.zero_lt_one⟩
      | ⟨1, _⟩ => ⟨(i 1).val - 2 * h, l1⟩
      | ⟨2, _⟩ => ⟨(i 2).val, (i 2).isLt⟩
    refine Finset.mem_map.mpr ⟨x, Finset.mem_univ _, ?_⟩
    funext b; apply Fin.ext
    refine (rowK_emb ![0, 2 * h, 0] inb r x b).trans ?_
    fin_cases b
    · show 0 + r.val = (i 0).val; omega
    · show 2 * h + ((i 1).val - 2 * h) = (i 1).val; omega
    · show 0 + (i 2).val = (i 2).val; omega

variable (d : Dev nD) (L : grid0.Coords) (f : ℕ → ℕ) (w : ℕ)

/-- The places of a task's thirty-two tokens. -/
def words : S32.Idx → BitVec 32 := fun x => BitVec.ofNat 32 (dest f (32 * w + (x 0).val))

theorem two_words : two (fun l => dest f (32 * w + l)) (fun l => dest f (32 * w + 16 + l)) = words f w := by
  funext x
  unfold two words
  split
  · rfl
  · next h =>
    show BitVec.ofNat 32 (dest f (32 * w + 16 + ((x 0).val - 16))) = BitVec.ofNat 32 (dest f (32 * w + (x 0).val))
    rw [show 32 * w + 16 + ((x 0).val - 16) = 32 * w + (x 0).val by omega]

variable (hf : ∀ t < 1024, f t < 8) (hw : w < 32)
include hf hw

theorem words_toNat (x : S32.Idx) : (words f w x).toNat = dest f (32 * w + (x 0).val) := by
  have hx : (x 0).val < 32 := (x 0).isLt
  have h := dest_lt hf (32 * w + (x 0).val) (by omega)
  unfold words
  rw [BitVec.toNat_ofNat]; exact Nat.mod_eq_of_lt (by omega)

theorem words_in (x : S32.Idx) : (words f w x).toNat < S2048x2x128.size gG.axis := by
  have hx : (x 0).val < 32 := (x 0).isLt
  rw [words_toNat f w hf hw]
  exact dest_lt hf _ (by omega)

theorem words_inj : Function.Injective fun x : S32.Idx => (words f w x).toNat := by
  intro x y h
  have hx : (x 0).val < 32 := (x 0).isLt
  have hy : (y 0).val < 32 := (y 0).isLt
  simp only [words_toNat f w hf hw] at h
  have := dest_inj (f := f) (by omega) (by omega) h
  funext b; fin_cases b; apply Fin.ext
  show (x 0).val = (y 0).val
  omega

/-- The row entry `k` names. -/
theorem rows_words (hn : S32.numel = S32x2x128.size gG.axis') (hin : ∀ x, (words f w x).toNat < S2048x2x128.size gG.axis) (k : Fin (S32x2x128.size gG.axis')) :
    (SparseCore.rows (F := F) (si := S32) (words f w) hn hin k).val = dest f (32 * w + k.val) := by
  show (words f w (S32.rowMajor.symm (k.cast hn.symm))).toNat = _
  rw [words_toNat f w hf hw]
  have e : ((S32.rowMajor.symm (k.cast hn.symm)) 0).val = k.val := by
    refine (Shape.rowMajor_val_one (d := ![32]) (S32.rowMajor.symm (k.cast hn.symm))).symm.trans ?_
    exact congrArg Fin.val (S32.rowMajor.apply_symm_apply (k.cast hn.symm))
  rw [e]

/-- The rows the list names are the task's rows, in the half of the columns the stream moves. -/
theorem named_eq (h : ℕ) (inb : ∀ a, (![0, 2 * h, 0] : Fin 3 → ℕ) a + S2048x2x128.size a ≤ S2048x4x128.size a)
    (hn : S32.numel = S32x2x128.size gG.axis') (hin : ∀ x, (words f w x).toNat < S2048x2x128.size gG.axis) :
    SparseCore.namedRows (V d (cV L) (jV L)) (dK ![0, 2 * h, 0] inb).view gG.axis (SparseCore.rows (F := F) (si := S32) (words f w) hn hin) = rowSet f w h := by
  ext i
  rw [SparseCore.namedRows_eq, Finset.mem_biUnion]
  unfold rowSet
  rw [Finset.mem_filter]
  constructor
  · rintro ⟨k, -, hk⟩
    obtain ⟨h0, h1⟩ := (mem_rowK h inb _ i).mp hk
    have hk32 : k.val < 32 := k.isLt
    rw [rows_words (F := F) f w hf hw] at h0
    exact ⟨Finset.mem_univ _, ⟨⟨32 * w + k.val, by omega⟩, by show (32 * w + k.val) / 32 = w; omega, h0.symm⟩, h1⟩
  · rintro ⟨-, ⟨t, ht, h0⟩, h1⟩
    have hz : S32x2x128.size gG.axis' = 32 := rfl
    have hk : t.val - 32 * w < S32x2x128.size gG.axis' := by rw [hz]; omega
    refine ⟨⟨t.val - 32 * w, hk⟩, Finset.mem_univ _, (mem_rowK h inb _ i).mpr ⟨?_, h1⟩⟩
    rw [rows_words (F := F) f w hf hw, ← h0]
    show dest f t.val = dest f (32 * w + (t.val - 32 * w))
    rw [show 32 * w + (t.val - 32 * w) = t.val by omega]

omit hf hw in
/-- A row of the tokens a task has copied, read as a row of the target. -/
theorem payload (h : ℕ) (off : Fin 3 → ℕ) (ho : off = ![32 * w, 2 * h, 0]) (inb' : ∀ a, off a + S32x2x128.size a ≤ S1024x4x128.size a)
    (tok : S1024x4x128.Idx → Elt F .f32) (k : Fin (S32x2x128.size gG.axis')) (x : (S2048x2x128.rowShape gG.axis).Idx)
    (t : Fin 1024) (a : Fin 4) (b : Fin 128) (ht : t.val = 32 * w + k.val) (ha : a.val = 2 * h + (x (1 : Fin 3)).val) (hb : b.val = (x (2 : Fin 3)).val) :
    SparseCore.scatterRowPayload (V d (cV L) (jV L)) (sR) gG ((tK off inb').view.read (Elt F) tok) k x = tok (Base.ix3 t a b) := by
  subst ho
  refine (congrFun (View.read_cast ((sR).view.slice (S32x2x128.rowRect gG.axis' k)) gG.rowShape_eq rfl ((tK ![32 * w, 2 * h, 0] inb').view.read (Elt F) tok)) x).trans ?_
  have hy : ∀ b : Fin 3, (((Shape.idxEquiv gG.rowShape_eq).symm x) b).val = (x b).val := fun b => Shape.idxEquiv_symm_apply_val gG.rowShape_eq x b
  show tok ((Rect.unit (s := S1024x4x128) ![32 * w, 2 * h, 0] S32x2x128.size inb').emb
    ((S32x2x128.rowRect gG.axis' k).emb ((Shape.idxEquiv gG.rowShape_eq).symm x))) = _
  generalize (Shape.idxEquiv gG.rowShape_eq).symm x = y at hy ⊢
  have hz : ∀ b : Fin 3, (((S32x2x128.rowRect gG.axis' k).emb y) b).val = if b = gG.axis' then k.val else (y b).val := Shape.rowRect_emb_val gG.axis' k y
  have hb' : ∀ b : Fin 3, (((Rect.unit (s := S1024x4x128) ![32 * w, 2 * h, 0] S32x2x128.size inb').emb
    ((S32x2x128.rowRect gG.axis' k).emb y)) b).val = (![32 * w, 2 * h, 0] : Fin 3 → ℕ) b + if b = gG.axis' then k.val else (y b).val := by
    intro b; rw [← hz b]; show _ + 1 * _ = _; rw [Nat.one_mul]; rfl
  congr 1
  funext b; apply Fin.ext
  refine (hb' b).trans ?_
  fin_cases b
  · show 32 * w + k.val = t.val; omega
  · show 2 * h + (y (1 : Fin 3)).val = a.val; rw [hy 1]; omega
  · show 0 + (y (2 : Fin 3)).val = b.val; rw [hy 2]; omega

set_option maxHeartbeats 2000000 in
/-- The stream's rows hold the task's tokens at their places. -/
theorem scattered (h : ℕ) (inb : ∀ a, (![0, 2 * h, 0] : Fin 3 → ℕ) a + S2048x2x128.size a ≤ S2048x4x128.size a)
    (off : Fin 3 → ℕ) (ho : off = ![32 * w, 2 * h, 0]) (inb' : ∀ a, off a + S32x2x128.size a ≤ S1024x4x128.size a)
    (hn : S32.numel = S32x2x128.size gG.axis') (hin : ∀ x, (words f w x).toNat < S2048x2x128.size gG.axis)
    (tok : S1024x4x128.Idx → Elt F .f32) (fd m₀ : S2048x4x128.Idx → Elt F .f32) (fs : S32x2x128.Idx → Elt F .f32)
    (hs : fs = (tK off inb').view.read (Elt F) tok) (i : S2048x4x128.Idx) (hi : i ∈ rowSet f w h) :
    SparseCore.scatterBuf (V d (cV L) (jV L)) (dK ![0, 2 * h, 0] inb).view gG.axis (SparseCore.rows (F := F) (si := S32) (words f w) hn hin)
        (SparseCore.scatterRowPayload (V d (cV L) (jV L)) (sR) gG fs) fd i = Xpad f tok m₀ i := by
  rw [← named_eq (F := F) d L f w hf hw h inb hn hin, SparseCore.namedRows_eq, Finset.mem_biUnion] at hi
  obtain ⟨k, -, hk⟩ := hi
  have hk32 : k.val < 32 := k.isLt
  have hinj := SparseCore.rows_injective (F := F) (hn := hn) (h := hin) (words_inj f w hf hw)
  rw [SparseCore.scatterBuf_of_mem (V d (cV L) (jV L)) _ gG.axis _ hinj _ _ hk]
  obtain ⟨x, -, rfl⟩ := Finset.mem_map.mp hk
  refine (View.write_emb_of_mem (Val := Elt F) (v := rowK ![0, 2 * h, 0] inb _) fd _ (M := Finset.univ) (Finset.mem_univ x)).trans ?_
  subst hs
  have hr := rows_words (F := F) f w hf hw hn hin k
  generalize SparseCore.rows (F := F) (si := S32) (words f w) hn hin k = r at hr hk ⊢
  have e0 : ((show S2048x4x128.Idx from (rowK ![0, 2 * h, 0] inb r).emb x) 0).val = 0 + r.val := rowK_emb ![0, 2 * h, 0] inb r x 0
  have e1 : ((show S2048x4x128.Idx from (rowK ![0, 2 * h, 0] inb r).emb x) 1).val = 2 * h + (x 1).val := rowK_emb ![0, 2 * h, 0] inb r x 1
  have e2 : ((show S2048x4x128.Idx from (rowK ![0, 2 * h, 0] inb r).emb x) 2).val = 0 + (x 2).val := rowK_emb ![0, 2 * h, 0] inb r x 2
  show _ = Xpad f tok m₀ (show S2048x4x128.Idx from (rowK ![0, 2 * h, 0] inb r).emb x)
  generalize (show S2048x4x128.Idx from (rowK ![0, 2 * h, 0] inb r).emb x) = i at e0 e1 e2 ⊢
  have e0' : dest f (32 * w + k.val) = (i 0).val := by rw [e0, hr, Nat.zero_add]
  have ht : 32 * w + k.val < 1024 := by omega
  have hex : ∃ t : Fin 1024, dest f t.val = (i 0).val := ⟨⟨32 * w + k.val, ht⟩, e0'⟩
  unfold Xpad
  rw [dif_pos hex]
  have hch : (Classical.choose hex).val = 32 * w + k.val := dest_inj (f := f) (Fin.isLt _) ht ((Classical.choose_spec hex).trans e0'.symm)
  generalize Classical.choose hex = t at hch
  exact payload (F := F) d L w h off ho inb' tok k x t (i 1) (i 2) hch e1 (e2.trans (Nat.zero_add _))

end Cert.Proof.Tile0

end
-- ==== Proof.Tile0.lean ====
/-
  The dispatch's task: the counted index array gives each of its thirty-two tokens its place, the task scatters the tokens
  to their places, and the first task writes the block table.
-/
module

public import proofs.«01_k».proof.Proof.Scatter0

@[expose] public section

noncomputable section

namespace Cert.Proof.Tile0

open Cert.KernelIdeal Cert.KernelIdeal.Gen
open Cert.Proof.Spec Cert.Proof.Base Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (m : (ℓ : Loc nD τ sig) → Buf (Elt F) ℓ)

local notation "𝕄" => MT nD τ sig (HIx 2) (Elt F) ℕ UU ℕ
local notation "iV" => (Memref.whole Cert.KernelIdeal.main_v2_scv : Memref Cert.KernelIdeal.sig Kind.scVector Space.hbm Cert.KernelIdeal.S1024 EltTy.i32)
local notation "tV" => (Memref.whole Cert.KernelIdeal.main_v3_scv : Memref Cert.KernelIdeal.sig Kind.scVector Space.hbm Cert.KernelIdeal.S1024x4x128 EltTy.f32)
local notation "pV" => (Memref.whole Cert.KernelIdeal.main_v4_0_scv : Memref Cert.KernelIdeal.sig Kind.scVector Space.hbm Cert.KernelIdeal.S2048x4x128 EltTy.f32)
local notation "dV" => (Memref.whole Cert.KernelIdeal.main_v4_1_scv : Memref Cert.KernelIdeal.sig Kind.scVector Space.hbm Cert.KernelIdeal.S1024 EltTy.i32)
local notation "bV" => (Memref.whole Cert.KernelIdeal.main_v4_2_scv : Memref Cert.KernelIdeal.sig Kind.scVector Space.hbm Cert.KernelIdeal.S32 EltTy.i32)
local notation "sI" => (Memref.whole Cert.KernelIdeal.cc0_scratch0 : Memref Cert.KernelIdeal.sig Kind.scVector Space.vmem Cert.KernelIdeal.S1024 EltTy.i32)
local notation "sD" => (Memref.whole Cert.KernelIdeal.cc0_scratch1 : Memref Cert.KernelIdeal.sig Kind.scVector Space.vmem Cert.KernelIdeal.S32 EltTy.i32)
local notation "sR" => (Memref.whole Cert.KernelIdeal.cc0_scratch2 : Memref Cert.KernelIdeal.sig Kind.scVector Space.vmem Cert.KernelIdeal.S32x2x128 EltTy.f32)
local notation "sB" => (Memref.whole Cert.KernelIdeal.cc0_scratch3 : Memref Cert.KernelIdeal.sig Kind.scVector Space.vmem Cert.KernelIdeal.S32 EltTy.i32)
local notation "sT" => (Memref.whole Cert.KernelIdeal.cc0_scratch4 : Memref Cert.KernelIdeal.sig Kind.scVector Space.vmem Cert.KernelIdeal.S16 EltTy.i32)

variable (d : Dev nD) (L : grid0.Coords)

/-! ## What a task holds, as its copies name it -/

abbrev dwK (L : grid0.Coords) : Memref sig .scVector .hbm S32 .i32 := (dV).slice (Rect.unit (s := S1024) (k0_off4 L) S32.size (k0_off4_inb L)) (fun _ => rfl)
abbrev t0K (L : grid0.Coords) : Memref sig .scVector .hbm S32x2x128 .f32 := tK (k0_off5 L) (k0_off5_inb L)
abbrev t1K (L : grid0.Coords) : Memref sig .scVector .hbm S32x2x128 .f32 := tK (k0_off6 L) (k0_off6_inb L)

theorem off4 : k0_off4 L = ![32 * wL L] := by
  rw [k0_off4_eq]; congr 1; have h0 : wL L = (L 0).val + 2 * (L 1).val := rfl; omega
theorem off2 : k0_off2 L = ![32 * wL L] := by
  rw [k0_off2_eq]; congr 1; have h0 : wL L = (L 0).val + 2 * (L 1).val := rfl; omega
theorem off3 : k0_off3 L = ![32 * wL L + 16] := by
  rw [k0_off3_eq]; congr 1; have h0 : wL L = (L 0).val + 2 * (L 1).val := rfl; omega
theorem off5 : k0_off5 L = ![32 * wL L, 2 * 0, 0] := by
  rw [k0_off5_eq]; have h0 : wL L = (L 0).val + 2 * (L 1).val := rfl
  rw [show 64 * (L 1).val + 32 * (L 0).val = 32 * wL L by omega]
theorem off6 : k0_off6 L = ![32 * wL L, 2 * 1, 0] := by
  rw [k0_off6_eq]; have h0 : wL L = (L 0).val + 2 * (L 1).val := rfl
  rw [show 64 * (L 1).val + 32 * (L 0).val = 32 * wL L by omega]

theorem set_dw : (dwK L).view.set = wordSet (wL L) := by
  refine (View.set_slice_whole _ _).trans ?_
  ext i
  rw [Rect.mem_set_unit, off4]
  unfold wordSet
  rw [Finset.mem_filter]
  have hi : (i 0).val < 1024 := (i 0).isLt
  constructor
  · intro h
    have h0 : 32 * wL L ≤ (i 0).val ∧ (i 0).val < 32 * wL L + 32 := h 0
    exact ⟨Finset.mem_univ _, by omega⟩
  · rintro ⟨-, h⟩ a
    fin_cases a
    show 32 * wL L ≤ (i 0).val ∧ (i 0).val < 32 * wL L + 32
    omega

theorem set_t (off : Fin 3 → ℕ) (h : ℕ) (ho : off = ![32 * wL L, 2 * h, 0]) (inb : ∀ a, off a + S32x2x128.size a ≤ S1024x4x128.size a) : (tK off inb).view.set = tokSet (wL L) h := by
  subst ho
  refine (View.set_slice_whole _ _).trans ?_
  ext i
  rw [Rect.mem_set_unit]
  unfold tokSet
  rw [Finset.mem_filter]
  constructor
  · intro hm
    have h0 : 32 * wL L ≤ (i 0).val ∧ (i 0).val < 32 * wL L + 32 := hm 0
    have h1 : 2 * h ≤ (i 1).val ∧ (i 1).val < 2 * h + 2 := hm 1
    exact ⟨Finset.mem_univ _, by omega, by omega⟩
  · rintro ⟨-, h0, h1⟩ a
    have h2 : (i 2).val < 128 := (i 2).isLt
    fin_cases a
    · show 32 * wL L ≤ (i 0).val ∧ (i 0).val < 32 * wL L + 32; omega
    · show 2 * h ≤ (i 1).val ∧ (i 1).val < 2 * h + 2; omega
    · show 0 ≤ (i 2).val ∧ (i 2).val < 0 + 128; omega

/-- The words a task writes out are its tokens' places. -/
theorem placed (fd : S1024.Idx → BitVec 32) (f : ℕ → ℕ) (ws : S32.Idx → BitVec 32) (hws : ws = words f (wL L)) :
    ∀ i ∈ (dwK L).view.set, (dwK L).view.writes (Elt F) fd [⟨Rect.whole S32, ws⟩] i = (Dst f : S1024.Idx → Elt F .i32) i := by
  intro i hi
  obtain ⟨x, -, rfl⟩ := Finset.mem_map.mp hi
  subst hws
  have e : (Rect.whole S32).emb x = x := Rect.emb_whole_apply S32 x
  have h := View.read_writes_cons_emb (Val := Elt F) (dwK L).view fd (Rect.whole S32) (words f (wL L)) [] x
  rw [e] at h
  have hv : ((show S1024.Idx from (dwK L).view.emb x) 0).val = 32 * wL L + (x 0).val := by
    show (k0_off4 L) 0 + 1 * (x 0).val = _
    rw [off4, Nat.one_mul]; rfl
  refine h.trans ?_
  show BitVec.ofNat 32 _ = BitVec.ofNat 32 (dest f ((show S1024.Idx from (dwK L).view.emb x) 0).val)
  rw [hv]

theorem ownSems0_V :
    (ownSems0 (V d (cV L) (jV L)) : sProp 𝕄)
      = iprop(semVal (cell d (cV L) (jV L) cc0_scoped0) 0 ∗ semVal (cell d (cV L) (jV L) cc0_scoped1) 0
          ∗ semVal (cell d (cV L) (jV L) cc0_scoped2) 0 ∗ semVal (cell d (cV L) (jV L) cc0_scoped3) 0
          ∗ semVal (cell d (cV L) (jV L) cc0_scoped4) 0 ∗ semVal (cell d (cV L) (jV L) cc0_scratch5) 0
          ∗ bigSep (((((((ownCells (V d (cV L) (jV L))).erase (cell d (cV L) (jV L) cc0_scoped0)).erase (cell d (cV L) (jV L) cc0_scoped1)).erase
              (cell d (cV L) (jV L) cc0_scoped2)).erase (cell d (cV L) (jV L) cc0_scoped3)).erase (cell d (cV L) (jV L) cc0_scoped4)).erase
              (cell d (cV L) (jV L) cc0_scratch5)) fun g => semVal g 0) := by
  have hmem : ∀ s : DmaSems sig S_, (SemLoc.dma s.sem : SemLoc sig).isScoped .scVector = true → cell d (cV L) (jV L) s ∈ ownCells (V d (cV L) (jV L)) :=
    fun s h => mem_ownCells.mpr ⟨rfl, h⟩
  have hne : ∀ s s' : DmaSems sig S_, s.sem ≠ s'.sem → cell d (cV L) (jV L) s ≠ cell d (cV L) (jV L) s' :=
    fun s s' h e => h (by simpa [cell] using e)
  unfold SparseCore.Cfg.ownSems0
  rw [SparseCore.bigSep_erase' (hmem cc0_scoped0 (by decide)),
    SparseCore.bigSep_erase' (Finset.mem_erase.mpr ⟨hne _ _ (by decide), hmem cc0_scoped1 (by decide)⟩),
    SparseCore.bigSep_erase' (Finset.mem_erase.mpr ⟨hne _ _ (by decide), Finset.mem_erase.mpr ⟨hne _ _ (by decide), hmem cc0_scoped2 (by decide)⟩⟩),
    SparseCore.bigSep_erase' (Finset.mem_erase.mpr ⟨hne _ _ (by decide), Finset.mem_erase.mpr ⟨hne _ _ (by decide),
      Finset.mem_erase.mpr ⟨hne _ _ (by decide), hmem cc0_scoped3 (by decide)⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hmem cc0_scoped4 (by decide)⟩⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), Finset.mem_erase.mpr ⟨hne _ _ (by decide), hmem cc0_scratch5 (by decide)⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  have hmem : ∀ b : Ref sig Kind.scVector, ((Proc.scVector (cV L) (jV L)).devRef b).owner = .proc (Proc.scVector (cV L) (jV L)) →
      (Proc.scVector (cV L) (jV L)).devRef b ∈ ownRefs (τ := τ) (.scVector (cV L) (jV L)) :=
    fun b h => SparseCore.Cfg.mem_ownRefs_of_owner (p := Proc.scVector (cV L) (jV L)) h
  have hne : ∀ b b' : Ref sig Kind.scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (hmem cc0_scratch0 rfl)).trans ?_
  rw [
    SparseCore.bigSep_erase' (Finset.mem_erase.mpr ⟨hne _ _ (by decide), hmem cc0_scratch1 rfl⟩),
    SparseCore.bigSep_erase' (Finset.mem_erase.mpr ⟨hne _ _ (by decide), Finset.mem_erase.mpr ⟨hne _ _ (by decide), hmem cc0_scratch2 rfl⟩⟩),
    SparseCore.bigSep_erase' (Finset.mem_erase.mpr ⟨hne _ _ (by decide), Finset.mem_erase.mpr ⟨hne _ _ (by decide),
      Finset.mem_erase.mpr ⟨hne _ _ (by decide), hmem cc0_scratch3 rfl⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hmem cc0_scratch4 rfl⟩⟩⟩⟩)]

theorem pts_iV (q : PosShare TreeShare) (f : S1024.Idx → Elt F .i32) :
    ((iV).view.loc (V d (cV L) (jV L)) ↦[(iV).view.set]{q} f : sProp 𝕄) = iLoc d ↦{q} f := by
  rw [show (iV).view.set = Finset.univ from View.set_whole _]

theorem pts_t (off : Fin 3 → ℕ) (h : ℕ) (ho : off = ![32 * wL L, 2 * h, 0]) (inb : ∀ a, off a + S32x2x128.size a ≤ S1024x4x128.size a) (f : Buf (Elt F) (tLoc d)) :
    ((tK off inb).view.loc (V d (cV L) (jV L)) ↦[(tK off inb).view.set]{fullShare} f : sProp 𝕄) = tLoc d ↦[tokSet (wL L) h]{fullShare} f := by
  rw [set_t L off h ho inb]

theorem pts_d (f : Buf (Elt F) (dLoc d)) :
    ((dwK L).view.loc (V d (cV L) (jV L)) ↦[(dwK L).view.set]{fullShare} f : sProp 𝕄) = dLoc d ↦[wordSet (wL L)]{fullShare} f := by
  rw [set_dw]

/-- A task's own buffer, as its steps name it. -/
theorem pts_s (b : Ref sig .scVector) (f : Buf (Elt F) ((V d (cV L) (jV L)).loc b)) :
    ((Memref.whole b).view.loc (V d (cV L) (jV L)) ↦{fullShare} f : sProp 𝕄) = (V d (cV L) (jV L)).loc b ↦{fullShare} f := rfl

theorem writes_T (a : S16.Idx → Elt F .i32) (v : S16.Idx → Elt F .i32) (inb : ∀ k, (![0] : Fin 1 → ℕ) k + S16.size k ≤ S16.size k) (l : List (View.Piece (Elt F) S16 .i32)) :
    (sT).view.writes (Elt F) a (⟨Rect.unit (s := S16) ![0] S16.size inb, v⟩ :: l) = v := at_T _ v inb

theorem pts_T (a : S16.Idx → Elt F .i32) (v : S16.Idx → Elt F .i32) (inb : ∀ k, (![0] : Fin 1 → ℕ) k + S16.size k ≤ S16.size k) (l : List (View.Piece (Elt F) S16 .i32)) :
    ((sT).view.loc (V d (cV L) (jV L)) ↦{fullShare} (sT).view.writes (Elt F) a (⟨Rect.unit (s := S16) ![0] S16.size inb, v⟩ :: l) : sProp 𝕄)
      = ((sT).view.loc (V d (cV L) (jV L)) ↦{fullShare} (v : Buf (Elt F) ((sT).view.loc (V d (cV L) (jV L))))) := by
  rw [writes_T]

/-- Picking words of the table the task keeps in its own buffer. -/
theorem wp_pick (g a : ℕ → ℕ) (ha : ∀ l < 16, a l < 16) (v : IVec S16 32) (hv : v = vec a) (h : ∀ (k : Fin 1) x, ((![v] : Fin 1 → IVec S16 32) k x).toNat < S16.size k) (hl)
    {β : Type} (k : Vec F S16 .i32 → Prog _ β) (Q : β → sProp 𝕄) :
    iprop(((sT).view.loc (V d (cV L) (jV L)) ↦{fullShare} (vec g : S16.Idx → Elt F .i32))
        ∗ (((sT).view.loc (V d (cV L) (jV L)) ↦{fullShare} (vec g : S16.Idx → Elt F .i32))
            -∗ wp frame (wpE (defs₀ (F := F)) 𝒱₀ (V d (cV L) (jV L)) none) Set.univ (k (vec fun l => g (a l))) Q))
      ⊢ wp frame (wpE (defs₀ (F := F)) 𝒱₀ (V d (cV L) (jV L)) none) Set.univ (SparseCore.vectorLoadIdx (F := F) sT ![v] h hl >>= k) Q := by
  subst hv
  iintro ⟨HT, HK⟩
  iapply (SparseCore.wp_vectorLoadIdx 𝒱₀ (V d (cV L) (jV L)) none Set.univ (base := sT) (S := Finset.univ) (q := fullShare) (Finset.subset_univ _)) $$ HT
  iintro HT
  have e : loadIdx (F := F) (((sT).access (.whole S16)).read (Elt F) (vec g : S16.Idx → Elt F .i32)) ![vec a] h = vec fun l => g (a l) :=
    (congrArg (fun z => loadIdx (F := F) (e := .i32) (s := S16) z ![vec a] h) (whole_T _)).trans (pick_vec g a ha h)
  iapply (Entails.of_eq (congrArg (fun z => wp frame (wpE (defs₀ (F := F)) 𝒱₀ (V d (cV L) (jV L)) none) Set.univ (k z) Q) e.symm))
  iapply HK
  iexact HT

theorem sum_word (g c : ℕ → ℕ) : k0_pay83 (vec g) (vec c) = vec fun l => g l + c l := addi_vec _ _

/-- The place of each of sixteen tokens: its expert's base plus its rank among the sixteen. -/
theorem place_a (f : ℕ → ℕ) (n : ℕ) (g : ℕ → ℕ) (hg : ∀ l < 8, g l = baseL f n l) (hf : ∀ t, f t < 8) :
    k0_pay82 (F := F) (vec (rank fun l => f (n + l))) (vec fun l => g (f (n + l))) = vec fun l => dest f (n + l) := place f n g hg hf
theorem place_b (f : ℕ → ℕ) (n : ℕ) (g : ℕ → ℕ) (hg : ∀ l < 8, g l = baseL f n l) (hf : ∀ t, f t < 8) :
    k0_pay84 (F := F) (vec (rank fun l => f (n + l))) (vec fun l => g (f (n + l))) = vec fun l => dest f (n + l) := place f n g hg hf

theorem pts_D (fD : S32.Idx → Elt F .i32) (f : ℕ → ℕ) (a b : ℕ → ℕ) (ea : a = fun l => dest f (32 * wL L + l)) (eb : b = fun l => dest f (32 * wL L + 16 + l))
    (l : List (View.Piece (Elt F) S32 .i32))
    (hl : l = [⟨Rect.unit (s := S32) ![16] S16.size inb_S32_S16_16, vec b⟩, ⟨Rect.unit (s := S32) ![0] S16.size inb_S32_S16_0, vec a⟩]) :
    (sD).view.writes (Elt F) fD l = words f (wL L) := by
  subst ea eb hl
  rw [View.writes_cons, View.writes_cons, View.writes_nil]
  exact (two_D fD (fun l => dest f (32 * wL L + l)) (fun l => dest f (32 * wL L + 16 + l)) inb_S32_S16_0 inb_S32_S16_16).trans (two_words f (wL L))

theorem pts_w (b : Ref sig .scVector) (f : Buf (Elt F) ((V d (cV L) (jV L)).loc b)) :
    ((Memref.whole b).view.loc (V d (cV L) (jV L)) ↦[(Memref.whole b).view.set]{fullShare} f : sProp 𝕄) = ((Memref.whole b).view.loc (V d (cV L) (jV L)) ↦{fullShare} f) := by
  rw [View.set_whole]

theorem pts_b (hz : wL L = 0) (f : Buf (Elt F) (bLoc d)) :
    ((bV).view.loc (V d (cV L) (jV L)) ↦[(bV).view.set]{fullShare} f : sProp 𝕄) = bLoc d ↦[bsSet (wL L)]{fullShare} f := by
  rw [View.set_whole, hz]
  have e : bsSet 0 = Finset.univ := by unfold bsSet; simp
  rw [e]

theorem writes_b (f : S32.Idx → Elt F .i32) (v : S32.Idx → Elt F .i32) : (bV).view.writes (Elt F) f [⟨Rect.whole S32, v⟩] = v := by
  refine funext fun i : S32.Idx => ?_
  have e : (Rect.whole S32).emb i = i := Rect.emb_whole_apply S32 i
  have h := View.read_writes_cons_emb (Val := Elt F) (bV).view f (Rect.whole S32) v [] i
  rw [e] at h
  exact h

/-- The table the first task writes. -/
theorem two_table (f : ℕ → ℕ) : two (fun l => if l ≤ 8 then off f l else 16) (hvL f) = Bsx f := by
  funext i
  unfold two Bsx hvL
  congr 1
  by_cases h : (i 0).val < 16
  · rw [if_pos h, if_pos h]
  · rw [if_neg h, if_neg h]
    by_cases h' : (i 0).val < 24
    · rw [if_pos h', if_pos (by omega)]
    · rw [if_neg h', if_neg (by omega)]

theorem table_B (fB : S32.Idx → Elt F .i32) (f : ℕ → ℕ) (l : List (View.Piece (Elt F) S32 .i32))
    (hl : l = [⟨Rect.unit (s := S32) ![16] S16.size inb_S32_S16_16, vec (hvL f)⟩, ⟨Rect.unit (s := S32) ![0] S16.size inb_S32_S16_0, vec fun l => if l ≤ 8 then off f l else 16⟩]) :
    (sB).view.writes (Elt F) fB l = Bsx f := by
  subst hl
  rw [View.writes_cons, View.writes_cons, View.writes_nil]
  exact (two_B fB (fun l => if l ≤ 8 then off f l else 16) (hvL f) inb_S32_S16_0 inb_S32_S16_16).trans (two_table f)

set_option maxHeartbeats 2000000 in
/-- A half of the tokens' rows sent to their places: what the stream brings when it is waited for. -/
theorem wp_scat (hc : ∀ t, fM m d t < 8) (h : ℕ) (inb : ∀ a, (![0, 2 * h, 0] : Fin 3 → ℕ) a + S2048x2x128.size a ≤ S2048x4x128.size a)
    (off : Fin 3 → ℕ) (ho : off = ![32 * wL L, 2 * h, 0]) (inb' : ∀ a, off a + S32x2x128.size a ≤ S1024x4x128.size a)
    (fs : S32x2x128.Idx → Elt F .f32) (hs : fs = (tK off inb').view.read (Elt F) (cT m d)) {hn} {hp} {he} {hsp} {hr}
    {β : Type} (k : PUnit → Prog _ β) (Q : β → sProp 𝕄) :
    iprop(((sR).view.loc (V d (cV L) (jV L)) ↦{fullShare} fs) ∗ (pLoc d ↦[rowSet (fM m d) (wL L) h]{fullShare} m (pLoc d))
        ∗ ((sD).view.loc (V d (cV L) (jV L)) ↦{fullShare} (words (fM m d) (wL L) : S32.Idx → Elt F .i32)) ∗ semVal (cell d (cV L) (jV L) cc0_scratch5) 0
        ∗ (Transfers.Flight countersEmb (V d (cV L) (jV L)) (.dma cc0_scratch5.sem) (default : HIx 2) (sR).view.dmaCredit
              iprop((pLoc d ↦[rowSet (fM m d) (wL L) h]{fullShare} Xp m d) ∗ ((sR).view.loc (V d (cV L) (jV L)) ↦{fullShare} fs)
                ∗ ((sD).view.loc (V d (cV L) (jV L)) ↦{fullShare} (words (fM m d) (wL L) : S32.Idx → Elt F .i32)))
            -∗ wp frame (wpE (defs₀ (F := F)) 𝒱₀ (V d (cV L) (jV L)) none) Set.univ (k ⟨⟩) Q))
      ⊢ wp frame (wpE (defs₀ (F := F)) 𝒱₀ (V d (cV L) (jV L)) none) Set.univ
          (SparseCore.enqueueIndirectScatter (F := F) hp sR (dK ![0, 2 * h, 0] inb) gG sD hn cc0_scratch5.sem he hsp hr >>= k) Q := by
  have hw : wL L < 32 := wL_lt L
  have hc' : ∀ t < 1024, fM m d t < 8 := fun t _ => hc t
  have hin : ∀ x, ((sD).view.read (Elt F) (words (fM m d) (wL L)) x).toNat < S2048x2x128.size gG.axis := words_in (fM m d) (wL L) hc' hw
  have hinj : Function.Injective (SparseCore.rows (F := F) ((sD).view.read (Elt F) (words (fM m d) (wL L))) hn hin) :=
    SparseCore.rows_injective (words_inj (fM m d) (wL L) hc' hw)
  have en := named_eq (F := F) d L (fM m d) (wL L) hc' hw h inb hn hin
  iintro ⟨HR, Hp, HD, Hsem, HK⟩
  iapply (SparseCore.wp_indirectScatterLocal countersEmb 𝒱₀ (V d (cV L) (jV L)) none (hg := gG) (q := fullShare) (qo := fullShare) (fs := fs) (fd := m (pLoc d))
    (fo := words (fM m d) (wL L)) (default : HIx 2) (sR).view.dmaCredit (by decide) hin hinj
    (SparseCore.sum_scatterCredit_eq_srcCredit (V d (cV L) (jV L)) sR (dK ![0, 2 * h, 0] inb) gG rfl _ (fun _ => rfl) (fun _ => rfl))) $$ [HR Hp HD Hsem]
  · isplitl [HR]
    · iapply (Entails.of_eq (pts_w (F := F) d L cc0_scratch2 fs).symm); iexact HR
    isplitl [Hp]
    · iapply (Entails.of_eq (congrArg (fun S => (pLoc d ↦[S]{fullShare} m (pLoc d) : sProp 𝕄)) en.symm)); iexact Hp
    isplitl [HD]
    · iapply (Entails.of_eq (pts_w (F := F) d L cc0_scratch1 (words (fM m d) (wL L))).symm); iexact HD
    iexact Hsem
  iintro Hf
  iapply HK
  iapply (Transfers.Flight_mono countersEmb (V d (cV L) (jV L)) ?_) $$ Hf
  iintro ⟨Hp, HR, HD⟩
  isplitl [Hp]
  · iapply (Entails.of_eq ((congrArg (fun S => (pLoc d ↦[S]{fullShare} SparseCore.scatterBuf (V d (cV L) (jV L)) (dK ![0, 2 * h, 0] inb).view gG.axis
        (SparseCore.rows (F := F) (si := S32) (words (fM m d) (wL L)) hn hin) (SparseCore.scatterRowPayload (V d (cV L) (jV L)) (sR) gG fs) (m (pLoc d)) : sProp 𝕄)) en).trans
      (pointsTo_congr fun i hi => scattered (F := F) d L (fM m d) (wL L) hc' hw h inb off ho inb' hn hin (cT m d) (m (pLoc d)) (m (pLoc d)) fs hs i hi)))
    iexact Hp
  isplitl [HR]; · iapply (Entails.of_eq (pts_w (F := F) d L cc0_scratch2 fs)); iexact HR
  iapply (Entails.of_eq (pts_w (F := F) d L cc0_scratch1 (words (fM m d) (wL L)))); iexact HD

abbrev body (L : grid0.Coords) :=
  cc0__dispatch_body (F := F) L iV (Memref.isWhole_whole _) tV (Memref.isWhole_whole _) pV (Memref.isWhole_whole _) dV (Memref.isWhole_whole _)
    bV (Memref.isWhole_whole _) sI (Memref.isWhole_whole _) sD (Memref.isWhole_whole _) sR (Memref.isWhole_whole _) sB (Memref.isWhole_whole _)
    sT (Memref.isWhole_whole _) cc0_scratch5 cc0_scoped0 cc0_scoped1 cc0_scoped2 cc0_scoped3 cc0_scoped4

set_option maxRecDepth 8192 in
set_option maxHeartbeats 8000000 in
/-- The task on vector subcore `(L 0, L 1)`: its tokens end at their places, their places written out, and the first task writes the table. -/
theorem tile_body (hF : (K (F := F)).Facts) (hc : ∀ t, fM m d t < 8) (O : CellTallies nD τ sig (HIx 2)) (W : Waits sig (HIx 2)) (hO : ∀ g, O g none = 0) :
    iprop(levAts (K (F := F)).L (K (F := F)).lev ∗ emp
        ∗ res0 m d (m (pLoc d)) (m (dLoc d)) (m (bLoc d)) (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body L)
          fun _ => iprop(res0 m d (Xp m d) (Dst (fM m d) : S1024.Idx → Elt F .i32) (Bsx (fM m d) : S32.Idx → Elt F .i32) (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold body
  rw [cc0__dispatch_body_eq_skeleton]; unfold cc0__dispatch_body_skel
  rw [k0_part14_eq_skeleton]; unfold k0_part14_skel
  rw [(K (F := F)).scopedBufs_V hF d (cV L) (jV L), SparseCore.Cfg.scopedSems0_V (Val := Elt F) d (cV L) (jV L), ownSems0_V, ownBufs_V]
  unfold res0
  iintro ⟨#Hlv, -, ⟨Hi, Ht0, Ht1, Hp0, Hp1, Hd, Hb⟩, ⟨⟨%fI, HI⟩, ⟨%fD, HD⟩, ⟨%fR, HR⟩, ⟨%fB, HB⟩, ⟨%fT, HT⟩, Hbufs⟩, ⟨Hm0, Hm1, Hm2, Hm3, Hm4, Hm5, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  rw [bind_assoc]
  iapply (wp_part2 (F := F) d L (cI m d) hc (part fullShare (wL L)) fI O W _ _)
  isplitr; · iexact Hmw
  isplitl [Hi]; · iapply (Entails.of_eq (pts_iV (F := F) d L _ _).symm); iexact Hi
  isplitl [HI]; · iexact HI
  isplitl [Hm0]; · iexact Hm0
  isplitl [HO]; · iexact HO
  iintro %W1 ⟨%hW1, Hi, HI, Hm0, HO⟩
  rw [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part3_skel k0_part4_skel k0_part5_skel k0_part6_skel k0_part7_skel k0_part8_skel k0_part9_skel k0_part10_skel k0_part11_skel k0_part12_skel k0_part13_skel
  have r2 : View.readAt (Elt F) (sI).view (Rect.unit (s := S1024) (k0_off2 L) S16.size (k0_off2_inb L)).toLoadRect (cI m d) = vec fun l => fM m d (32 * wL L + l) :=
    read_index (F := F) (cI m d) (k0_off2 L) (32 * wL L) (off2 L) _
  have r3 : View.readAt (Elt F) (sI).view (Rect.unit (s := S1024) (k0_off3 L) S16.size (k0_off3_inb L)).toLoadRect (cI m d) = vec fun l => fM m d (32 * wL L + 16 + l) :=
    read_index (F := F) (cI m d) (k0_off3 L) (32 * wL L + 16) (off3 L) _
  have h16 : ∀ n l : ℕ, l < 16 → fM m d (n + l) < 16 := fun n l _ => (hc _).trans (by decide)
  have c1 : k0_chk1 (vec fun l => fM m d (32 * wL L + l)) := by unfold k0_chk1; exact chk_vec _ (h16 _)
  have c2 : k0_chk2 (vec fun l => fM m d (32 * wL L + 16 + l)) := by unfold k0_chk2; exact chk_vec _ (h16 _)
  have c3 : k0_chk3 (k0_pay85 io) := by unfold k0_chk3; rw [pred_eq]; exact chk_vec _ fun l hl => by omega
  ihave HD := (Entails.of_eq (pts_s (F := F) d L cc0_scratch1 _).symm) $$ HD
  ihave HR := (Entails.of_eq (pts_s (F := F) d L cc0_scratch2 _).symm) $$ HR
  ihave HB := (Entails.of_eq (pts_s (F := F) d L cc0_scratch3 _).symm) $$ HB
  ihave HT := (Entails.of_eq (pts_s (F := F) d L cc0_scratch4 _).symm) $$ HT
  ihave Ht0 := (Entails.of_eq (pts_t (F := F) d L _ 0 (off5 L) (k0_off5_inb L) _).symm) $$ Ht0
  ihave Ht1 := (Entails.of_eq (pts_t (F := F) d L _ 1 (off6 L) (k0_off6_inb L) _).symm) $$ Ht1
  ihave Hd := (Entails.of_eq (pts_d (F := F) d L _).symm) $$ Hd
  sl_exec
  have hw : wL L < 32 := wL_lt L
  obtain ⟨g, hg, eg⟩ := base_word (fM m d) (wL L) hw
  ihave HT := (Entails.of_eq (pts_T (F := F) d L _ _ _ _)) $$ HT
  rw [eg, bind_assoc, bind_assoc]
  iapply (wp_pick (F := F) d L g _ (h16 _) _ rfl _ _ _ _)
  isplitl [HT]; · iexact HT
  iintro HT
  sl_exec
  ihave HT := (Entails.of_eq (pts_T (F := F) d L _ _ _ _)) $$ HT
  rw [cnt_a_eq _ (fun l _ => hc _), sum_word, bind_assoc]
  iapply (wp_pick (F := F) d L _ _ (h16 _) _ rfl _ _ _ _)
  isplitl [HT]; · iexact HT
  iintro HT
  sl_exec
  ihave HT := (Entails.of_eq (pts_T (F := F) d L _ _ _ _)) $$ HT
  rw [bs_word, bind_assoc]
  iapply (wp_pick (F := F) d L _ _ (fun l hl => by omega) _ pred_eq _ _ _ _)
  isplitl [HT]; · iexact HT
  iintro HT
  rw [rank_a_eq _ (fun l _ => hc _), rank_b_eq _ (fun l _ => hc _), place_a (fM m d) _ g hg hc, place_b (fM m d) _ _ (base_next (f := fM m d) _ g hg) hc, table_word, hv_word]
  sl_exec
  have eD : (sD).view.writes (Elt F) fD (tile_body.sl.HD_2 m d L) = words (fM m d) (wL L) := by
    unfold tile_body.sl.HD_2
    exact pts_D L fD (fM m d) _ _ rfl rfl _ rfl
  have eR : View.write (Elt F) (sR).view fR (tile_body.sl.dma4_1 m d L) Finset.univ = (t0K L).view.read (Elt F) (cT m d) := by
    rw [View.write_whole_univ]; unfold tile_body.sl.dma4_1; rfl
  rw [eD]
  iapply (wp_scat (F := F) m d L hc 0 _ _ (off5 L) (k0_off5_inb L) _ eR _ _)
  isplitl [HR]; · iexact HR
  isplitl [Hp0]; · iexact Hp0
  isplitl [HD]; · iexact HD
  isplitl [Hm5]; · iexact Hm5
  iintro Hf
  sl_exec
  iapply (Transfers.wp_waitLocalO countersEmb 𝒱₀ (V d (cV L) (jV L)) none (default : HIx 2) rfl) $$ [Hf HO]
  · isplitl [Hf]; · iexact Hf
    isplitl [HO]; · iexact HO
    iapply (Transfers.MayWaits.elim (SemLoc.dma cc0_scratch5.sem)) $$ Hmw
  iintro ⟨⟨Hp0, HR, HD⟩, Hm5, HO⟩
  rw [wp_ret]; imodintro
  sl_exec
  have eR1 : View.write (Elt F) (sR).view (View.write (Elt F) (sR).view fR (tile_body.sl.dma4_1 m d L) Finset.univ) (tile_body.sl.dma0 m d L) Finset.univ
      = (t1K L).view.read (Elt F) (cT m d) := by
    rw [View.write_whole_univ]; unfold tile_body.sl.dma0; rfl
  iapply (wp_scat (F := F) m d L hc 1 _ _ (off6 L) (k0_off6_inb L) _ eR1 _ _)
  isplitl [HR]; · iexact HR
  isplitl [Hp1]; · iexact Hp1
  isplitl [HD]; · iexact HD
  isplitl [Hm5]; · iexact Hm5
  iintro Hf
  sl_exec
  iapply (Transfers.wp_waitLocalO countersEmb 𝒱₀ (V d (cV L) (jV L)) none (default : HIx 2) rfl) $$ [Hf HO]
  · isplitl [Hf]; · iexact Hf
    isplitl [HO]; · iexact HO
    iapply (Transfers.MayWaits.elim (SemLoc.dma cc0_scratch5.sem)) $$ Hmw
  iintro ⟨⟨Hp1, HR, HD⟩, Hm5, HO⟩
  rw [wp_ret]; imodintro
  sl_exec
  by_cases hz : wL L = 0
  on_goal 1 =>
    have e5 : tile_body.sl.v505 L = BitVec.ofNat 1 1 := by
      have e : ∀ w, w = 0 → Scalar.cmpi CmpIPredicate.ne (Scalar.extui (Scalar.cmpi CmpIPredicate.eq (BitVec.ofNat 32 w) 0#32) : BitVec 32) 0#32 = 1#1 := by
        rintro w rfl; decide
      exact e _ hz
    rw [dif_pos e5]
    ihave Hb := (Entails.of_eq (pts_b (F := F) d L hz _).symm) $$ Hb
    sl_exec
    rw [wp_ret]; imodintro
    have eB : (bV).view.writes (Elt F) (m (bLoc d)) [⟨Rect.whole S32, tile_body.sl.dma4_2 m d L fB⟩] = Bsx (fM m d) :=
      (writes_b (m (bLoc d)) _).trans (by
        unfold tile_body.sl.dma4_2 tile_body.sl.HB_2
        exact (View.read_whole _ _).trans (table_B fB (fM m d) _ rfl))
    ihave Hb := (Entails.of_eq (congrArg (fun v => ((bV).view.loc (V d (cV L) (jV L)) ↦[(bV).view.set]{fullShare} v : sProp 𝕄)) eB)) $$ Hb
    ihave Hb := (Entails.of_eq (pts_b (F := F) d L hz _)) $$ Hb
  on_goal 2 =>
    have e5 : ¬ tile_body.sl.v505 L = BitVec.ofNat 1 1 := by
      have e : ∀ w < 32, w ≠ 0 → ¬ Scalar.cmpi CmpIPredicate.ne (Scalar.extui (Scalar.cmpi CmpIPredicate.eq (BitVec.ofNat 32 w) 0#32) : BitVec 32) 0#32 = 1#1 := by decide
      exact e _ hw hz
    rw [dif_neg e5]
    dsimp only
    rw [Prog.pure_eq_ret, wp_ret]; imodintro
    have eS : bsSet (wL L) = ∅ := Finset.filter_false_of_mem fun _ _ => hz
    ihave Hb := (Entails.of_eq (pointsTo_congr
      (show ∀ i ∈ bsSet (wL L), m (bLoc d) i = (Bsx (fM m d) : S32.Idx → Elt F .i32) i from fun i hi => absurd hi (by rw [eS]; exact Finset.notMem_empty i)))) $$ Hb
  all_goals
    have eW : ∀ i ∈ (dwK L).view.set, (dwK L).view.writes (Elt F) (m (dLoc d)) [⟨Rect.whole S32, tile_body.sl.dma4 m d L fD⟩] i = (Dst (fM m d) : S1024.Idx → Elt F .i32) i :=
      placed L (m (dLoc d)) (fM m d) _ (by unfold tile_body.sl.dma4; exact (View.read_whole _ _).trans eD)
    ihave Hd := (Entails.of_eq (pointsTo_congr eW)) $$ Hd
    isplitl [Hi Ht0 Ht1 Hp0 Hp1 Hd Hb]
    · isplitl [Hi]; · iapply (Entails.of_eq (pts_iV (F := F) d L _ _)); iexact Hi
      isplitl [Ht0]; · iapply (Entails.of_eq (pts_t (F := F) d L _ 0 (off5 L) (k0_off5_inb L) _)); iexact Ht0
      isplitl [Ht1]; · iapply (Entails.of_eq (pts_t (F := F) d L _ 1 (off6 L) (k0_off6_inb L) _)); iexact Ht1
      isplitl [Hp0]; · iexact Hp0
      isplitl [Hp1]; · iexact Hp1
      isplitl [Hd]; · iapply (Entails.of_eq (pts_d (F := F) d L _)); iexact Hd
      iexact Hb
    isplitl [HI HD HR HB HT Hbufs]
    · isplitl [HI]; · iexists _; iexact HI
      isplitl [HD]; · iexists _; iexact HD
      isplitl [HR]; · iexists _; iexact HR
      isplitl [HB]; · iexists _; iexact HB
      isplitl [HT]; · iexists _; iexact HT
      iexact Hbufs
    isplitl [Hm0 Hm1 Hm2 Hm3 Hm4 Hm5 Hsems]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      iexact Hsems
    iexists _; isplitr
    swap; · iexact HO
    ipureintro; intro p hp
    simp only [Finset.mem_insert] at hp
    repeat (rcases hp with rfl | hp; · exact .inr rfl)
    exact hW1 p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => body (coordsV c s)) ⟨⟩ c s := rfl

set_option maxRecDepth 16384 in
theorem tileObl (hF : (K (F := F)).Facts) (hc : ∀ d t, fM m d t < 8) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (hc d) O W hO).trans (wp_mono frame _ _ fun _ => obl_post)

end Cert.Proof.Tile0

end
-- ==== Proof.Tile1.lean ====
/-
  The copy of the first result on the SparseCores: each of thirty-two tasks carries its 131072 words of the flat array
  through tile memory in two pieces and out to the same places of the result, which end equal to the source's.
-/
module

public import proofs.«01_k».proof.Proof.Base

@[expose] public section

noncomputable section

namespace Cert.Proof.Tile1

open Cert.KernelIdeal Cert.KernelIdeal.Gen
open Cert.Proof.Spec Cert.Proof.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (m : (ℓ : Loc nD τ sig) → Buf (Elt F) ℓ)

local notation "𝕄" => MT nD τ sig (HIx 2) (Elt F) ℕ UU ℕ
local notation "xV" => (Memref.whole Cert.KernelIdeal.main_v13_scv : Memref Cert.KernelIdeal.sig Kind.scVector Space.hbm Cert.KernelIdeal.S4194304 EltTy.f32)
local notation "bV" => (Memref.whole Cert.KernelIdeal.main_v4_2_scv : Memref Cert.KernelIdeal.sig Kind.scVector Space.hbm Cert.KernelIdeal.S32 EltTy.i32)
local notation "oV" => (Memref.whole Cert.KernelIdeal.main_v14_scv : Memref Cert.KernelIdeal.sig Kind.scVector Space.hbm Cert.KernelIdeal.S4194304 EltTy.f32)
local notation "sV" => (Memref.whole Cert.KernelIdeal.cc3_scratch0 : Memref Cert.KernelIdeal.sig Kind.scVector Space.vmem Cert.KernelIdeal.S65536 EltTy.f32)

section Tile

variable (d : Dev nD) (L : grid3.Coords)

abbrev cV (L : grid3.Coords) : Fin τ.nSC := (L 0).castLE hcore3
abbrev jV (L : grid3.Coords) : Fin τ.nSub := (L 1).castLE hsub3
/-- The task's number. -/
abbrev wL (L : grid3.Coords) : ℕ := wid (Fin.cast rfl (L 0)) (Fin.cast rfl (L 1))

/-- Piece `k` of the source and of the result, as the task addresses them. -/
abbrev xK (L : grid3.Coords) (k : Fin 2) : Memref sig .scVector .hbm S65536 .f32 :=
  (xV).slice (Rect.unit (s := S4194304) (k3_off1 L (BitVec.ofNat 32 (65536 * k.val))) S65536.size (k3_off1_inb L k)) (fun _ => rfl)
abbrev oK (L : grid3.Coords) (k : Fin 2) : Memref sig .scVector .hbm S65536 .f32 :=
  (oV).slice (Rect.unit (s := S4194304) (k3_off1 L (BitVec.ofNat 32 (65536 * k.val))) S65536.size (k3_off1_inb L k)) (fun _ => rfl)

theorem mem_piece (k : Fin 2) (i : S4194304.Idx) :
    i ∈ (Rect.unit (s := S4194304) (k3_off1 L (BitVec.ofNat 32 (65536 * k.val))) S65536.size (k3_off1_inb L k)).set ↔ i ∈ pieceSet (wL L) k := by
  rw [Rect.mem_set_unit, Fin.forall_fin_one, k3_off1_eq]
  simp only [pieceSet, Finset.mem_filter, Finset.mem_univ, true_and, Matrix.cons_val_zero]
  have hk := k.isLt
  have h0 : wL L = (L 0).val + 2 * (L 1).val := rfl
  rw [h0]
  generalize (L 0).val = a; generalize (L 1).val = b
  omega

theorem set_xK (k : Fin 2) : (xK L k).view.set = pieceSet (wL L) k := by
  refine (View.set_slice_whole _ _).trans ?_
  ext i; exact mem_piece L k i
theorem set_oK (k : Fin 2) : (oK L k).view.set = pieceSet (wL L) k := by
  refine (View.set_slice_whole _ _).trans ?_
  ext i; exact mem_piece L k i

theorem pts_xK (k : Fin 2) : ((xK L k).view.loc (V d (cV L) (jV L)) ↦[(xK L k).view.set]{fullShare} X m d : sProp 𝕄) = xLoc d ↦[pieceSet (wL L) k]{fullShare} X m d := by
  rw [set_xK]
theorem pts_oK (k : Fin 2) (f : Buf (Elt F) (oLoc d)) :
    ((oK L k).view.loc (V d (cV L) (jV L)) ↦[(oK L k).view.set]{fullShare} f : sProp 𝕄) = oLoc d ↦[pieceSet (wL L) k]{fullShare} f := by
  rw [set_oK]
theorem pts_sV (f : Buf (Elt F) ((V d (cV L) (jV L)).loc cc3_scratch0)) :
    ((sV).view.loc (V d (cV L) (jV L)) ↦{fullShare} f : sProp 𝕄) = (V d (cV L) (jV L)).loc cc3_scratch0 ↦{fullShare} f := rfl

set_option maxRecDepth 8192 in
/-- A piece of the result written with what the same piece of the source reads holds the source there. -/
theorem copied (k : Fin 2) (f : Buf (Elt F) (oLoc d)) (w : S65536.Idx → Elt F .f32) (hw : w = (xK L k).view.read (Elt F) (X m d)) :
    ∀ i ∈ (oK L k).view.set, (oK L k).view.writes (Elt F) f [⟨Rect.whole S65536, w⟩] i = X m d i := by
  intro i hi
  obtain ⟨x, -, rfl⟩ := Finset.mem_map.mp hi
  subst hw
  have e : (Rect.whole S65536).emb x = x := Rect.emb_whole_apply S65536 x
  have h := View.read_writes_cons_emb (oK L k).view f (Rect.whole S65536) ((xK L k).view.read (Elt F) (X m d)) [] x
  rw [e] at h
  generalize hg : (oK L k).view.writes (Elt F) f [⟨Rect.whole S65536, (xK L k).view.read (Elt F) (X m d)⟩] = g at h ⊢
  generalize X m d = y at h ⊢
  exact h

abbrev cell (d : Dev nD) (c : Fin τ.nSC) (i : Fin τ.nSub) (s : DmaSems sig S_) : GSem nD τ sig := (V d c i, .dma s.sem)

theorem ownSems0_V :
    (ownSems0 (V d (cV L) (jV L)) : sProp 𝕄)
      = iprop(semVal (cell d (cV L) (jV L) cc3_scoped0) 0 ∗ semVal (cell d (cV L) (jV L) cc3_scoped1) 0
          ∗ semVal (cell d (cV L) (jV L) cc3_scoped2) 0 ∗ semVal (cell d (cV L) (jV L) cc3_scoped3) 0
          ∗ bigSep (((((ownCells (V d (cV L) (jV L))).erase (cell d (cV L) (jV L) cc3_scoped0)).erase (cell d (cV L) (jV L) cc3_scoped1)).erase
              (cell d (cV L) (jV L) cc3_scoped2)).erase (cell d (cV L) (jV L) cc3_scoped3)) fun g => semVal g 0) := by
  have hmem : ∀ s : DmaSems sig S_, (SemLoc.dma s.sem : SemLoc sig).isScoped .scVector = true → cell d (cV L) (jV L) s ∈ ownCells (V d (cV L) (jV L)) :=
    fun s h => mem_ownCells.mpr ⟨rfl, h⟩
  have hne : ∀ s s' : DmaSems sig S_, s.sem ≠ s'.sem → cell d (cV L) (jV L) s ≠ cell d (cV L) (jV L) s' :=
    fun s s' h e => h (by simpa [cell] using e)
  unfold SparseCore.Cfg.ownSems0
  rw [SparseCore.bigSep_erase' (hmem cc3_scoped0 (by decide)),
    SparseCore.bigSep_erase' (Finset.mem_erase.mpr ⟨hne _ _ (by decide), hmem cc3_scoped1 (by decide)⟩),
    SparseCore.bigSep_erase' (Finset.mem_erase.mpr ⟨hne _ _ (by decide), Finset.mem_erase.mpr ⟨hne _ _ (by decide), hmem cc3_scoped2 (by decide)⟩⟩),
    SparseCore.bigSep_erase' (Finset.mem_erase.mpr ⟨hne _ _ (by decide), Finset.mem_erase.mpr ⟨hne _ _ (by decide),
      Finset.mem_erase.mpr ⟨hne _ _ (by decide), hmem cc3_scoped3 (by decide)⟩⟩⟩)]

theorem ownBufs_V :
    (ownBufs (V d (cV L) (jV L)) : sProp 𝕄)
      = iprop((∃ f, (V d (cV L) (jV L)).loc cc3_scratch0 ↦{fullShare} f)
          ∗ bigSep ((ownRefs (τ := τ) (.scVector (cV L) (jV L))).erase ((Proc.scVector (cV L) (jV L)).devRef cc3_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc3_scratch0) rfl)

set_option maxRecDepth 8192 in
set_option maxHeartbeats 4000000 in
/-- The task on vector subcore `(L 0, L 1)`: four copies, each waited for; its words of the result end equal to the source's. -/
theorem tile_body (hF : (K (F := F)).Facts) (O : CellTallies nD τ sig (HIx 2)) (W : Waits sig (HIx 2)) (hO : ∀ g, O g none = 0) :
    iprop(levAts (K (F := F)).L (K (F := F)).lev ∗ emp
        ∗ res1 m d (m (oLoc d)) (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__s4copy_body L xV (Memref.isWhole_whole _) bV (Memref.isWhole_whole _) oV (Memref.isWhole_whole _)
            sV (Memref.isWhole_whole _) cc3_scratch1 cc3_scoped0 cc3_scoped1 cc3_scoped2 cc3_scoped3)
          fun _ => iprop(res1 m d (X m d) (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__s4copy_body_eq_skeleton]; unfold cc3__s4copy_body_skel
  rw [(K (F := F)).scopedBufs_V hF d (cV L) (jV L), SparseCore.Cfg.scopedSems0_V (Val := Elt F) d (cV L) (jV L), ownSems0_V, ownBufs_V]
  unfold res1
  iintro ⟨#Hlv, -, ⟨Hx0, Hx1, Ho0, Ho1⟩, ⟨⟨%fs, Hs⟩, Hbufs⟩, ⟨HsemA, HsemB, HsemC, HsemD, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hx0 := (Entails.of_eq (pts_xK (F := F) m d L 0).symm) $$ Hx0
  ihave Hx1 := (Entails.of_eq (pts_xK (F := F) m d L 1).symm) $$ Hx1
  ihave Ho0 := (Entails.of_eq (pts_oK (F := F) d L 0 _).symm) $$ Ho0
  ihave Ho1 := (Entails.of_eq (pts_oK (F := F) d L 1 _).symm) $$ Ho1
  ihave Hs := (Entails.of_eq (pts_sV (F := F) d L _).symm) $$ Hs
  sl_exec
  sl_step
  have e0 : tile_body.sl.dma0_1 m d L fs = (xK L 0).view.read (Elt F) (X m d) := by
    unfold tile_body.sl.dma0_1 tile_body.sl.dma0
    exact View.read_write_univ _ _
  have e1 : tile_body.sl.dma0_3 m d L fs = (xK L 1).view.read (Elt F) (X m d) := by
    unfold tile_body.sl.dma0_3 tile_body.sl.dma0_2
    exact View.read_write_univ _ _
  ihave Ho0 := (Entails.of_eq (pointsTo_congr (copied m d L 0 _ _ e0))) $$ Ho0
  ihave Ho1 := (Entails.of_eq (pointsTo_congr (copied m d L 1 _ _ e1))) $$ Ho1
  isplitl [Hx0 Hx1 Ho0 Ho1]
  · isplitl [Hx0]; · iapply (Entails.of_eq (pts_xK (F := F) m d L 0)); iexact Hx0
    isplitl [Hx1]; · iapply (Entails.of_eq (pts_xK (F := F) m d L 1)); iexact Hx1
    isplitl [Ho0]; · iapply (Entails.of_eq (pts_oK (F := F) d L 0 _)); iexact Ho0
    iapply (Entails.of_eq (pts_oK (F := F) d L 1 _)); iexact Ho1
  isplitl [Hs Hbufs]
  · isplitl [Hs]; · iexists _; iexact Hs
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact .inl hp

/-! ## The obligation -/

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3__s4copy_body (coordsV c s)
          xV (Memref.isWhole_whole _) bV (Memref.isWhole_whole _) oV (Memref.isWhole_whole _)
          sV (Memref.isWhole_whole _) cc3_scratch1 cc3_scoped0 cc3_scoped1 cc3_scoped2 cc3_scoped3) ⟨⟩ c s := rfl

set_option maxRecDepth 16384 in
theorem tileObl (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

end Cert.Proof.Tile1

end
-- ==== Proof.Main.lean ====
/-
  @main on the TensorCore through its two SparseCore calls and its two regions, and the run of the whole program: every
  run ends with every array at its last contents and every semaphore at zero.
-/
module

public import proofs.«01_k».proof.Proof.Vals
public import proofs.«01_k».proof.Proof.Pieces
public import proofs.«01_k».proof.Proof.Tile0
public import proofs.«01_k».proof.Proof.Tile1

@[expose] public section

noncomputable section

namespace Cert.Proof.Main

open Cert.KernelIdeal Cert.KernelIdeal.Gen
open Cert.Proof.Spec Cert.Proof.Base Cert.Proof.Blocks Cert.Proof.Adm Cert.Proof.Dats Cert.Proof.Regs Cert.Proof.Vals Cert.Proof.Pieces

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [FloatOps F]

local notation "𝕄" => MT nD τ sig (HIx 2) (Elt F) ℕ UU ℕ
open Idealize.ShloMosaic.Pipeline (pin RegionSeg afterRegion ucRefs cellsGhost toksInit)
open Idealize.ShloMosaic.StableHlo (held wp_hlo_within)

variable (m : (ℓ : Loc nD τ sig) → Buf (Elt F) ℓ) (ρ : Dev nD → PrngReg)

/-! ## The launch element of the certificate's ghost state -/

/-- The pipelines' own part. -/
def uP : UP := initOf (Pipeline.cells (pin (pcfgs (F := F)) (adm (tab m))) (cellOf_inj (adm (tab m))))
  (Pipeline.launchToks (pin (pcfgs (F := F)) (adm (tab m))) (cellOf_inj (adm (tab m))))
def u₀ : UU := (initOf (K (F := F)).hsCells (K (F := F)).hsToks, (uP m, 1))

/-- What the regions of core `d` start from. -/
def G (d : Dev nD) : sProp 𝕄 := iprop((bigSep Finset.univ fun p : Fin 2 => cellsGhost (pin (pcfgs (F := F)) (adm (tab m))) EP p d)
  ∗ bigSep Finset.univ fun p : Fin 2 => toksInit (pin (pcfgs (F := F)) (adm (tab m))) EP p d)

theorem bigSep_nothing {I : Type} (s : Finset I) : (bigSep s fun _ => iprop(emp)) = (iprop(emp) : sProp 𝕄) := bigSep_emp_const s

theorem hu₀ : (ownU (u₀ (F := F) m) : sProp 𝕄)
    ⊢ |={Set.univ}=> iprop(BI.own (EH (initOf (K (F := F)).hsCells (K (F := F)).hsToks)) ∗ (bigSep Finset.univ fun d : Dev nD => G m d)
        ∗ bigSep Finset.univ fun thr : Thread nD τ => bigSep Finset.univ fun q : Fin 2 => (P m).x q thr) := by
  unfold u₀
  iintro Hu
  ihave H := (ownU_split (initOf (K (F := F)).hsCells (K (F := F)).hsToks) (uP m)) $$ Hu
  icases H with ⟨HH, HP⟩
  unfold uP
  imod (Pipeline.fund_ghost (pin (pcfgs (F := F)) (adm (tab m))) EP (cellOf_inj (adm (tab m)))) $$ HP with ⟨Hg, Ht⟩
  imodintro
  isplitl [HH]; · iexact HH
  isplitl [Hg Ht]
  · unfold G; rw [bigSep_sep']
    isplitl [Hg] <;> iassumption
  rw [show (bigSep Finset.univ fun thr : Thread nD τ => bigSep Finset.univ fun q : Fin 2 => (P (F := F) m).x q thr) = bigSep Finset.univ fun _ => iprop(emp) from
    bigSep_congr fun _ _ => bigSep_nothing _, bigSep_nothing]
  iempintro

theorem two (Φ : Fin 2 → sProp 𝕄) : (bigSep Finset.univ Φ : sProp 𝕄) = iprop(Φ 0 ∗ Φ 1) := bigSep_fin_two Φ
theorem held_out (d : Dev nD) {b : DevRef τ sig} (hb : b ∈ ucRefs τ sig) (W : Valuation τ sig (Elt F)) :
    (held (SparseCore.T d) (ucRefs τ sig) W : sProp 𝕄) = iprop((((d, b) : Loc nD τ sig) ↦{fullShare} W b) ∗ held (SparseCore.T d) ((ucRefs τ sig).erase b) W) :=
  bigSep_erase hb

theorem G_split (d : Dev nD) : (G m d : sProp 𝕄) ⊢ iprop((cellsGhost (pin (pcfgs (F := F)) (adm (tab m))) EP 0 d ∗ toksInit (pin (pcfgs (F := F)) (adm (tab m))) EP 0 d)
    ∗ cellsGhost (pin (pcfgs (F := F)) (adm (tab m))) EP 1 d ∗ toksInit (pin (pcfgs (F := F)) (adm (tab m))) EP 1 d) := by
  unfold G
  rw [two, two]
  iintro ⟨⟨H0, H1⟩, H2, H3⟩
  isplitl [H0 H2]
  · isplitl [H0] <;> iassumption
  · isplitl [H1] <;> iassumption

/-! ## A region of @main -/

/-- Between the two SparseCore calls, what the TensorCore owes can be taken out and put back. -/
theorem tcSt_owing (d : Dev nD) : ((K (F := F)).tcSt EH d 1 : sProp 𝕄) ⊢ iprop(owing (F := F) d ∗ (owing (F := F) d -∗ (K (F := F)).tcSt EH d 1)) := by
  unfold SparseCore.Cfg.tcSt owing
  iintro ⟨HO, Hr⟩
  isplitl [HO]; · iexact HO
  iintro HO
  isplitl [HO] <;> iassumption

theorem region [∀ e, Nonempty (Elt F e)] (κ : GSem nD τ sig → ℕ) (d : Dev nD) (p : Fin 2) {pd : (p : Fin 2) → (c : Dev nD) → Pipeline.Dat τ (Elt F) (HIx 2) ℕ UU ℕ (pin (pcfgs (F := F)) (adm (tab m)) p) c}
    (R : RegionSeg pcfgs (adm (tab m)) pd none (defs₀ (F := F)) 𝒱₀ (K (F := F)).L (K (F := F)).lev p) (W W' : Valuation τ sig (Elt F))
    (hpre : R.pre d = iprop(held (SparseCore.T d) (ucRefs τ sig) W ∗ owing (F := F) d))
    (hpost : R.post d = iprop(held (SparseCore.T d) (ucRefs τ sig) W' ∗ owing (F := F) d)) (Φ : PUnit → sProp 𝕄) :
    iprop((K (F := F)).ctx EH (P m) κ ∗ (K (F := F)).tcSt EH d 1 ∗ boundary (SparseCore.T d) ∗ held (SparseCore.T d) (ucRefs τ sig) W
        ∗ cellsGhost (pin (pcfgs (F := F)) (adm (tab m))) EP p d ∗ toksInit (pin (pcfgs (F := F)) (adm (tab m))) EP p d
        ∗ ((K (F := F)).tcSt EH d 1 -∗ boundary (SparseCore.T d) -∗ held (SparseCore.T d) (ucRefs τ sig) W' -∗ Φ ⟨⟩))
      ⊢ wp frame (wpE ((K (F := F)).defs (D (F := F))) 𝒱 (SparseCore.T d) none) Set.univ
          (Prog.lift (.customCall (SparseCore.inner (Pipeline.entry p)) ())) Φ := by
  iintro ⟨#Hctx, Hst, Hb, Hh, Hg, Ht, Hk⟩
  ihave Hlev := (SparseCore.Cfg.ctx_levAts κ) $$ Hctx
  ihave Ho := (tcSt_owing d) $$ Hst
  icases Ho with ⟨Ho, Hback⟩
  iapply ((K (F := F)).wp_liftProg (D (F := F)) 𝒱 (SparseCore.T d) Set.univ none (.op (.customCall (Pipeline.entry p) ()) .ret) Φ)
  iapply (RegionSeg.wp pcfgs (adm (tab m)) pd none (cellOf_inj (adm (tab m))) EP (defs₀ (F := F)) 𝒱₀ (K (F := F)).L (K (F := F)).lev R d none (fun u hu => nomatch hu) .ret Φ)
  rw [hpre, hpost]
  isplitl [Hk Hback]
  · iintro ⟨Hb, Hh, Ho⟩
    ihave Hst := Hback $$ Ho
    rw [wp_ret]; imodintro
    iapply Hk $$ Hst Hb Hh
  isplitl [Hb]; · iexact Hb
  isplitl [Hh Ho]; · isplitl [Hh] <;> iassumption
  isplitl [Hlev]; · iexact Hlev
  isplitl [Hg] <;> iassumption

/-! ## A SparseCore call of @main -/

/-- The arrays of the dispatch, and of the copy. -/
def S0 : Finset (DevRef τ sig) := {rf main_v2, rf main_v3, rf main_v4_0, rf main_v4_1, rf main_v4_2}
def S1 : Finset (DevRef τ sig) := {rf main_v13, rf main_v14}
theorem S0_sub : S0 ⊆ ucRefs τ sig := by decide
theorem S1_sub : S1 ⊆ ucRefs τ sig := by decide

theorem held_S0 (d : Dev nD) (W : Valuation τ sig (Elt F)) : (held (SparseCore.T d) S0 W : sProp 𝕄)
    = iprop((iLoc d ↦{fullShare} W (rf main_v2)) ∗ (tLoc d ↦{fullShare} W (rf main_v3)) ∗ (pLoc d ↦{fullShare} W (rf main_v4_0))
        ∗ (dLoc d ↦{fullShare} W (rf main_v4_1)) ∗ bLoc d ↦{fullShare} W (rf main_v4_2)) := by
  unfold held S0
  rw [SparseCore.bigSep_insert' (by decide), SparseCore.bigSep_insert' (by decide), SparseCore.bigSep_insert' (by decide),
    SparseCore.bigSep_insert' (by decide), bigSep_singleton]
theorem held_S1 (d : Dev nD) (W : Valuation τ sig (Elt F)) : (held (SparseCore.T d) S1 W : sProp 𝕄)
    = iprop((xLoc d ↦{fullShare} W (rf main_v13)) ∗ oLoc d ↦{fullShare} W (rf main_v14)) := by
  unfold held S1
  rw [SparseCore.bigSep_insert' (by decide), bigSep_singleton]

/-- Before the dispatch: what its tasks take, and the rest. -/
theorem in0 (d : Dev nD) (hc : ∀ t, fM m d t < 8) : (held (SparseCore.T d) (ucRefs τ sig) (VA m d) : sProp 𝕄)
    ⊢ iprop((bigSep Finset.univ fun c : Fin ((K (F := F)).nCore 0) => (P m).st 0 d c) ∗ left0 m d (m (pLoc d)) ∗ held (SparseCore.T d) (ucRefs τ sig \ S0) (VA m d)) := by
  rw [StableHlo.held_sub_split (SparseCore.T d) S0_sub, held_S0, VA_v2, VA_v3,
    VA_of m d (b := rf main_v4_0) (by decide) (by decide) (by decide) (by decide), VA_of m d (b := rf main_v4_1) (by decide) (by decide) (by decide) (by decide),
    VA_of m d (b := rf main_v4_2) (by decide) (by decide) (by decide) (by decide), st0_eq]
  iintro ⟨H, Hr⟩
  ihave H' := (Entails.of_eq (deal0 m d hc (m (pLoc d)) (m (dLoc d)) (m (bLoc d)))) $$ H
  icases H' with ⟨Ht, Hl⟩
  isplitl [Ht]; · iexact Ht
  isplitl [Hl] <;> iassumption
/-- After it. -/
theorem out0 (d : Dev nD) (hc : ∀ t, fM m d t < 8) :
    iprop((bigSep Finset.univ fun c : Fin ((K (F := F)).nCore 0) => (P m).dn 0 d c) ∗ left0 m d (m (pLoc d)) ∗ held (SparseCore.T d) (ucRefs τ sig \ S0) (VA m d))
      ⊢ (held (SparseCore.T d) (ucRefs τ sig) (VB m d) : sProp 𝕄) := by
  rw [StableHlo.held_sub_split (SparseCore.T d) S0_sub (VB m d), held_S0, VB_v4_0, VB_v4_1, VB_v4_2,
    VB_of m d (b := rf main_v2) (by decide) (by decide) (by decide), VB_of m d (b := rf main_v3) (by decide) (by decide) (by decide), VA_v2, VA_v3, dn0_eq, left0_eq,
    StableHlo.held_congr (SparseCore.T d) (S := ucRefs τ sig \ S0) (V := VB m d) (V' := VA m d) (fun b hb => by
      have hb := (Finset.mem_sdiff.mp hb).2
      have hx : ∀ x ∈ S0, b ≠ x := fun x hx e => hb (e ▸ hx)
      exact VB_of m d (hx _ (by decide)) (hx _ (by decide)) (hx _ (by decide)))]
  iintro ⟨Ht, Hl, Hr⟩
  isplitr [Hr]
  · iapply (Entails.of_eq (deal0 m d hc (Xp m d) (Dst (fM m d) : S1024.Idx → Elt F .i32) (Bsx (fM m d) : S32.Idx → Elt F .i32)).symm)
    isplitl [Ht] <;> iassumption
  · iexact Hr

/-- Before the copy: what its tasks take, and the rest. -/
theorem in1 (d : Dev nD) : (held (SparseCore.T d) (ucRefs τ sig) (VG m d) : sProp 𝕄)
    ⊢ iprop((bigSep Finset.univ fun c : Fin ((K (F := F)).nCore 1) => (P m).st 1 d c) ∗ held (SparseCore.T d) (ucRefs τ sig \ S1) (VG m d)) := by
  rw [StableHlo.held_sub_split (SparseCore.T d) S1_sub, held_S1, VG_v13, VG_arg m d (b := main_v14) (by decide), st1_eq]
/-- After it. -/
theorem out1 (d : Dev nD) :
    iprop((bigSep Finset.univ fun c : Fin ((K (F := F)).nCore 1) => (P m).dn 1 d c) ∗ held (SparseCore.T d) (ucRefs τ sig \ S1) (VG m d))
      ⊢ (held (SparseCore.T d) (ucRefs τ sig) (VH m d) : sProp 𝕄) := by
  rw [StableHlo.held_sub_split (SparseCore.T d) S1_sub (VH m d), held_S1, VH_of m d (b := rf main_v13) (by decide), VG_v13, dn1_eq,
    show VH m d (rf main_v14) = X m d from Function.update_self _ _ _,
    StableHlo.held_congr (SparseCore.T d) (S := ucRefs τ sig \ S1) (V := VH m d) (V' := VG m d) (fun b hb => by
      have hb := (Finset.mem_sdiff.mp hb).2
      exact VH_of m d (fun e => hb (e ▸ by decide)))]

theorem unscoped_held (d : Dev nD) : (unscopedBufs d (fun b => m ((SparseCore.T d).loc b)) : sProp 𝕄) = held (SparseCore.T d) (ucRefs τ sig) (V0 m d) :=
  Pipeline.unscopedBufs_held d (V0 m d)

/-- What @main leaves: every array of the core at its last contents. -/
abbrev FIN (d : Dev nD) : sProp 𝕄 := held (SparseCore.T d) (ucRefs τ sig) (VI m d)

theorem sub (op : HloOp τ sig (Elt F)) {a b : Ref sig .tc} (h : op.bufs = {rf a, rf b}) (ha : rf a ∈ ucRefs τ sig) (hb : rf b ∈ ucRefs τ sig) : op.bufs ⊆ ucRefs τ sig := by
  rw [h]; exact Finset.insert_subset ha (Finset.singleton_subset_iff.mpr hb)

/-- One host operation of @main. -/
theorem host (d : Dev nD) {op : HloOp τ sig (Elt F)} (hop : op.bufs ⊆ ucRefs τ sig) (hf : op.fresh = ∅) {W W' : Valuation τ sig (Elt F)} (hW : op.result W = W') (Φ : PUnit → sProp 𝕄) :
    iprop(boundary (SparseCore.T d) ∗ held (SparseCore.T d) (ucRefs τ sig) W
        ∗ (boundary (SparseCore.T d) -∗ held (SparseCore.T d) (ucRefs τ sig) W' -∗ Φ ⟨⟩))
      ⊢ wp frame (wpE ((K (F := F)).defs (D (F := F))) 𝒱 (SparseCore.T d) none) Set.univ (hlo rfl op (fun _ => .ret ⟨⟩)) Φ := by
  subst hW
  iintro ⟨Hb, Hheld, Hk⟩
  iapply (wp_hlo_within 𝒱 (SparseCore.T d) none Set.univ (op := op) (S := ucRefs τ sig) hop (V := W) (hf := hf)) $$ [Hb Hheld]
  · isplitl [Hb] <;> iassumption
  iintro ⟨Hb, Hheld⟩; rw [wp_ret]; imodintro
  iapply Hk $$ Hb Hheld

set_option maxHeartbeats 1600000 in
/-- @main on device `d`'s TensorCore. -/
theorem hmain [∀ e, Nonempty (Elt F e)] (hc : ∀ d t, fM m d t < 8) (κ : GSem nD τ sig → ℕ) (d : Dev nD) :
    iprop((K (F := F)).ctx EH (P m) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 2 ∗ FIN m d ∗ (K (F := F)).tcEnd d) := by
  have hT : VC m d (Proc.devRef .tc main_v7) = tab m := by
    obtain rfl : d = 0 := Subsingleton.elim _ _
    exact VC_v7 m 0
  unfold SparseCore.Cfg.tcRes SparseCore.Cfg.tcEnd
  rw [unscoped_held]
  simp only [main, wp_bind, wp_pure]
  iintro ⟨#Hctx, Hst, ⟨Hb, Hheld, Hts, -⟩, HG⟩
  ihave HG' := (G_split m d) $$ HG
  icases HG' with ⟨⟨Hg0, Ht0⟩, Hg1, Ht1⟩
  iapply (host d (op := opA0) (sub _ rfl (by decide) (by decide)) rfl (W := V0 m d) (W' := VA1 m d) rfl _)
  isplitl [Hb]; · iexact Hb
  isplitl [Hheld]; · iexact Hheld
  iintro Hb Hheld
  iapply (host d (op := opA1) (sub _ rfl (by decide) (by decide)) rfl (W := VA1 m d) (W' := VA2 m d) rfl _)
  isplitl [Hb]; · iexact Hb
  isplitl [Hheld]; · iexact Hheld
  iintro Hb Hheld
  iapply (host d (op := opA2) (sub _ rfl (by decide) (by decide)) rfl (W := VA2 m d) (W' := VA3 m d) rfl _)
  isplitl [Hb]; · iexact Hb
  isplitl [Hheld]; · iexact Hheld
  iintro Hb Hheld
  iapply (host d (op := opA3) (sub _ rfl (by decide) (by decide)) rfl (W := VA3 m d) (W' := VA m d) rfl _)
  isplitl [Hb]; · iexact Hb
  isplitl [Hheld]; · iexact Hheld
  iintro Hb Hheld
  ihave Hin := (in0 m d (hc d)) $$ Hheld
  icases Hin with ⟨Hgo, Hl, Hr⟩
  iapply ((K (F := F)).wp_run (D (F := F)) 𝒱 (EH := EH) (P := P m) κ d 0) $$ [Hst Hgo Hb Hl Hr Hts Hg0 Ht0 Hg1 Ht1]
  isplitr; · iexact Hctx
  isplitl [Hst]; · iexact Hst
  isplitl [Hgo]; · iexact Hgo
  iintro ⟨Hst, Hdn⟩
  ihave Hheld := (out0 m d (hc d)) $$ [Hdn Hl Hr]
  · isplitl [Hdn]; · iexact Hdn
    isplitl [Hl] <;> iassumption
  iapply (host d (op := opC0) (sub _ rfl (by decide) (by decide)) rfl (W := VB m d) (W' := VC1 m d) rfl _)
  isplitl [Hb]; · iexact Hb
  isplitl [Hheld]; · iexact Hheld
  iintro Hb Hheld
  iapply (host d (op := opC1) (sub _ rfl (by decide) (by decide)) rfl (W := VC1 m d) (W' := VC2 m d) rfl _)
  isplitl [Hb]; · iexact Hb
  isplitl [Hheld]; · iexact Hheld
  iintro Hb Hheld
  iapply (host d (op := opC2) (sub _ rfl (by decide) (by decide)) rfl (W := VC2 m d) (W' := VC m d) rfl _)
  isplitl [Hb]; · iexact Hb
  isplitl [Hheld]; · iexact Hheld
  iintro Hb Hheld
  iapply (region m κ d 0 (seg0 (tab m) (VC m d) (VE m d) hT) (VC m d) (VD m d) rfl rfl)
  isplitr; · iexact Hctx
  isplitl [Hst]; · iexact Hst
  isplitl [Hb]; · iexact Hb
  isplitl [Hheld]; · iexact Hheld
  isplitl [Hg0]; · iexact Hg0
  isplitl [Ht0]; · iexact Ht0
  iintro Hst Hb Hheld
  iapply (host d (op := opE) (sub _ rfl (by decide) (by decide)) rfl (W := VD m d) (W' := VE m d) rfl _)
  isplitl [Hb]; · iexact Hb
  isplitl [Hheld]; · iexact Hheld
  iintro Hb Hheld
  iapply (region m κ d 1 (seg1 (tab m) (VC m d) (VE m d)) (VE m d) (VF m d) rfl rfl)
  isplitr; · iexact Hctx
  isplitl [Hst]; · iexact Hst
  isplitl [Hb]; · iexact Hb
  isplitl [Hheld]; · iexact Hheld
  isplitl [Hg1]; · iexact Hg1
  isplitl [Ht1]; · iexact Ht1
  iintro Hst Hb Hheld
  iapply (host d (op := opG0) (sub _ rfl (by decide) (by decide)) rfl (W := VF m d) (W' := VG1 m d) rfl _)
  isplitl [Hb]; · iexact Hb
  isplitl [Hheld]; · iexact Hheld
  iintro Hb Hheld
  iapply (host d (op := opG1) (sub _ rfl (by decide) (by decide)) rfl (W := VG1 m d) (W' := VG2 m d) rfl _)
  isplitl [Hb]; · iexact Hb
  isplitl [Hheld]; · iexact Hheld
  iintro Hb Hheld
  iapply (host d (op := opG2) (sub _ rfl (by decide) (by decide)) rfl (W := VG2 m d) (W' := VG m d) rfl _)
  isplitl [Hb]; · iexact Hb
  isplitl [Hheld]; · iexact Hheld
  iintro Hb Hheld
  ihave Hin := (in1 m d) $$ Hheld
  icases Hin with ⟨Hgo, Hr⟩
  iapply ((K (F := F)).wp_run (D (F := F)) 𝒱 (EH := EH) (P := P m) κ d 1) $$ [Hst Hgo Hb Hr Hts]
  isplitr; · iexact Hctx
  isplitl [Hst]; · iexact Hst
  isplitl [Hgo]; · iexact Hgo
  iintro ⟨Hst, Hdn⟩
  ihave Hheld := (out1 m d) $$ [Hdn Hr]
  · isplitl [Hdn] <;> iassumption
  iapply (host d (op := opI) (sub _ rfl (by decide) (by decide)) rfl (W := VH m d) (W' := VI m d) rfl _)
  isplitl [Hb]; · iexact Hb
  isplitl [Hheld]; · iexact Hheld
  iintro Hb Hheld; imodintro
  isplitl [Hst]; · iexact Hst
  isplitl [Hheld]; · iexact Hheld
  isplitl [Hb] <;> iassumption

/-- What the claims read of device `d`'s final state: every array of the core. -/
def fq (d : Dev nD) (s' : Phys nD τ sig (Elt F)) : Prop := ∀ b ∈ ucRefs τ sig, s'.mem.mem (d, b) = VI m d b

theorem hfin (d : Dev nD) (s' : Phys nD τ sig (Elt F)) : iprop(FIN m d ∗ SI s') ⊢ (⌜fq m d s'⌝ : sProp 𝕄) := by
  have h1 : ∀ b ∈ ucRefs τ sig, iprop(FIN m d ∗ SI s') ⊢ (⌜s'.mem.mem (d, b) = VI m d b⌝ : sProp 𝕄) := by
    intro b hb
    unfold FIN
    rw [held_out d hb]
    iintro ⟨⟨H, -⟩, HSI⟩
    ihave H := (SI_pointsTo_agree (st := s') (ℓ := ((d, b) : Loc nD τ sig)) (I := Finset.univ) (q := fullShare) (f := VI m d b)) $$ [HSI H]
    · isplitl [HSI] <;> iassumption
    icases H with %h
    ipureintro
    exact funext fun i => h i (Finset.mem_univ i)
  intro x hx b hb
  exact h1 b hb x hx

/-! ## The program's run and the claims -/

def QC : PUnit × MemSt nD τ sig (Elt F) → Prop := fun r => (∀ c : Dev nD, ∀ b ∈ ucRefs τ sig, r.2.mem (c, b) = VI m c b) ∧ r.2.sem = fun _ => 0

theorem run_main [∀ e, Nonempty (Elt F e)] (hc : ∀ d t, fM m d t < 8) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => Cert.Proof.Tile0.tileObl m facts hc | 1 => Cert.Proof.Tile1.tileObl m facts)
    (fun q _ => SparseCore.Cfg.VecSplit.of_plain (vecSplit m q))
    m ρ main (fun d => G m d) (FIN m) (u₀ (F := F) m) (sep_elim_left.trans (hu₀ m)) (hmain m ρ hc) (fq m) (hfin m) (QC m) (fun _ h hz => ⟨h, hz⟩)

end Cert.Proof.Main

end
-- ==== Proof.Arr.lean ====
/-
  What the two regions leave in the arrays they write, and the blocks they read, as functions of the arrays at entry.
-/
module

public import proofs.«01_k».proof.Proof.Dats

@[expose] public section

noncomputable section

namespace Cert.Proof.Arr

open Cert.KernelIdeal Cert.KernelIdeal.Gen
open Cert.Proof.Spec Cert.Proof.Base Cert.Proof.Blocks Cert.Proof.Adm Cert.Proof.Dats

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [FloatOps F]

local notation "𝕄" => MT nD τ sig (HIx 2) (Elt F) ℕ UU ℕ

open Idealize.ShloMosaic.Pipeline (Dat Cfg Window pin arrRef)

variable (T : S32.Idx → BitVec 32) (W : Valuation τ sig (Elt F))

theorem coord (t : Fin 16) : ((grid1.coords t) 0).val = t.val := by revert t; decide

/-- Where an element of a block of the expert region's window sits. -/
theorem at0 (w : Fin 6) (t : Fin 16) (y : (((cfg1 (F := F) (adm T 0)).win w).xblock (grid1.coords t)).Idx) (a : Fin ((cfg1 (F := F) (adm T 0)).win w).shape.rank) :
    ((((cfg1 (F := F) (adm T 0)).win w).rect t).emb y a : ℕ) = ((cfg1 (F := F) (adm T 0)).win w).index t a * ((cfg1 (F := F) (adm T 0)).win w).size a + y a :=
  Window.rect_emb_val ((cfg1 (F := F) (adm T 0)).win w) t y a (by fin_cases w <;> rfl)

/-- Block `t` of the padded rows. -/
theorem blk0_0 (t : Fin 16) (r : Fin 128) (k : Fin 512) :
    (blk0 T W 0 t : S128x512.Idx → F .f32) (ix2 r k) = (W (Proc.devRef .tc main_v5) : S2048x512.Idx → F .f32) (ix2 ⟨128 * t.val + r.val, by omega⟩ k) := by
  show (W (Proc.devRef .tc main_v5) : S2048x512.Idx → F .f32) _ = _
  congr 1
  funext a
  fin_cases a
  · refine Fin.ext ((at0 T 0 t (ix2 r k) 0).trans ?_)
    show ((grid1.coords t) 0).val % _ * 128 + r.val = 128 * t.val + r.val
    rw [coord]; omega
  · refine Fin.ext ((at0 T 0 t (ix2 r k) 1).trans ?_)
    show 0 * 512 + k.val = k.val
    omega

/-- Point `t`'s block of the first weights: the owner's. -/
theorem blk0_1 (t : Fin 16) (z : Fin 1) (r k : Fin 512) :
    (blk0 T W 1 t : S1x512x512.Idx → F .f32) (Base.ix3 z r k) = (W (Proc.devRef .tc main_arg6) : S8x512x512.Idx → F .f32)
      (Base.ix3 ⟨(Blocks.own (BitVec.ofNat 32 t.val) T).toNat, own_lt _ T⟩ r k) := by
  show (W (Proc.devRef .tc main_arg6) : S8x512x512.Idx → F .f32) _ = _
  congr 1
  have e := tr1_eq (F := F) T (grid1.coords t)
  rw [coord] at e
  funext a
  fin_cases a
  · refine Fin.ext ((at0 T 1 t (Base.ix3 z r k) 0).trans ?_)
    show ix1 (F := F) (tbl T) 1 (grid1.coords t) 0 * 1 + z.val = _
    rw [e]
    show (Blocks.own (BitVec.ofNat 32 t.val) T).toNat * 1 + z.val = (Blocks.own (BitVec.ofNat 32 t.val) T).toNat
    omega
  · refine Fin.ext ((at0 T 1 t (Base.ix3 z r k) 1).trans ?_)
    show ix1 (F := F) (tbl T) 1 (grid1.coords t) 1 * 512 + r.val = _
    rw [e]
    show 0 * 512 + r.val = r.val
    omega
  · refine Fin.ext ((at0 T 1 t (Base.ix3 z r k) 2).trans ?_)
    show ix1 (F := F) (tbl T) 1 (grid1.coords t) 2 * 512 + k.val = _
    rw [e]
    show 0 * 512 + k.val = k.val
    omega

/-- Point `t`'s block of the second weights: the owner's. -/
theorem blk0_3 (t : Fin 16) (z : Fin 1) (r k : Fin 512) :
    (blk0 T W 3 t : S1x512x512.Idx → F .f32) (Base.ix3 z r k) = (W (Proc.devRef .tc main_arg8) : S8x512x512.Idx → F .f32)
      (Base.ix3 ⟨(Blocks.own (BitVec.ofNat 32 t.val) T).toNat, own_lt _ T⟩ r k) := by
  show (W (Proc.devRef .tc main_arg8) : S8x512x512.Idx → F .f32) _ = _
  congr 1
  have e := tr3_eq (F := F) T (grid1.coords t)
  rw [coord] at e
  funext a
  fin_cases a
  · refine Fin.ext ((at0 T 3 t (Base.ix3 z r k) 0).trans ?_)
    show ix1 (F := F) (tbl T) 3 (grid1.coords t) 0 * 1 + z.val = _
    rw [e]
    show (Blocks.own (BitVec.ofNat 32 t.val) T).toNat * 1 + z.val = (Blocks.own (BitVec.ofNat 32 t.val) T).toNat
    omega
  · refine Fin.ext ((at0 T 3 t (Base.ix3 z r k) 1).trans ?_)
    show ix1 (F := F) (tbl T) 3 (grid1.coords t) 1 * 512 + r.val = _
    rw [e]
    show 0 * 512 + r.val = r.val
    omega
  · refine Fin.ext ((at0 T 3 t (Base.ix3 z r k) 2).trans ?_)
    show ix1 (F := F) (tbl T) 3 (grid1.coords t) 2 * 512 + k.val = _
    rw [e]
    show 0 * 512 + k.val = k.val
    omega

/-- The biases come whole. -/
theorem blk0_2 (t : Fin 16) : (blk0 T W 2 t : S8x512.Idx → F .f32) = (W (Proc.devRef .tc main_arg7) : S8x512.Idx → F .f32) := by
  funext y
  show (W (Proc.devRef .tc main_arg7) : S8x512.Idx → F .f32) _ = _
  congr 1
  funext a
  fin_cases a
  · exact Fin.ext ((at0 T 2 t y 0).trans (by show 0 * 8 + (y 0).val = (y 0).val; omega))
  · exact Fin.ext ((at0 T 2 t y 1).trans (by show 0 * 512 + (y 1).val = (y 1).val; omega))

theorem blk0_4 (t : Fin 16) : (blk0 T W 4 t : S8x512.Idx → F .f32) = (W (Proc.devRef .tc main_arg9) : S8x512.Idx → F .f32) := by
  funext y
  show (W (Proc.devRef .tc main_arg9) : S8x512.Idx → F .f32) _ = _
  congr 1
  funext a
  fin_cases a
  · exact Fin.ext ((at0 T 4 t y 0).trans (by show 0 * 8 + (y 0).val = (y 0).val; omega))
  · exact Fin.ext ((at0 T 4 t y 1).trans (by show 0 * 512 + (y 1).val = (y 1).val; omega))

/-- The sixteen blocks the expert region writes, as one array. -/
def G0 : S2048x512.Idx → F .bf16 := fun i =>
  y0 T W ⟨(i 0).val / 128, by have := (i 0).isLt; change (i 0).val < 2048 at this; omega⟩ (ix2 ⟨(i 0).val % 128, by omega⟩ (i 1))

/-- Where an element of the expert region's output block sits. -/
theorem emb5 (t : Fin 16) (y : S128x512.Idx) :
    ((((cfg1 (F := F) (adm T 0)).win 5).rect t).emb y : S2048x512.Idx) = ix2 ⟨128 * t.val + (y 0).val, by have := (y 0).isLt; change (y 0).val < 128 at this; omega⟩ (y 1) := by
  have h0 : ((grid1.coords t) 0).val = t.val := coord t
  funext a
  fin_cases a
  · refine Fin.ext ((at0 T 5 t y 0).trans ?_)
    show ((grid1.coords t) 0).val % _ * 128 + (y 0).val = 128 * t.val + (y 0).val
    rw [h0]; omega
  · refine Fin.ext ((at0 T 5 t y 1).trans ?_)
    show 0 * 512 + (y 1).val = (y 1).val
    omega

/-- Every point writes its block back: the next point's block is another. -/
theorem flush5 (t : Fin 16) : ((cfg1 (F := F) (adm T 0)).win 5).flush t = true := by
  unfold Window.flush
  rw [Bool.and_eq_true]
  refine ⟨rfl, ?_⟩
  rw [Bool.or_eq_true]
  by_cases h : t.val + 1 = 16
  · left; exact decide_eq_true h
  · right
    have ht := t.isLt
    refine decide_eq_true ⟨show t.val + 1 < 16 by omega, fun e => ?_⟩
    have e0 : ((grid1.coords (⟨t.val + 1, by omega⟩ : Fin 16)) 0).val % _ = ((grid1.coords t) 0).val % _ := congrFun e (0 : Fin 2)
    rw [coord, coord] at e0
    simp only at e0
    omega

theorem mem5 (t : Fin 16) (y : S128x512.Idx) (i : S2048x512.Idx) (e : i = (((cfg1 (F := F) (adm T 0)).win 5).rect t).emb y) :
    i ∈ (((cfg1 (F := F) (adm T 0)).win 5).blk t).view.set := by
  subst e; exact View.emb_mem_set _ _

/-- The blocks cover the output. -/
theorem cover5 (i : S2048x512.Idx) : ∃ t : Fin 16, ((cfg1 (F := F) (adm T 0)).win 5).flush t = true ∧ i ∈ (((cfg1 (F := F) (adm T 0)).win 5).blk t).view.set := by
  have hi : (i 0).val < 2048 := (i 0).isLt
  refine ⟨⟨(i 0).val / 128, by omega⟩, flush5 T _, ?_⟩
  have e : i = (((cfg1 (F := F) (adm T 0)).win 5).rect (⟨(i 0).val / 128, by omega⟩ : Fin 16)).emb (ix2 (⟨(i 0).val % 128, by omega⟩ : Fin 128) (i 1) : S128x512.Idx) := by
    rw [emb5]
    funext a
    fin_cases a
    · refine Fin.ext ?_
      show (i 0).val = 128 * ((i 0).val / 128) + (i 0).val % 128
      omega
    · rfl
  exact mem5 T _ _ _ e

theorem G0_emb (t : Fin 16) (y : S128x512.Idx) : G0 T W ((((cfg1 (F := F) (adm T 0)).win 5).rect t).emb y : S2048x512.Idx) = y0 T W t y := by
  rw [emb5]
  have hy : (y 0).val < 128 := (y 0).isLt
  show y0 T W ⟨(128 * t.val + (y 0).val) / 128, _⟩ (ix2 ⟨(128 * t.val + (y 0).val) % 128, _⟩ (y 1)) = _
  have e1 : (⟨(128 * t.val + (y 0).val) / 128, by omega⟩ : Fin 16) = t := Fin.ext (by show (128 * t.val + (y 0).val) / 128 = t.val; omega)
  have e2 : (⟨(128 * t.val + (y 0).val) % 128, by omega⟩ : Fin 128) = y 0 :=
    Fin.ext (by show (128 * t.val + (y 0).val) % 128 = (y 0).val; omega)
  rw [e1, e2]
  congr 1
  funext a; fin_cases a <;> rfl

/-- What point `t` writes back is its part of the array of the blocks. -/
theorem block5 (c : Dev nD) (t : Fin 16) : (dat0 T W c).flushed 5 t = (((cfg1 (F := F) (adm T 0)).win 5).blk t).view.read (Elt F) (G0 T W) := by
  funext y
  exact (G0_emb T W t y).symm

/-- What the expert region leaves. -/
theorem dat0_out (c : Dev nD) : (dat0 T W c).arrAt 5 16 = (G0 T W : S2048x512.Idx → F .bf16) :=
  Dat.arrAt_eq_of_cover (dat0 T W c) 5 (G0 T W) (fun t _ => block5 T W c t) (cover5 (F := F) T)

/-- Where an element of an epilogue's block sits: where it is in the array. -/
theorem at1 (w : Fin 5) (t : Fin 1) (y : ((cfg2.win w).xblock (grid2.coords t)).Idx) (a : Fin (cfg2.win w).shape.rank) :
    (((cfg2.win w).rect t).emb y a : ℕ) = y a :=
  Window.rect_emb_val_of_index_zero (cfg2.win w) t a (by fin_cases w <;> rfl) y

/-- The epilogue's blocks are the whole arrays, -/
theorem blk1_0 (t : Fin 1) : (blk1 W 0 t : S2048x512.Idx → F .bf16) = (W (Proc.devRef .tc main_v8) : S2048x512.Idx → F .bf16) := by
  funext y; exact congrArg (W (Proc.devRef .tc main_v8) : S2048x512.Idx → F .bf16) (funext fun a => Fin.ext (at1 0 t y a))
theorem blk1_1 (t : Fin 1) : (blk1 W 1 t : S1x1024.Idx → Elt F .i32) = (W (Proc.devRef .tc main_v9) : S1x1024.Idx → Elt F .i32) := by
  funext y; exact congrArg (W (Proc.devRef .tc main_v9) : S1x1024.Idx → Elt F .i32) (funext fun a => Fin.ext (at1 1 t y a))
theorem blk1_2 (t : Fin 1) : (blk1 W 2 t : S1024x1.Idx → F .f32) = (W (Proc.devRef .tc main_arg1) : S1024x1.Idx → F .f32) := by
  funext y; exact congrArg (W (Proc.devRef .tc main_arg1) : S1024x1.Idx → F .f32) (funext fun a => Fin.ext (at1 2 t y a))
theorem blk1_3 (t : Fin 1) : (blk1 W 3 t : S1024x512.Idx → F .f32) = (W (Proc.devRef .tc main_v1) : S1024x512.Idx → F .f32) := by
  funext y; exact congrArg (W (Proc.devRef .tc main_v1) : S1024x512.Idx → F .f32) (funext fun a => Fin.ext (at1 3 t y a))

theorem emb4 (t : Fin 1) (y : S1024x512.Idx) : ((cfg2.win 4).rect t).emb y = y := funext fun a => Fin.ext (at1 4 t y a)

/-- and what it writes is the whole of its output. -/
theorem dat1_out (c : Dev nD) : (dat1 T W c).arrAt 4 1 = (y1 W 0 : S1024x512.Idx → F .f32) := by
  refine Dat.arrAt_eq_of_cover (dat1 T W c) 4 (y1 W 0) (fun t _ => ?_) (fun i => ⟨(0 : Fin 1), rfl, ?_⟩)
  · have ht : t = (0 : Fin 1) := Subsingleton.elim (α := Fin 1) _ _
    subst ht
    funext y
    exact congrArg (y1 W 0) (emb4 0 y).symm
  · have e := emb4 0 i
    rw [← e]
    exact View.emb_mem_set _ _

end Cert.Proof.Arr
-- ==== Proof.Table.lean ====
/-
  The expert table's words read back by number: the owner of a block, the words picked for it, and the row mask, each as
  the counts say.
-/
module

public import proofs.«01_k».proof.Proof.Blocks

@[expose] public section

noncomputable section

namespace Cert.Proof.Table

open Cert.KernelIdeal Cert.KernelIdeal.Gen
open Cert.Proof.Spec Cert.Proof.Base Cert.Proof.Blocks

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [FloatOps F]

local notation "𝕄" => MT nD τ sig (HIx 2) (Elt F) ℕ UU ℕ

/-- Two words under 2^31 compare as numbers. -/
theorem sge_bit (j n : ℕ) (hj : j < 2 ^ 31) (hn : n < 2 ^ 31) :
    Scalar.select (Scalar.cmpi .sge (BitVec.ofNat 32 j) (BitVec.ofNat 32 n)) 1#32 0#32 = BitVec.ofNat 32 (if n ≤ j then 1 else 0) := by
  have h : (BitVec.ofNat 32 n).sle (BitVec.ofNat 32 j) = decide (n ≤ j) := by
    rw [BitVec.sle_eq_decide]
    simp only [BitVec.toInt_eq_toNat_cond, BitVec.toNat_ofNat, decide_eq_decide]
    omega
  simp only [Scalar.cmpi, IntOp.cmpi, h, Scalar.select]
  by_cases hh : n ≤ j <;> simp [hh]

theorem slt_bit (j n : ℕ) (hj : j < 2 ^ 31) (hn : n < 2 ^ 31) (h : j < n) :
    IntOp.cmpi .slt (BitVec.ofNat 32 j) (BitVec.ofNat 32 n) = 1#1 := by
  have h : (BitVec.ofNat 32 j).slt (BitVec.ofNat 32 n) = true := by
    rw [BitVec.slt_eq_decide]
    simp only [BitVec.toInt_eq_toNat_cond, BitVec.toNat_ofNat, decide_eq_true_eq]
    omega
  simp only [IntOp.cmpi, h]; rfl

variable {f : ℕ → ℕ}

theorem off_le' (h : ∀ t < 1024, f t < 8) (k : ℕ) (hk : k ≤ 8) : off f k ≤ 15 := (off_mono f hk).trans (off_le f h)

/-- Words 0 to 8 of the table: each expert's first block, and the number of blocks used. -/
theorem wd_off (k : Fin 32) (hk : k.val ≤ 8) : wd (Bsx f) k = BitVec.ofNat 32 (off f k.val) := by
  rw [wd_eq]
  show BitVec.ofNat 32 (if k.val < 16 then (if k.val ≤ 8 then off f k.val else 16) else _) = _
  rw [if_pos (by omega), if_pos hk]

/-- Words 16 to 23: each expert's count. -/
theorem wd_cnt (k : Fin 32) (hk : 16 ≤ k.val) (hk' : k.val < 24) : wd (Bsx f) k = BitVec.ofNat 32 (cnt f (k.val - 16) 1024) := by
  rw [wd_eq]
  show BitVec.ofNat 32 (if k.val < 16 then (if k.val ≤ 8 then off f k.val else 16) else if k.val < 24 then cnt f (k.val - 16) 1024 else 0) = _
  rw [if_neg (by omega), if_pos hk']

/-- The owner of block `j`, as the body counts it. -/
theorem own_eq (h : ∀ t < 1024, f t < 8) (j : ℕ) (hj : j < 16) : Blocks.own (BitVec.ofNat 32 j) (Bsx f) = BitVec.ofNat 32 (owner f j) := by
  have e : ∀ k : Fin 32, k.val ≤ 8 → Scalar.select (Scalar.cmpi .sge (BitVec.ofNat 32 j) (wd (Bsx f) k)) 1#32 0#32
      = BitVec.ofNat 32 (if off f k.val ≤ j then 1 else 0) := fun k hk => by
    have := off_le' h k.val hk
    rw [wd_off k hk]; exact sge_bit _ _ (by omega) (by omega)
  unfold Blocks.own
  rw [e 1 (by decide), e 2 (by decide), e 3 (by decide), e 4 (by decide), e 5 (by decide), e 6 (by decide), e 7 (by decide)]
  unfold owner
  simp only [Finset.sum_range_succ, Finset.sum_range_zero, Scalar.addi, IntOp.addi, BitVec.ofNat_add]
  rfl

/-- A sum of eight selects by number picks that word. -/
theorem pick8_eq (e : ℕ) (he : e < 8) (w : Fin 8 → BitVec 32) : pick8 (BitVec.ofNat 32 e) w = w ⟨e, he⟩ := by
  have key : ∀ k : Fin 8, pick8 (BitVec.ofNat 32 k.val) w = w k := by
    intro k
    fin_cases k <;> simp [pick8, Scalar.cmpi, Scalar.select, Scalar.addi, IntOp.addi, IntOp.cmpi]
  exact key ⟨e, he⟩

/-- A block under the number used is computed. -/
theorem cond_used (h : ∀ t < 1024, f t < 8) (i : grid1.Coords) (hi : (i 0).val < off f 8) : k1_cond1 i (wd (Bsx f) 8) = 1#1 := by
  have h1 := off_le f h
  unfold k1_cond1
  simp only [Scalar.cmpi, Scalar.extui, bit_ne]
  rw [wd_off 8 (by decide)]
  exact slt_bit _ _ (by omega) (by show off f 8 < 2 ^ 31; omega) hi

/-- The mask is set at the row of token `t`. -/
theorem mask_set (h : ∀ t < 1024, f t < 8) (t : ℕ) (ht : t < 1024) :
    IntOp.cmpi .slt (IntOp.addi (BitVec.ofNat 32 (dest f t % 128)) (Scalar.muli (Scalar.subi (BitVec.ofNat 32 (dest f t / 128))
        (pick8 (BitVec.ofNat 32 (f t)) fun k => wd (Bsx f) ⟨k.val, by omega⟩)) 128#32))
      (pick8 (BitVec.ofNat 32 (f t)) fun k => wd (Bsx f) ⟨k.val + 16, by omega⟩) = 1#1 := by
  have hf := h t ht
  have h1 := dest_div (f := f) t ht
  have h2 := dest_div_lt_used h t ht
  have h3 := off_le f h
  have h4 := dest_row (f := f) t ht
  have h5 := cnt_le f (f t) 1024
  rw [pick8_eq _ hf, pick8_eq _ hf, wd_off _ (by show f t ≤ 8; omega), wd_cnt _ (by show 16 ≤ f t + 16; omega) (by show f t + 16 < 24; omega)]
  have e : IntOp.addi (BitVec.ofNat 32 (dest f t % 128)) (Scalar.muli (Scalar.subi (BitVec.ofNat 32 (dest f t / 128)) (BitVec.ofNat 32 (off f (f t)))) 128#32)
      = BitVec.ofNat 32 (cnt f (f t) t) := by
    simp only [Scalar.muli, Scalar.subi, IntOp.addi, IntOp.muli, IntOp.subi]
    apply BitVec.eq_of_toNat_eq
    simp only [BitVec.toNat_add, BitVec.toNat_mul, BitVec.toNat_sub, BitVec.toNat_ofNat]
    omega
  show IntOp.cmpi .slt (IntOp.addi _ (Scalar.muli (Scalar.subi _ (BitVec.ofNat 32 (off f (f t)))) _)) _ = _
  rw [e]
  have e2 : f t + 16 - 16 = f t := by omega
  show IntOp.cmpi .slt _ (BitVec.ofNat 32 (cnt f (f t + 16 - 16) 1024)) = _
  rw [e2]
  exact slt_bit _ _ (by omega) (by omega) h4.2

end Cert.Proof.Table
-- ==== Proof.Mlp.lean ====
/-
  One row of the expert body at the ideal values: the expert's two layers written out as sums.
-/
module

public import proofs.«01_k».proof.Proof.Arr
public import proofs.«01_k».proof.Proof.Table
public import Idealize.ShloMosaic.Lib.Pointwise

@[expose] public section

noncomputable section

namespace Cert.Proof.Mlp

open Cert.KernelIdeal Cert.KernelIdeal.Gen
open Cert.Proof.Spec

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

/-- The activation: `v/2 · (1 + tanh (√(2/π) (v + 0.044715 v³)))` with the program's constants. -/
def act (v : EReal) : EReal :=
  v * (Ideal.ofBits .f32 0x3F000000#32 * (1 + Ideal.tanh (Ideal.ofBits .f32 0x3F4C422A#32 * (v + Ideal.ofBits .f32 0x3D372713#32 * (v * (v * v))))))

/-- Expert `e`'s two layers on one token `x`, at column `l`. -/
def mlp (W1 : S8x512x512.Idx → EReal) (B1 : S8x512.Idx → EReal) (W2 : S8x512x512.Idx → EReal) (B2 : S8x512.Idx → EReal)
    (e : Fin 8) (x : Fin 512 → EReal) (l : Fin 512) : EReal :=
  (∑ k : Fin 512, act ((∑ c : Fin 512, x c * W1 (ix3 e c k)) + B1 (ix2 e k)) * W2 (ix3 e k l)) + B2 (ix2 e l)

theorem ix2_eq {a b : ℕ} (i : Fin a) (j : Fin b) : Blocks.ix2 i j = ix2 i j := by funext a; fin_cases a <;> rfl
theorem ix3_eq {a b c : ℕ} (i : Fin a) (j : Fin b) (k : Fin c) : Base.ix3 i j k = ix3 i j k := by funext a; fin_cases a <;> rfl

/-- The body's two layers on the block's rows, at row `r` and column `l`. -/
theorem pay4_at (X : S128x512.Idx → EReal) (W1 : S1x512x512.Idx → EReal) (B1 : S1x512.Idx → EReal) (W2 : S1x512x512.Idx → EReal) (B2 : S1x512.Idx → EReal)
    (r : Fin 128) (l : Fin 512) : k1_pay4 (F := Ideal) X W1 B1 W2 B2 (ix2 r l)
      = (∑ k : Fin 512, act ((∑ c : Fin 512, X (ix2 r c) * W1 (ix3 0 c k)) + B1 (ix2 0 k)) * W2 (ix3 0 k l)) + B2 (ix2 0 l) := by
  unfold k1_pay4
  simp only [pointwise, zero_add]
  rfl

/-- What the expert body writes in the row of token `t`: the token's expert on the block's row. -/
theorem Yblk_at {f : ℕ → ℕ} (h : ∀ t < 1024, f t < 8) (t : ℕ) (ht : t < 1024) (i : grid1.Coords) (hi : (i 0).val = dest f t / 128)
    (X : S128x512.Idx → EReal) (W1 : S1x512x512.Idx → EReal) (B1 : S8x512.Idx → EReal) (W2 : S1x512x512.Idx → EReal) (B2 : S8x512.Idx → EReal) (r : Fin 128)
    (hr : r.val = dest f t % 128) (l : Fin 512) :
    Blocks.Yblk (F := Ideal) i (Base.Bsx f) X W1 B1 W2 B2 (ix2 r l)
      = (∑ k : Fin 512, act ((∑ c : Fin 512, X (ix2 r c) * W1 (ix3 0 c k)) + B1 (ix2 ⟨f t, h t ht⟩ k)) * W2 (ix3 0 k l)) + B2 (ix2 ⟨f t, h t ht⟩ l) := by
  have hu := dest_div_lt_used h t ht
  have h15 := off_le f h
  have hf := h t ht
  unfold Blocks.Yblk
  rw [if_pos (Table.cond_used h i (by omega))]
  have ho : Blocks.own (BitVec.ofNat 32 (i 0).val) (Base.Bsx f) = BitVec.ofNat 32 (f t) := by
    rw [hi, Table.own_eq h _ (by omega), owner_dest h t ht]
  have hm := Table.mask_set h t ht
  simp only [ho]
  rw [hi]
  have hrow : ∀ (B : S8x512.Idx → EReal) (k : Fin 512), Blocks.row (F := Ideal) (BitVec.ofNat 32 (f t)) B (ix2 0 k) = B (ix2 ⟨f t, hf⟩ k) := by
    intro B k
    unfold Blocks.row
    refine congrArg B (funext fun a => ?_)
    fin_cases a
    · refine Fin.ext ?_
      show (BitVec.ofNat 32 (f t)).toNat % 8 = f t
      rw [BitVec.toNat_ofNat]; omega
    · rfl
  refine Eq.trans (b := k1_pay4 (F := Ideal) (k1_pay3 (F := Ideal) X) W1 (Blocks.row (F := Ideal) (BitVec.ofNat 32 (f t)) B1) W2 (Blocks.row (F := Ideal) (BitVec.ofNat 32 (f t)) B2) (ix2 r l)) ?_ ?_
  · simp only [pointwise, Ideal.truncf_def]
    have hm2 : ∀ n : ℕ, n = r.val → IntOp.cmpi .slt (IntOp.addi (BitVec.ofNat 32 n) (Scalar.muli (Scalar.subi (BitVec.ofNat 32 (dest f t / 128))
        (Blocks.pick8 (BitVec.ofNat 32 (f t)) fun k => Blocks.wd (Base.Bsx f) ⟨k.val, by omega⟩)) 128#32))
      (Blocks.pick8 (BitVec.ofNat 32 (f t)) fun k => Blocks.wd (Base.Bsx f) ⟨k.val + 16, by omega⟩) = 1#1 := fun n e => by
      rw [e, hr]; exact hm
    rw [hm2 _ (by show 0 * 128 + r.val = r.val; omega)]
    rfl
  · rw [pay4_at]
    simp only [hrow]
    unfold k1_pay3
    simp only [pointwise]

end Cert.Proof.Mlp
-- ==== Proof.Epi.lean ====
/-
  The epilogue at the ideal values: the product with the 0/1 matrix of the places picks each token's row; it is scaled
  and added to the token.
-/
module

public import proofs.«01_k».proof.Proof.Mlp

@[expose] public section

noncomputable section

namespace Cert.Proof.Epi

open Cert.KernelIdeal Cert.KernelIdeal.Gen
open Cert.Proof.Spec

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

/-- An entry of the 0/1 matrix. -/
theorem onehot (n k : ℕ) (hn : n < 2048) (hk : k < 2048) :
    FloatOps.sitofp (F := Ideal) .f32 (BitVec.setWidth 32 (IntOp.cmpi .eq (BitVec.ofNat 32 n) (BitVec.ofNat 32 k))) = if n = k then 1 else 0 := by
  have e : (BitVec.ofNat 32 n == BitVec.ofNat 32 k) = decide (n = k) := by
    rw [Bool.eq_iff_iff, beq_iff_eq, decide_eq_true_eq]
    constructor
    · intro h
      have := congrArg BitVec.toNat h
      simp only [BitVec.toNat_ofNat] at this
      omega
    · rintro rfl; rfl
  simp only [IntOp.cmpi, e]
  by_cases h : n = k
  · rw [if_pos h, decide_eq_true h]
    show (((((BitVec.setWidth 32 (BitVec.ofBool true)).toInt : ℤ) : ℝ)) : EReal) = 1
    rw [show (BitVec.setWidth 32 (BitVec.ofBool true)).toInt = 1 by decide]
    norm_num
  · rw [if_neg h, decide_eq_false h]
    show (((((BitVec.setWidth 32 (BitVec.ofBool false)).toInt : ℤ) : ℝ)) : EReal) = 0
    rw [show (BitVec.setWidth 32 (BitVec.ofBool false)).toInt = 0 by decide]
    norm_num

theorem epi_at {f : ℕ → ℕ} (h : ∀ t < 1024, f t < 8) (D : S1x1024.Idx → BitVec 32) (hD : ∀ t : Fin 1024, D (ix2 0 t) = BitVec.ofNat 32 (dest f t.val))
    (Y : S2048x512.Idx → EReal) (p : S1024x1.Idx → EReal) (x : S1024x512.Idx → EReal) (t : Fin 1024) (l : Fin 512) :
    k2_pay1 (F := Ideal) D Y p x (ix2 t l) = Y (ix2 ⟨dest f t.val, dest_lt h t.val t.isLt⟩ l) * p (ix2 t 0) + x (ix2 t l) := by
  unfold k2_pay1
  simp only [pointwise, zero_add]
  have hd := dest_lt h t.val t.isLt
  have e : ∀ k : Fin 2048, FloatOps.sitofp (F := Ideal) .f32 (BitVec.setWidth 32 (IntOp.cmpi .eq (BitVec.ofNat 32 (0 * 2048 + k.val)) (D (ix2 0 t))))
      = if k = ⟨dest f t.val, hd⟩ then 1 else 0 := fun k => by
    rw [hD, Nat.zero_mul, Nat.zero_add, onehot k.val _ k.isLt hd]
    exact if_congr (Fin.ext_iff (b := ⟨dest f t.val, hd⟩)).symm rfl rfl
  refine congrArg₂ (· + ·) (congrArg₂ (· * ·) ?_ rfl) rfl
  refine (Finset.sum_congr rfl fun k _ => congrArg (· * Y (ix2 k l)) (e k)).trans ?_
  simp only [ite_mul, one_mul, zero_mul, Finset.sum_ite_eq', Finset.mem_univ, if_true]

end Cert.Proof.Epi
-- ==== Proof.KVal.lean ====
/-
  The program's last result at the ideal values, token by token: each token's expert on it, scaled by its probability,
  plus the token.
-/
module

public import proofs.«01_k».proof.Proof.Vals
public import proofs.«01_k».proof.Proof.Epi

@[expose] public section

noncomputable section

namespace Cert.Proof.KVal

open Cert.KernelIdeal Cert.KernelIdeal.Gen
open Cert.Proof.Spec Cert.Proof.Mlp Cert.Proof.Vals
open Idealize.ShloMosaic Idealize.ShloMosaic.TcCoe
open Idealize.SL Idealize.SL.Sem
open Idealize.ShloMosaic.Pipeline (afterRegion arrRef)

variable (m : (ℓ : Loc nD τ sig) → Buf (Elt Ideal) ℓ)

/-- The row of token `t` in the padded array is the token. -/
theorem row_at (d : Dev nD) (h : ∀ t < 1024, Base.fM m d t < 8) (t : Fin 1024) (c : Fin 512) (n : Fin 2048) (hn : n.val = dest (Base.fM m d) t.val) :
    shapeCast S2048x512 (Base.Xp m d) Gen.shapeCasts_S2048x4x128_S2048x512 (ix2 n c) = Base.tokM m d (ix2 t c) := by
  have hc := c.isLt
  rw [shapeCast_apply _ _ _ (ix3 n (⟨c.val / 128, by omega⟩ : Fin 4) (⟨c.val % 128, by omega⟩ : Fin 128))
    (by rw [Shape.rowMajor_val_two, Shape.rowMajor_val_three]; show (n.val * 4 + c.val / 128) * 128 + c.val % 128 = n.val * 512 + c.val; omega)]
  unfold Base.Xp Base.Xpad
  have hex : ∃ s : Fin 1024, dest (Base.fM m d) s.val = n.val := ⟨t, hn.symm⟩
  have e : Classical.choose hex = t := Fin.ext (dest_inj (Classical.choose hex).isLt t.isLt ((Classical.choose_spec hex).trans hn))
  refine (dif_pos hex).trans ?_
  refine Eq.trans (congrArg (fun s => Base.cT m d (Base.ix3 s (⟨c.val / 128, by omega⟩ : Fin 4) (⟨c.val % 128, by omega⟩ : Fin 128))) e) ?_
  unfold Base.cT
  refine shapeCast_apply _ _ _ _ ?_
  rw [Shape.rowMajor_val_two, Shape.rowMajor_val_three]
  show t.val * 512 + c.val = (t.val * 4 + c.val / 128) * 128 + c.val % 128
  omega

/-- The expert region's output in the row of token `t`: the token's expert on that row of the padded array. -/
theorem G0_row {f : ℕ → ℕ} (h : ∀ t < 1024, f t < 8) (W : Valuation τ sig (Elt Ideal)) (t : Fin 1024) (n : Fin 2048) (hn : n.val = dest f t.val) (l : Fin 512) :
    Arr.G0 (F := Ideal) (Base.Bsx f) W (ix2 n l) = mlp (W (rf main_arg6)) (W (rf main_arg7)) (W (rf main_arg8)) (W (rf main_arg9)) ⟨f t.val, h t.val t.isLt⟩
      (fun c => (W (rf main_v5) : S2048x512.Idx → EReal) (ix2 n c)) l := by
  have hdiv := dest_div_lt_used h t.val t.isLt
  have h15 := off_le _ h
  have hf := h t.val t.isLt
  have hb : n.val / 128 < 16 := by omega
  have hr : n.val % 128 < 128 := by omega
  have key := Yblk_at h t.val t.isLt (grid1.coords (⟨n.val / 128, hb⟩ : Fin 16)) ((Arr.coord ⟨n.val / 128, hb⟩).trans (by show n.val / 128 = _; rw [hn]))
    (Dats.blk0 (F := Ideal) (Base.Bsx f) W 0 ⟨n.val / 128, hb⟩) (Dats.blk0 (F := Ideal) (Base.Bsx f) W 1 ⟨n.val / 128, hb⟩) (Dats.blk0 (F := Ideal) (Base.Bsx f) W 2 ⟨n.val / 128, hb⟩)
    (Dats.blk0 (F := Ideal) (Base.Bsx f) W 3 ⟨n.val / 128, hb⟩) (Dats.blk0 (F := Ideal) (Base.Bsx f) W 4 ⟨n.val / 128, hb⟩) ⟨n.val % 128, hr⟩ (by show n.val % 128 = _; rw [hn]) l
  have ho : (Blocks.own (BitVec.ofNat 32 (n.val / 128)) (Base.Bsx f)).toNat = f t.val := by
    rw [hn, Table.own_eq h _ (by omega), owner_dest h t.val t.isLt, BitVec.toNat_ofNat]; omega
  have hw1 : ∀ (c k : Fin 512), (Dats.blk0 (F := Ideal) (Base.Bsx f) W 1 ⟨n.val / 128, hb⟩ : S1x512x512.Idx → EReal) (ix3 0 c k)
      = (W (rf main_arg6) : S8x512x512.Idx → EReal) (ix3 ⟨f t.val, hf⟩ c k) := fun c k => by
    rw [← ix3_eq, ← ix3_eq]
    refine (Arr.blk0_1 (F := Ideal) (Base.Bsx f) W ⟨n.val / 128, hb⟩ 0 c k).trans ?_
    exact congrArg (fun e => (W (rf main_arg6) : S8x512x512.Idx → EReal) (Base.ix3 e c k)) (Fin.ext ho)
  have hw2 : ∀ (c k : Fin 512), (Dats.blk0 (F := Ideal) (Base.Bsx f) W 3 ⟨n.val / 128, hb⟩ : S1x512x512.Idx → EReal) (ix3 0 c k)
      = (W (rf main_arg8) : S8x512x512.Idx → EReal) (ix3 ⟨f t.val, hf⟩ c k) := fun c k => by
    rw [← ix3_eq, ← ix3_eq]
    refine (Arr.blk0_3 (F := Ideal) (Base.Bsx f) W ⟨n.val / 128, hb⟩ 0 c k).trans ?_
    exact congrArg (fun e => (W (rf main_arg8) : S8x512x512.Idx → EReal) (Base.ix3 e c k)) (Fin.ext ho)
  have hx : ∀ c : Fin 512, (Dats.blk0 (F := Ideal) (Base.Bsx f) W 0 ⟨n.val / 128, hb⟩ : S128x512.Idx → EReal) (ix2 ⟨n.val % 128, hr⟩ c)
      = (W (rf main_v5) : S2048x512.Idx → EReal) (ix2 n c) := fun c => by
    rw [← ix2_eq, ← ix2_eq]
    refine (Arr.blk0_0 (F := Ideal) (Base.Bsx f) W ⟨n.val / 128, hb⟩ ⟨n.val % 128, hr⟩ c).trans ?_
    exact congrArg (fun e => (W (rf main_v5) : S2048x512.Idx → EReal) (Blocks.ix2 e c)) (Fin.ext (by show 128 * (n.val / 128) + n.val % 128 = n.val; omega))
  refine Eq.trans ?_ (key.trans ?_)
  · unfold Arr.G0 Dats.y0
    exact congrArg _ (ix2_eq _ _)
  · unfold mlp
    simp only [hw1, hw2, hx]
    rw [Arr.blk0_2, Arr.blk0_4]

/-- The epilogue's result, token by token. -/
theorem VF_v10 (d : Dev nD) (h : ∀ t < 1024, Base.fM m d t < 8) (t : Fin 1024) (l : Fin 512) :
    (VF m d (rf main_v10) : S1024x512.Idx → EReal) (ix2 t l)
      = mlp (m (d, rf main_arg6)) (m (d, rf main_arg7)) (m (d, rf main_arg8)) (m (d, rf main_arg9)) ⟨Base.fM m d t.val, h t.val t.isLt⟩
          (fun c => Base.tokM m d (ix2 t c)) l * (m (d, rf main_arg1) : S1024x1.Idx → EReal) (ix2 t 0) + Base.tokM m d (ix2 t l) := by
  have hd : (0 : Dev nD) = d := Subsingleton.elim _ _
  have htab : tab m = Base.Bsx (Base.fM m d) := by unfold tab; rw [hd]
  have e10 : (VF m d (rf main_v10) : S1024x512.Idx → EReal) = Dats.y1 (VE m d) 0 :=
    (Pipeline.afterRegion_arr (Dats.dat1 (tab m) (VE m d) d) (VE m d) winFacts2.arr_inj 4).trans (Arr.dat1_out (tab m) (VE m d) d)
  have e8 : (VE m d (rf main_v8) : S2048x512.Idx → EReal) = Arr.G0 (tab m) (VC m d) :=
    (VE_of m d (by decide)).trans
      ((Pipeline.afterRegion_arr (Dats.dat0 (tab m) (VC m d) d) (VC m d) winFacts1.arr_inj 5).trans (Arr.dat0_out (tab m) (VC m d) d))
  have e1 : (VE m d (rf main_v1) : S1024x512.Idx → EReal) = Base.tokM m d :=
    (VE_of m d (by decide)).trans ((VD_of m d (by decide)).trans ((VC_of m d (by decide) (by decide) (by decide)).trans
      ((VB_of m d (by decide) (by decide) (by decide)).trans (VA_v1 m d))))
  have ep : (VE m d (rf main_arg1) : S1024x1.Idx → EReal) = m (d, rf main_arg1) :=
    (VE_of m d (by decide)).trans ((VD_of m d (by decide)).trans ((VC_of m d (by decide) (by decide) (by decide)).trans
      ((VB_of m d (by decide) (by decide) (by decide)).trans (VA_of m d (by decide) (by decide) (by decide) (by decide)))))
  have hC : ∀ b : Ref sig .tc, b ∈ ({main_arg6, main_arg7, main_arg8, main_arg9} : Finset (Ref sig .tc)) → VC m d (rf b) = m (d, rf b) := by
    intro b hb
    have hn : ∀ b ∈ ({main_arg6, main_arg7, main_arg8, main_arg9} : Finset (Ref sig .tc)), ∀ x ∈ ({main_v0, main_v1, main_v2, main_v3, main_v4_0, main_v4_1,
      main_v4_2, main_v5, main_v6, main_v7} : Finset (Ref sig .tc)), b ≠ x := by decide
    have hr : ∀ x ∈ ({main_v0, main_v1, main_v2, main_v3, main_v4_0, main_v4_1, main_v4_2, main_v5, main_v6, main_v7} : Finset (Ref sig .tc)), rf b ≠ rf x :=
      fun x hx e => hn b hb x hx (Proc.devRef_injective _ e)
    rw [VC_of m d (hr _ (by decide)) (hr _ (by decide)) (hr _ (by decide)), VB_of m d (hr _ (by decide)) (hr _ (by decide)) (hr _ (by decide)),
      VA_of m d (hr _ (by decide)) (hr _ (by decide)) (hr _ (by decide)) (hr _ (by decide))]
  have hdl := dest_lt h t.val t.isLt
  rw [e10]
  unfold Dats.y1
  rw [Arr.blk1_0, Arr.blk1_1, Arr.blk1_2, Arr.blk1_3]
  refine (Epi.epi_at h _ (fun s => ?_) _ _ _ t l).trans ?_
  · rw [VE_v9]
    refine (shapeCast_apply _ _ _ (Base.ix1 s) ?_).trans rfl
    rw [Shape.rowMajor_val_two, Shape.rowMajor_val_one]
    show s.val = 0 * 1024 + s.val
    omega
  · refine congrArg₂ (· + ·) (congrArg₂ (· * ·) ?_ (congrFun ep _)) (congrFun e1 _)
    refine (congrFun e8 _).trans ?_
    rw [htab]
    refine (G0_row h (VC m d) t ⟨dest (Base.fM m d) t.val, hdl⟩ rfl l).trans ?_
    rw [hC main_arg6 (by decide), hC main_arg7 (by decide), hC main_arg8 (by decide), hC main_arg9 (by decide), VC_v5]
    refine congrArg (fun x => mlp _ _ _ _ _ x l) ?_
    funext c
    exact row_at m d h t c _ rfl

end Cert.Proof.KVal
-- ==== Proof.RefVal.lean ====
/-
  The reference's last result at the ideal values, token by token: all the experts on every token, the token's own one
  picked out, scaled by its probability, and the token added.
-/
module

public import proofs.«01_k».proof.Proof.Mlp
public import proofs.«01_k».proof.Proof.Gen.ReferenceIdeal.Run

@[expose] public section

noncomputable section

namespace Cert.Proof.RefVal

open Cert.ReferenceIdeal Cert.ReferenceIdeal.Gen
open Cert.Proof.Mlp (act mlp)
open Idealize.ShloMosaic Idealize.ShloMosaic.TcCoe

/-- The reference's hidden layer before the activation, of every expert on every token. -/
def hid (W1 : S8x512x512.Idx → EReal) (B1 : S8x512.Idx → EReal) (tok : S1024x512.Idx → EReal) : S8x1024x512.Idx → EReal :=
  addf (F := Ideal) (φ := .f32) (transpose S8x1024x512 [0, 2, 1] (Host.dotGeneral (F := Ideal) (φ₁ := .f32) (φ₂ := .f32) dot_S8x512x512_S1024x512_S8x512x1024_1_1_02_0_n_n none W1 tok) transposes_S8x512x1024_S8x1024x512_0_2_1)
    (broadcastInDim S8x1024x512 ![0, 1, 2] bcast_S8x1x512_S8x1024x512_0_1_2 (broadcastInDim S8x1x512 ![0, 2] bcast_S8x512_S8x1x512_0_2 B1))

theorem hid_at (W1 : S8x512x512.Idx → EReal) (B1 : S8x512.Idx → EReal) (tok : S1024x512.Idx → EReal) (e : Fin 8) (t : Fin 1024) (k : Fin 512) :
    hid W1 B1 tok (ix3 e t k) = (∑ c : Fin 512, tok (ix2 t c) * W1 (ix3 e c k)) + B1 (ix2 e k) := by
  unfold hid
  simp only [pointwise, zero_add]
  exact congrArg₂ (· + ·) (Finset.sum_congr rfl fun c _ => mul_comm _ _) rfl

/-- The reference's two layers of every expert on every token. -/
def both (W2 : S8x512x512.Idx → EReal) (B2 : S8x512.Idx → EReal) (h : S8x1024x512.Idx → EReal) : S8x1024x512.Idx → EReal :=
  addf (F := Ideal) (φ := .f32) (Host.dotGeneral (F := Ideal) (φ₁ := .f32) (φ₂ := .f32) dot_S8x1024x512_S8x512x512_S8x1024x512_2_1_1_2_0_0 none (mulf (F := Ideal) (φ := .f32) h
    (mulf (broadcastInDim S8x1024x512 ![] bcast_S_S8x1024x512 (constant S_ .f32 0x3F000000#32)) (addf (broadcastInDim S8x1024x512 ![] bcast_S_S8x1024x512 (constant S_ .f32 0x3F800000#32))
      (Host.tanh (mulf (broadcastInDim S8x1024x512 ![] bcast_S_S8x1024x512 (constant S_ .f32 0x3F4C422A#32)) (addf h
        (mulf (broadcastInDim S8x1024x512 ![] bcast_S_S8x1024x512 (constant S_ .f32 0x3D372713#32)) (mulf (mulf h h) h)))))))) W2)
    (broadcastInDim S8x1024x512 ![0, 1, 2] bcast_S8x1x512_S8x1024x512_0_1_2 (broadcastInDim S8x1x512 ![0, 2] bcast_S8x512_S8x1x512_0_2 B2))

theorem both_at (W1 : S8x512x512.Idx → EReal) (B1 : S8x512.Idx → EReal) (W2 : S8x512x512.Idx → EReal) (B2 : S8x512.Idx → EReal) (tok : S1024x512.Idx → EReal)
    (e : Fin 8) (t : Fin 1024) (l : Fin 512) : both W2 B2 (hid W1 B1 tok) (ix3 e t l) = mlp W1 B1 W2 B2 e (fun c => tok (ix2 t c)) l := by
  unfold both mlp
  simp only [pointwise, zero_add, hid_at]
  refine congrArg₂ (· + ·) (Finset.sum_congr rfl fun k _ => congrArg (· * W2 (ix3 e k l)) ?_) rfl
  unfold act
  generalize (∑ c : Fin 512, tok (ix2 t c) * W1 (ix3 e c k)) + B1 (ix2 e k) = v
  rw [mul_comm (v * v) v]

/-- The two words each token is picked by: its expert and its number. -/
def pick (I : S1024.Idx → BitVec 32) : S1024x2.Idx → BitVec 32 :=
  concatenate S1024x2 1 [⟨S1024x1, (broadcastInDim S1024x1 ![0] bcast_S1024_S1024x1_0 (select (cmpi .slt I (broadcastInDim S1024 ![] bcast_S_S1024 (constantI S_ 32 0#32)))
      (addi I (broadcastInDim S1024 ![] bcast_S_S1024 (constantI S_ 32 8#32))) I))⟩,
    ⟨S1024x1, (broadcastInDim S1024x1 ![0] bcast_S1024_S1024x1_0 (select (cmpi .slt (iotaInDim S1024 32 0) (broadcastInDim S1024 ![] bcast_S_S1024 (constantI S_ 32 0#32)))
      (addi (iotaInDim S1024 32 0) (broadcastInDim S1024 ![] bcast_S_S1024 (constantI S_ 32 1024#32))) (iotaInDim S1024 32 0)))⟩] concatenates_S1024x1_S1024x1_S1024x2_d1

theorem cat_0 (a b : S1024x1.Idx → BitVec 32) (t : Fin 1024) :
    concatenate S1024x2 1 [⟨S1024x1, a⟩, ⟨S1024x1, b⟩] concatenates_S1024x1_S1024x1_S1024x2_d1 (ix2 t 0) = a (ix2 t 0) := by
  simp only [pointwise]
  rfl

theorem cat_1 (a b : S1024x1.Idx → BitVec 32) (t : Fin 1024) :
    concatenate S1024x2 1 [⟨S1024x1, a⟩, ⟨S1024x1, b⟩] concatenates_S1024x1_S1024x1_S1024x2_d1 (ix2 t 1) = b (ix2 t 0) := by
  refine concatenate_pair_apply_right (t := S1024x2) 1 a b concatenates_S1024x1_S1024x1_S1024x2_d1 (ix2 t 1) rfl rfl (ix2 t 0) (fun b hb => ?_) rfl
  have h : b = (0 : Fin 2) ∨ b = (1 : Fin 2) := by revert b; decide
  rcases h with rfl | rfl
  · rfl
  · exact absurd rfl hb

/-- A word that is not negative is not wrapped. -/
theorem wrap_small (v a : BitVec 32) (h : v.toNat < 2 ^ 31) : Scalar.select (IntOp.cmpi .slt v 0#32) (IntOp.addi v a) v = v := by
  have e : v.slt 0#32 = false := by
    rw [BitVec.slt_eq_decide]
    simp only [BitVec.toInt_eq_toNat_cond, BitVec.toNat_ofNat, decide_eq_false_iff_not]
    omega
  simp only [IntOp.cmpi, e]
  rfl

theorem pick_0 (I : S1024.Idx → BitVec 32) (t : Fin 1024) (h : (I (ix1 t)).toNat < 8) : pick I (ix2 t 0) = I (ix1 t) := by
  unfold pick
  rw [cat_0]
  simp only [pointwise]
  exact wrap_small _ _ (by show (I (ix1 t)).toNat < _; omega)

theorem pick_1 (I : S1024.Idx → BitVec 32) (t : Fin 1024) : pick I (ix2 t 1) = BitVec.ofNat 32 t.val := by
  unfold pick
  rw [cat_1]
  simp only [pointwise]
  exact wrap_small (BitVec.ofNat 32 t.val) _ (by rw [BitVec.toNat_ofNat]; omega)

/-- Where the pick's words are an expert and a token, it reads that expert's row of that token. -/
theorem gather_at (x : S8x1024x512.Idx → EReal) (idx : S1024x2.Idx → BitVec 32) (e : Fin 8) (t : Fin 1024) (l : Fin 512) (h0 : idx (ix2 t 0) = BitVec.ofNat 32 e.val)
    (h1 : idx (ix2 t 1) = BitVec.ofNat 32 t.val) :
    Host.gather gather_S8x1024x512_S1024x2_S1024x512_1_01_n_n_01_1_11512 x idx (ix2 t l) = x (ix3 e t l) := by
  unfold Host.gather
  refine congrArg x (funext fun a => Fin.ext ?_)
  have hs : ∀ n : ℕ, n < 1024 → ((BitVec.ofNat 32 n).toInt.toNat) = n := fun n hn => by
    rw [BitVec.toInt_eq_toNat_cond, BitVec.toNat_ofNat]; split <;> omega
  show gather_S8x1024x512_S1024x2_S1024x512_1_01_n_n_01_1_11512.start (ix2 t l) idx a
    + gather_S8x1024x512_S1024x2_S1024x512_1_01_n_n_01_1_11512.batchCoord (ix2 t l) a
    + gather_S8x1024x512_S1024x2_S1024x512_1_01_n_n_01_1_11512.offCoord (ix2 t l) a = _
  rw [GatherDims.batchCoord_eq_zero _ _ _ List.not_mem_nil]
  have ha : a = (0 : Fin 3) ∨ a = (1 : Fin 3) ∨ a = (2 : Fin 3) := by
    revert a; decide
  rcases ha with rfl | rfl | rfl
  · rw [GatherDims.offCoord_eq_zero _ _ _ (fun h => ((GatherDims.mem_sKept _ _).mp h).1 (by decide))]
    unfold GatherDims.start
    rw [dif_pos (by decide)]
    have hsi : gather_S8x1024x512_S1024x2_S1024x512_1_01_n_n_01_1_11512.siIdx (ix2 t l) ⟨List.idxOf (0 : Fin 3) [0, 1], by decide⟩ = ix2 t 0 := by
      funext b; refine Fin.ext ?_
      match b with
      | ⟨0, _⟩ => rfl
      | ⟨1, _⟩ => rfl
    refine (congrArg (fun w => min (BitVec.toInt w).toNat (8 - 1) + 0 + 0) ((congrArg idx hsi).trans h0)).trans ?_
    rw [hs _ (by omega)]
    show min e.val 7 + 0 + 0 = e.val
    omega
  · rw [GatherDims.offCoord_eq_zero _ _ _ (fun h => ((GatherDims.mem_sKept _ _).mp h).1 (by decide))]
    unfold GatherDims.start
    rw [dif_pos (by decide)]
    have hsi : gather_S8x1024x512_S1024x2_S1024x512_1_01_n_n_01_1_11512.siIdx (ix2 t l) ⟨List.idxOf (1 : Fin 3) [0, 1], by decide⟩ = ix2 t 1 := by
      funext b; refine Fin.ext ?_
      match b with
      | ⟨0, _⟩ => rfl
      | ⟨1, _⟩ => rfl
    refine (congrArg (fun w => min (BitVec.toInt w).toNat (1024 - 1) + 0 + 0) ((congrArg idx hsi).trans h1)).trans ?_
    rw [hs _ (by omega)]
    show min t.val 1023 + 0 + 0 = t.val
    omega
  · unfold GatherDims.start
    rw [dif_neg (by decide)]
    simp only [Nat.zero_add]
    unfold GatherDims.offCoord
    rw [dif_pos (by decide)]
    rfl

/-- The reference's result from its pieces. -/
theorem res_eq (m : (ℓ : Loc nD τ sig) → Buf (Elt Ideal) ℓ) (c : Dev nD) (tok : S1024x512.Idx → EReal) (I : S1024.Idx → BitVec 32)
    (ht : tok = shapeCast S1024x512 (transpose S4x16x16x512 [0, 2, 3, 1] (m ((c.tc : Thread nD τ).loc main_arg5) : S4x512x16x16.Idx → EReal) transposes_S4x512x16x16_S4x16x16x512_0_2_3_1) shapeCasts_S4x16x16x512_S1024x512)
    (hI : I = shapeCast S1024 (m ((c.tc : Thread nD τ).loc main_arg0) : S8x128.Idx → BitVec 32) shapeCasts_S8x128_S1024) :
    Value.res_main_v44 m c = addf (F := Ideal) (φ := .f32) (transpose S4x512x16x16 [0, 3, 1, 2] (shapeCast S4x16x16x512 (mulf (F := Ideal) (φ := .f32)
      (Host.gather gather_S8x1024x512_S1024x2_S1024x512_1_01_n_n_01_1_11512 (both (m ((c.tc : Thread nD τ).loc main_arg8)) (m ((c.tc : Thread nD τ).loc main_arg9))
        (hid (m ((c.tc : Thread nD τ).loc main_arg6)) (m ((c.tc : Thread nD τ).loc main_arg7)) tok)) (pick I))
      (broadcastInDim S1024x512 ![0, 1] bcast_S1024x1_S1024x512_0_1 (m ((c.tc : Thread nD τ).loc main_arg1)))) shapeCasts_S1024x512_S4x16x16x512)
      transposes_S4x16x16x512_S4x512x16x16_0_3_1_2) (m ((c.tc : Thread nD τ).loc main_arg5)) := by
  subst ht hI
  rfl

end Cert.Proof.RefVal
-- ==== Proof.Value.lean ====
/-
  The program's last result and the reference's are the same array at the ideal values.
-/
module

public import proofs.«01_k».proof.Proof.KVal
public import proofs.«01_k».proof.Proof.RefVal

@[expose] public section

noncomputable section

namespace Cert.Proof.Value

open Cert.KernelIdeal
open Cert.Proof.Vals Cert.Proof.RefVal
open Cert.Proof.Mlp (mlp)
open Idealize.ShloMosaic Idealize.ShloMosaic.TcCoe

/-- Moving the channels last and back changes nothing. -/
theorem transposes_back (x : S4x512x16x16.Idx → EReal) :
    transpose S4x512x16x16 [0, 3, 1, 2] (transpose S4x16x16x512 [0, 2, 3, 1] x Gen.transposes_S4x512x16x16_S4x16x16x512_0_2_3_1) Gen.transposes_S4x16x16x512_S4x512x16x16_0_3_1_2 = x := by
  funext i
  unfold transpose
  refine congrArg x (funext fun a => Fin.ext ?_)
  have ha : a = (0 : Fin 4) ∨ a = (1 : Fin 4) ∨ a = (2 : Fin 4) ∨ a = (3 : Fin 4) := by
    revert a; decide
  rcases ha with rfl | rfl | rfl | rfl <;> rfl

/-- The tokens laid out as the result are the last argument's own feature map. -/
theorem tok_back (m : (ℓ : Loc nD τ sig) → Buf (Elt Ideal) ℓ) (d : Dev nD) :
    transpose S4x512x16x16 [0, 3, 1, 2] (shapeCast S4x16x16x512 (Base.tokM m d : S1024x512.Idx → EReal) Gen.shapeCasts_S1024x512_S4x16x16x512) Gen.transposes_S4x16x16x512_S4x512x16x16_0_3_1_2
      = (m ((SparseCore.T d).loc main_arg5) : S4x512x16x16.Idx → EReal) := by
  unfold Base.tokM
  rw [shapeCast_shapeCast]
  exact transposes_back _

/-- Laying out a sum as the result is laying out its terms. -/
theorem flat_add (g t : S1024x512.Idx → EReal) (x : S4x512x16x16.Idx → EReal)
    (hx : transpose S4x512x16x16 [0, 3, 1, 2] (shapeCast S4x16x16x512 t Gen.shapeCasts_S1024x512_S4x16x16x512) Gen.transposes_S4x16x16x512_S4x512x16x16_0_3_1_2 = x) :
    transpose S4x512x16x16 [0, 3, 1, 2] (shapeCast S4x16x16x512 (addf (F := Ideal) (φ := .f32) g t) Gen.shapeCasts_S1024x512_S4x16x16x512) Gen.transposes_S4x16x16x512_S4x512x16x16_0_3_1_2
      = addf (F := Ideal) (φ := .f32) (transpose S4x512x16x16 [0, 3, 1, 2] (shapeCast S4x16x16x512 g Gen.shapeCasts_S1024x512_S4x16x16x512) Gen.transposes_S4x16x16x512_S4x512x16x16_0_3_1_2) x := by
  subst hx
  rfl

/-- Each token's expert's output scaled by its probability, as the reference writes it. -/
def scaled (m : (ℓ : Loc nD τ sig) → Buf (Elt Ideal) ℓ) (d : Dev nD) : S1024x512.Idx → EReal :=
  mulf (F := Ideal) (φ := .f32)
    (Host.gather Cert.ReferenceIdeal.gather_S8x1024x512_S1024x2_S1024x512_1_01_n_n_01_1_11512 (both (m (d, rf main_arg8)) (m (d, rf main_arg9)) (hid (m (d, rf main_arg6)) (m (d, rf main_arg7)) (Base.tokM m d))) (pick (Base.cI m d)))
    (broadcastInDim S1024x512 ![0, 1] Cert.ReferenceIdeal.Gen.bcast_S1024x1_S1024x512_0_1 (m (d, rf main_arg1) : S1024x1.Idx → EReal))

/-- The epilogue's result is that plus the tokens. -/
theorem VF_v10_eq (m : (ℓ : Loc nD τ sig) → Buf (Elt Ideal) ℓ) (d : Dev nD) (h : ∀ t < 1024, Base.fM m d t < 8) :
    (VF m d (rf main_v10) : S1024x512.Idx → EReal) = addf (F := Ideal) (φ := .f32) (scaled m d) (Base.tokM m d : S1024x512.Idx → EReal) := by
  funext i
  obtain ⟨t, l, rfl⟩ : ∃ (t : Fin 1024) (l : Fin 512), i = ix2 t l := ⟨i 0, i 1, by
    funext a
    have ha : a = (0 : Fin 2) ∨ a = (1 : Fin 2) := by
      revert a; decide
    rcases ha with rfl | rfl <;> rfl⟩
  have hf : (Base.cI m d (ix1 t)).toNat = Base.fM m d t.val := by
    unfold Base.fM Base.fOf
    rw [dif_pos t.isLt]
    refine congrArg (fun i => BitVec.toNat (Base.cI m d i)) (funext fun a => ?_)
    have ha : a = (0 : Fin 1) := by
      revert a; decide
    subst ha
    rfl
  have hlt := h t.val t.isLt
  rw [KVal.VF_v10 m d h t l]
  unfold scaled
  simp only [pointwise]
  refine congrArg₂ (· + ·) (congrArg₂ (· * ·) ?_ rfl) rfl
  refine ((gather_at _ _ ⟨Base.fM m d t.val, hlt⟩ t l ((pick_0 _ t (by rw [hf]; exact hlt)).trans ?_) (pick_1 _ t)).trans (both_at _ _ _ _ _ _ _ _)).symm
  exact BitVec.eq_of_toNat_eq (by rw [hf, BitVec.toNat_ofNat]; show _ = Base.fM m d t.val % 2 ^ 32; omega)

/-- The last result of the two programs. -/
theorem v12_eq (m : (ℓ : Loc nD τ sig) → Buf (Elt Ideal) ℓ) (m' : (ℓ : Loc Cert.ReferenceIdeal.nD Cert.ReferenceIdeal.τ Cert.ReferenceIdeal.sig) → Buf (Elt Ideal) ℓ)
    (d : Dev nD) (h : ∀ t < 1024, Base.fM m d t < 8)
    (h0 : m' ((d.tc : Thread Cert.ReferenceIdeal.nD Cert.ReferenceIdeal.τ).loc Cert.ReferenceIdeal.main_arg0) = m ((d.tc : Thread nD τ).loc main_arg0))
    (h1 : m' ((d.tc : Thread Cert.ReferenceIdeal.nD Cert.ReferenceIdeal.τ).loc Cert.ReferenceIdeal.main_arg1) = m ((d.tc : Thread nD τ).loc main_arg1))
    (h5 : m' ((d.tc : Thread Cert.ReferenceIdeal.nD Cert.ReferenceIdeal.τ).loc Cert.ReferenceIdeal.main_arg5) = m ((d.tc : Thread nD τ).loc main_arg5))
    (h6 : m' ((d.tc : Thread Cert.ReferenceIdeal.nD Cert.ReferenceIdeal.τ).loc Cert.ReferenceIdeal.main_arg6) = m ((d.tc : Thread nD τ).loc main_arg6))
    (h7 : m' ((d.tc : Thread Cert.ReferenceIdeal.nD Cert.ReferenceIdeal.τ).loc Cert.ReferenceIdeal.main_arg7) = m ((d.tc : Thread nD τ).loc main_arg7))
    (h8 : m' ((d.tc : Thread Cert.ReferenceIdeal.nD Cert.ReferenceIdeal.τ).loc Cert.ReferenceIdeal.main_arg8) = m ((d.tc : Thread nD τ).loc main_arg8))
    (h9 : m' ((d.tc : Thread Cert.ReferenceIdeal.nD Cert.ReferenceIdeal.τ).loc Cert.ReferenceIdeal.main_arg9) = m ((d.tc : Thread nD τ).loc main_arg9)) :
    VI m d (rf main_v12) = Cert.ReferenceIdeal.Value.res_main_v44 m' d := by
  rw [res_eq m' d (Base.tokM m d) (Base.cI m d) (by rw [h5]; rfl) (by rw [h0]; rfl), VI_v12, VF_v10_eq m d h, h1, h5, h6, h7, h8, h9]
  exact flat_add (scaled m d) _ _ (tok_back m d)

end Cert.Proof.Value

end
-- ==== Proof.Same.lean ====
/-
  The program as printed and the one read at the ideal values are one program at any values: their pipelines and their
  bodies are equal, and the launches and the host code are the same function of them.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Proof.Same

open Cert.KernelIdeal Cert.KernelIdeal.Facts₀ Cert.KernelIdeal.Facts
open Idealize.ShloMosaic Idealize.ShloMosaic.TcCoe Idealize.SL Idealize.SL.Sem

attribute [local instance] Cert.Kernel.Gen.facts Cert.KernelIdeal.Gen.facts

variable {F : FTy → Type} [FloatOps F]

/-- The SparseCore calls over any two pipelines. -/
abbrev scOf (P : Fin 2 → Pipeline.PCfg sig Λ₀ (Elt F)) : SparseCore.Cfg τ sig (Pipeline.Sig Λ₀ (Fin 2) fun p => (P p).Adm) 2 where
  kind := scKind
  nCore := scNCore
  nSub := scNSub
  hkind := hscKind
  hCore := hscCore
  hSub := hscSub
  body := fun | 0 => Pipeline.kernel 0 | 1 => Pipeline.kernel 3 | ⟨_ + 2, h⟩ => absurd h (Nat.not_lt.2 (Nat.le_add_left _ _))
  args := fun | 0 => ⟨⟩ | 1 => ⟨⟩ | ⟨_ + 2, h⟩ => absurd h (Nat.not_lt.2 (Nat.le_add_left _ _))
  start := sc_start
  done := sc_done
  go := sc_go
  taskDone := sc_taskDone

/-- The body table over any two pipelines and any bodies. -/
def defsOf (P : Fin 2 → Pipeline.PCfg sig Λ₀ (Elt F)) (B : Defs nD τ sig (Elt F) Λ₀) : Defs nD τ sig (Elt F) (SparseCore.Sig (Pipeline.Sig Λ₀ (Fin 2) fun p => (P p).Adm) 2) :=
  (scOf P).defs (Pipeline.defs P B)

/-- The host code over any two pipelines. -/
def mainOf (P : Fin 2 → Pipeline.PCfg sig Λ₀ (Elt F)) : Dev nD → Prog (TpuEff nD τ sig (Elt F) (SparseCore.Sig (Pipeline.Sig Λ₀ (Fin 2) fun p => (P p).Adm) 2) .tc) PUnit := fun d => do
  hlo rfl (StableHlo.unary main_arg5 main_v0 ((transpose S4x16x16x512 [0, 2, 3, 1] · transposes_S4x512x16x16_S4x16x16x512_0_2_3_1) : (⟨S4x512x16x16, .f32⟩ : BufTy).Contents (Elt F) → (⟨S4x16x16x512, .f32⟩ : BufTy).Contents (Elt F))) (fun _ => .ret ⟨⟩)
  hlo rfl (StableHlo.reshape main_v0 main_v1 (rfl : (.f32 : EltTy) = .f32) shapeCasts_S4x16x16x512_S1024x512) (fun _ => .ret ⟨⟩)
  hlo rfl (StableHlo.reshape main_arg0 main_v2 (rfl : (.i32 : EltTy) = .i32) shapeCasts_S8x128_S1024) (fun _ => .ret ⟨⟩)
  hlo rfl (StableHlo.reshape main_v1 main_v3 (rfl : (.f32 : EltTy) = .f32) shapeCasts_S1024x512_S1024x4x128) (fun _ => .ret ⟨⟩)
  (scOf P).run d 0
  hlo rfl (StableHlo.reshape main_v4_0 main_v5 (rfl : (.f32 : EltTy) = .f32) shapeCasts_S2048x4x128_S2048x512) (fun _ => .ret ⟨⟩)
  hlo rfl (StableHlo.reshape main_v4_2 main_v6 (rfl : (.i32 : EltTy) = .i32) shapeCasts_S32_S2x16) (fun _ => .ret ⟨⟩)
  hlo rfl (StableHlo.reshape main_v6 main_v7 (rfl : (.i32 : EltTy) = .i32) shapeCasts_S2x16_S32) (fun _ => .ret ⟨⟩)
  Prog.lift (.customCall (SparseCore.inner (Pipeline.entry 0)) ())
  hlo rfl (StableHlo.reshape main_v4_1 main_v9 (rfl : (.i32 : EltTy) = .i32) shapeCasts_S1024_S1x1024) (fun _ => .ret ⟨⟩)
  Prog.lift (.customCall (SparseCore.inner (Pipeline.entry 1)) ())
  hlo rfl (StableHlo.reshape main_v10 main_v11 (rfl : (.f32 : EltTy) = .f32) shapeCasts_S1024x512_S4x16x16x512) (fun _ => .ret ⟨⟩)
  hlo rfl (StableHlo.unary main_v11 main_v12 ((transpose S4x512x16x16 [0, 3, 1, 2] · transposes_S4x16x16x512_S4x512x16x16_0_3_1_2) : (⟨S4x16x16x512, .f32⟩ : BufTy).Contents (Elt F) → (⟨S4x512x16x16, .f32⟩ : BufTy).Contents (Elt F))) (fun _ => .ret ⟨⟩)
  hlo rfl (StableHlo.reshape main_arg2 main_v13 (rfl : (.f32 : EltTy) = .f32) shapeCasts_S4x64x128x128_S4194304) (fun _ => .ret ⟨⟩)
  (scOf P).run d 1
  hlo rfl (StableHlo.reshape main_v14 main_v15 (rfl : (.f32 : EltTy) = .f32) shapeCasts_S4194304_S4x64x128x128) (fun _ => .ret ⟨⟩)
  pure ⟨⟩

/-- Two programs that begin alike and go on alike are the same. -/
theorem bind_eq {p : Proc τ} {Λ : Labels} {α β : Type} {a a' : Prog (TpuEff nD τ sig (Elt F) Λ p) α} {k k' : α → Prog (TpuEff nD τ sig (Elt F) Λ p) β} (h : a = a')
    (hk : ∀ x, k x = k' x) : (a >>= k) = (a' >>= k') := by
  rw [h, funext hk]

set_option maxHeartbeats 8000000 in
/-- The printed host code is this function of its pipelines. -/
theorem main_kernel : mainOf (F := F) Cert.Kernel.pcfgs = Cert.Kernel.main := by
  funext d
  unfold mainOf Cert.Kernel.main
  iterate 16 refine bind_eq (by rfl) fun _ => ?_
  rfl

theorem main_ideal : mainOf (F := F) Cert.KernelIdeal.pcfgs = Cert.KernelIdeal.main := rfl
theorem defs_ideal : defsOf (F := F) Cert.KernelIdeal.pcfgs Cert.KernelIdeal.defs₀ = Cert.KernelIdeal.defs := rfl
/-- The two programs' pipelines. -/
theorem pcfgs_same : Cert.Kernel.pcfgs (F := F) = Cert.KernelIdeal.pcfgs (F := F) := rfl

theorem body0_same : Cert.Kernel.cc0__dispatch_body (F := F) = Cert.KernelIdeal.cc0__dispatch_body (F := F) := rfl
theorem body1_same : Cert.Kernel.cc1__experts_body (F := F) = Cert.KernelIdeal.cc1__experts_body (F := F) := rfl
theorem body2_same : Cert.Kernel.cc2__epilogue_body (F := F) = Cert.KernelIdeal.cc2__epilogue_body (F := F) := rfl
theorem body3_same : Cert.Kernel.cc3__s4copy_body (F := F) = Cert.KernelIdeal.cc3__s4copy_body (F := F) := rfl

set_option maxHeartbeats 1000000 in
/-- The two programs' bodies, processor by processor and label by label. -/
theorem bodies_same : Cert.Kernel.defs₀ (F := F) = Cert.KernelIdeal.defs₀ (F := F) := by
  funext c l a
  unfold Cert.Kernel.defs₀
  rw [body0_same, body1_same, body2_same, body3_same]
  match c, l, a with
  | .tc, (0 : Fin 4), a => rfl
  | .tc, (1 : Fin 4), a => rfl
  | .tc, (2 : Fin 4), a => rfl
  | .tc, (3 : Fin 4), a => rfl
  | .scScalar _, (0 : Fin 4), a => rfl
  | .scScalar _, (1 : Fin 4), a => rfl
  | .scScalar _, (2 : Fin 4), a => rfl
  | .scScalar _, (3 : Fin 4), a => rfl
  | .scVector _ _, (0 : Fin 4), a => rfl
  | .scVector _ _, (1 : Fin 4), a => rfl
  | .scVector _ _, (2 : Fin 4), a => rfl
  | .scVector _ _, (3 : Fin 4), a => rfl

theorem defs_kernel (B : Defs nD τ sig (Elt F) Λ₀) (hB : B = Cert.Kernel.defs₀) : defsOf (F := F) Cert.Kernel.pcfgs B = Cert.Kernel.defs := by
  unfold Cert.Kernel.defs defsOf
  subst hB
  rfl

end Cert.Proof.Same

end
-- ==== Proof.Claims.lean ====
/-
  The claims: both programs' runs, the reference's, and the equality of their results.
-/
module

public import proofs.«01_k».proof.Defs
public import proofs.«01_k».proof.Proof.Main
public import proofs.«01_k».proof.Proof.Value
public import proofs.«01_k».proof.Proof.Same
public import proofs.«01_k».proof.Proof.Gen.Kernel
public import proofs.«01_k».proof.Proof.Gen.Pre_routed
public import Idealize.ShloMosaic.Lib.WordArith
public import Idealize.ShloMosaic.Adequacy
public import Idealize.ShloMosaic.Init

@[expose] public section

noncomputable section

namespace Cert.Proof.Claims

open Cert.KernelIdeal
open Cert.Proof.Vals
open Idealize.ShloMosaic Idealize.ShloMosaic.TcCoe Idealize.SL Idealize.SL.Sem

attribute [local instance] Cert.Kernel.Gen.facts Cert.KernelIdeal.Gen.facts Cert.ReferenceIdeal.Gen.facts Cert.Pre_routed.Gen.facts

/-- A word between 0 and 7, as the two signed comparisons say it. -/
theorem word_small (v : BitVec 32) (e : IntOp.andi (IntOp.cmpi .sge v 0#32) (IntOp.cmpi .slt v 8#32) = 1#1) : v.toNat < 8 := by
  simp only [IntOp.cmpi, WordArith.andi_ofBool, WordArith.ofBool_eq_one_iff, Bool.and_eq_true, BitVec.sle_eq_decide, BitVec.slt_eq_decide, decide_eq_true_eq, BitVec.toInt_eq_toNat_cond,
    BitVec.toNat_ofNat, Nat.reducePow, Nat.reduceMod] at e
  omega

/-- Where every word of the index array is below 8, every token's expert is. -/
theorem expert_lt {F : FTy → Type} [FloatOps F] (m : (ℓ : Loc nD τ sig) → Buf (Elt F) ℓ) (d : Dev nD)
    (h : ∀ j, ((m ((d.tc : Thread nD τ).loc main_arg0) : S8x128.Idx → BitVec 32) j).toNat < 8) (t : ℕ) : Base.fM m d t < 8 := by
  unfold Base.fM Base.fOf
  split
  · exact h _
  · omega

theorem experts {F : FTy → Type} [FloatOps F] (m : (ℓ : Loc nD τ sig) → Buf (Elt F) ℓ) (d : Dev nD) (a1 a2 a3 a4 a5 a6 a7 a8 a9)
    (h : Cert.Pre_routed.fn (F := F) (m ((d.tc : Thread nD τ).loc main_arg0)) a1 a2 a3 a4 a5 a6 a7 a8 a9 = fun _ => 1#1) (t : ℕ) : Base.fM m d t < 8 :=
  expert_lt m d (fun j => by
    have e := congrFun h j
    simp only [Cert.Pre_routed.fn, andi, cmpi, broadcastInDim, constantI] at e
    exact word_small _ e) t

/-- What a run leaves in the arguments and the results. -/
theorem args_end {F : FTy → Type} [FloatOps F] (m : (ℓ : Loc nD τ sig) → Buf (Elt F) ℓ) (r : PUnit × MemSt nD τ sig (Elt F)) (h : Main.QC m r) (c : Dev nD)
    {b : Ref sig .tc} (hb : b ∈ ({main_arg0, main_arg1, main_arg2, main_arg3, main_arg4, main_arg5, main_arg6, main_arg7, main_arg8, main_arg9} : Finset (Ref sig .tc))) :
    r.2.mem (c, rf b) = m (c, rf b) :=
  (h.1 c _ ((by decide : ∀ b ∈ ({main_arg0, main_arg1, main_arg2, main_arg3, main_arg4, main_arg5, main_arg6, main_arg7, main_arg8, main_arg9} : Finset (Ref sig .tc)),
    rf b ∈ Pipeline.ucRefs τ sig) b hb)).trans (VI_arg m c hb)

/-- The run of the program, at any values. -/
theorem frame_run {F : FTy → Type} [FloatOps F] [∀ e, Nonempty (Elt F e)] (m : (ℓ : Loc nD τ sig) → Buf (Elt F) ℓ) (ρ : Dev nD → PrngReg) (hc : ∀ d t, Base.fM m d t < 8) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run (Cert.KernelIdeal.defs (F := F)) _ _).mono (fun r h => ⟨fun c => ⟨args_end m r h c (b := main_arg0) (by decide), args_end m r h c (b := main_arg1) (by decide), args_end m r h c (b := main_arg2) (by decide), args_end m r h c (b := main_arg3) (by decide), args_end m r h c (b := main_arg4) (by decide), args_end m r h c (b := main_arg5) (by decide), args_end m r h c (b := main_arg6) (by decide), args_end m r h c (b := main_arg7) (by decide), args_end m r h c (b := main_arg8) (by decide), args_end m r h c (b := main_arg9) (by decide)⟩, h.2⟩) (Main.run_main m ρ hc)

/-- The same run, over pipelines, bodies and host code that are the ideal program's. -/
theorem frame_of {F : FTy → Type} [FloatOps F] [∀ e, Nonempty (Elt F e)] (P : Fin 2 → Pipeline.PCfg sig Λ₀ (Elt F)) (B : Defs nD τ sig (Elt F) Λ₀)
    (hP : P = Cert.KernelIdeal.pcfgs) (hB : B = Cert.KernelIdeal.defs₀) (m : (ℓ : Loc nD τ sig) → Buf (Elt F) ℓ) (ρ : Dev nD → PrngReg) (hc : ∀ d t, Base.fM m d t < 8) :
    θ_run (Same.defsOf P B) ((Same.scOf P).threads (Same.mainOf P)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  subst hP hB
  rw [Same.main_ideal, Same.defs_ideal]
  exact frame_run m ρ hc

set_option maxHeartbeats 4000000 in
/-- The run of the program as printed, at any values. -/
theorem frame_printed {F : FTy → Type} [FloatOps F] [∀ e, Nonempty (Elt F e)] (m : (ℓ : Loc Cert.Kernel.nD Cert.Kernel.τ Cert.Kernel.sig) → Buf (Elt F) ℓ)
    (ρ : Dev Cert.Kernel.nD → PrngReg) (hc : ∀ d t, Base.fM (F := F) m d t < 8) :
    θ_run (Cert.Kernel.defs (F := F)) (Cert.Kernel.threads (F := F)) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0) := by
  have h := frame_of (F := F) Cert.Kernel.pcfgs Cert.Kernel.defs₀ Same.pcfgs_same Same.bodies_same m ρ hc
  rw [Same.main_kernel, Same.defs_kernel _ rfl] at h
  exact h

/-- The run of the program as printed. -/
theorem frame_kernel : Cert.quiescent_Kernel := fun m ρ hp =>
  frame_printed (F := Bits) m ρ fun d t => experts (F := Bits) m d _ _ _ _ _ _ _ _ _ (hp d) t

/-- The run of the program at the ideal values. -/
theorem frame_ideal : Cert.quiescent_KernelIdeal := fun m ρ hp =>
  frame_run (F := Ideal) m ρ fun d t => experts (F := Ideal) m d _ _ _ _ _ _ _ _ _ (hp d) t

/-- The reference has no semaphore. -/
theorem ref_sem (s : GSem Cert.ReferenceIdeal.nD Cert.ReferenceIdeal.τ Cert.ReferenceIdeal.sig → Int) : s = fun _ => 0 :=
  funext fun x => match x with
    | (_, .reg s) => s.elim0
    | (_, .dma s) => s.elim0

/-- The run of the reference. -/
theorem frame_ref : Cert.quiescent_ReferenceIdeal := fun m ρ _ =>
  (θ_run (Cert.ReferenceIdeal.defs (F := Ideal)) _ _).mono (fun r h => ⟨fun c => (h c).2.2.2.2, ref_sem _⟩)
    (Cert.ReferenceIdeal.Value.run m ρ)

theorem frame_ref_pre : Cert.quiescent_ReferenceIdeal_pre_routed := fun m ρ _ => frame_ref m ρ trivial

/-- The two programs' results are the same. -/
theorem equal : Cert.algebraic_KernelIdeal_ReferenceIdeal := fun m ρ m' ρ' hp ha => by
  have hc : ∀ d t, Base.fM m d t < 8 := fun d t => experts (F := Ideal) m d _ _ _ _ _ _ _ _ _ (hp d) t
  refine ⟨fun c => m (c, rf main_arg2), fun c => m (c, rf main_arg3), fun c => m (c, rf main_arg4), fun c => VI m c (rf main_v12), ?_, ?_⟩
  · refine (θ_run (Cert.KernelIdeal.defs (F := Ideal)) _ _).mono (fun r h c => ⟨?_, ?_, ?_, ?_, args_end m r h c (b := main_arg0) (by decide), args_end m r h c (b := main_arg1) (by decide), args_end m r h c (b := main_arg2) (by decide), args_end m r h c (b := main_arg3) (by decide), args_end m r h c (b := main_arg4) (by decide), args_end m r h c (b := main_arg5) (by decide), args_end m r h c (b := main_arg6) (by decide), args_end m r h c (b := main_arg7) (by decide), args_end m r h c (b := main_arg8) (by decide), args_end m r h c (b := main_arg9) (by decide)⟩) (Main.run_main (F := Ideal) m ρ hc)
    · exact (h.1 c (rf main_v15) (by decide)).trans (VI_v15 m c)
    · exact args_end m r h c (b := main_arg3) (by decide)
    · exact args_end m r h c (b := main_arg4) (by decide)
    · exact h.1 c (rf main_v12) (by decide)
  · refine (θ_run (Cert.ReferenceIdeal.defs (F := Ideal)) _ _).mono (fun r h c => ?_) (Cert.ReferenceIdeal.Value.run m' ρ')
    obtain ⟨h0, h1, h2, h3, h4, h5, h6, h7, h8, h9⟩ := ha c
    obtain ⟨e2, e3, e4, e44, es⟩ := h c
    exact ⟨e2.trans h2, e3.trans h3, e4.trans h4, e44.trans (Value.v12_eq m m' c (fun t _ => hc c t) h0 h1 h5 h6 h7 h8 h9).symm, es⟩

end Cert.Proof.Claims

end
-- ==== Proof.GateKer.lean ====
/-
  The gate's call at the ideal values, row by row: the masked scores of a token, their maximum, the probability and
  the index the call leaves.
-/
module

public import proofs.«01_k».proof.Proof.Mlp
public import proofs.«01_k».proof.Proof.Gen.GateIdeal.Frame
public import Idealize.ShloMosaic.Lib.Pointwise
public import Idealize.ShloMosaic.Lib.WordArith

@[expose] public section

noncomputable section

namespace Cert.Proof.GateKer

open Cert.GateIdeal Cert.GateIdeal.Gen
open Cert.Proof.Mlp (act)
open Cert.Proof.Blocks (zero2)
open Idealize.ShloMosaic Idealize.ShloMosaic.TcCoe

/-- The score of expert `e` for a token `x`: the gate's two layers. -/
def score (W1 : S512x512.Idx → EReal) (b1 : Fin 512 → EReal) (W2 : S512x8.Idx → EReal) (b2 : Fin 8 → EReal) (x : Fin 512 → EReal) (e : Fin 8) : EReal :=
  (∑ k : Fin 512, act ((∑ c : Fin 512, x c * W1 (ix2 c k)) + b1 k) * W2 (ix2 k e)) + b2 e

/-- A row of 128 scores: the eight experts', and the mask. -/
def masked (l : Fin 8 → EReal) (j : Fin 128) : EReal := if h : j.val < 8 then l ⟨j.val, h⟩ else ⊥

theorem mask_eq : (Named.named (F := Ideal) κ "mask" (φ := .f32) 0xF149F2CA#32 : EReal) = ⊥ := rfl

/-- The largest of the eight scores, as the call takes it over the 128 columns. -/
def top (l : Fin 8 → EReal) : EReal := Finset.univ.fold max ⊥ (masked l)

/-- The probability the call leaves for a row of scores. -/
def conf (l : Fin 8 → EReal) : EReal := Ideal.div 1 (∑ k : Fin 128, Ideal.exp (masked l k - top l))

/-- The index the call leaves for a row of scores. -/
def best (l : Fin 8 → EReal) : BitVec 32 :=
  Finset.univ.fold IntOp.minsi 2147483647#32 (fun k : Fin 128 => if masked l k = top l then BitVec.ofNat 32 k.val else 128#32)

theorem col_lt : ∀ j : Fin 128, IntOp.cmpi .slt (BitVec.ofNat 32 (0 * 128 + j.val)) 8#32 = if j.val < 8 then 1#1 else 0#1 := by decide

section Body
variable (X : S1024x512.Idx → EReal) (W1 : S512x512.Idx → EReal) (B1 : S1x512.Idx → EReal) (W2 : S512x8.Idx → EReal) (B2 : S1x8.Idx → EReal)

/-- The scores of token `t` from the call's operands. -/
abbrev rowOf (t : Fin 1024) : Fin 8 → EReal := score W1 (fun k => B1 (ix2 0 k)) W2 (fun e => B2 (ix2 0 e)) (fun c => X (ix2 t c))

theorem pay3_at (t : Fin 1024) (j : Fin 128) : k0_pay3 (F := Ideal) X W1 B1 W2 B2 (ix2 t j) = masked (rowOf X W1 B1 W2 B2 t) j := by
  unfold k0_pay3
  simp only [pointwise, zero_add]
  refine (congrArg (fun w : BitVec 1 => Scalar.select w _ _) (col_lt j)).trans ?_
  unfold masked
  by_cases h : j.val < 8
  · rw [if_pos h, dif_pos h]
    exact congrArg₂ (· + ·) (Finset.sum_congr rfl fun x _ => congrArg₂ (· * ·) rfl (dif_pos h)) (dif_pos h)
  · rw [if_neg h, dif_neg h]
    rfl

theorem pay4_at (t : Fin 1024) : k0_pay4 (F := Ideal) X W1 B1 W2 B2 (ix2 t 0) = top (rowOf X W1 B1 W2 B2 t) := by
  unfold k0_pay4
  simp only [pointwise, zero_add, pay3_at]
  unfold top
  refine congrArg (fun b => Finset.univ.fold max b _) ?_
  simp [Ideal.ofBits, Ideal.ieee]

theorem pay5_at (t : Fin 1024) (j : Fin 128) : k0_pay5 (F := Ideal) X W1 B1 W2 B2 (ix2 t j) = top (rowOf X W1 B1 W2 B2 t) := by
  unfold k0_pay5
  simp only [pointwise]
  exact pay4_at X W1 B1 W2 B2 t

theorem pay1_at (t : Fin 1024) : k0_pay1 (F := Ideal) (k0_pay3 (F := Ideal) X W1 B1 W2 B2) (k0_pay5 (F := Ideal) X W1 B1 W2 B2) (ix2 t 0) = conf (rowOf X W1 B1 W2 B2 t) := by
  unfold k0_pay1 conf
  simp only [pointwise, zero_add, pay3_at, pay5_at]

theorem pay2_at (i : Fin 8) (j : Fin 128) :
    k0_pay2 (F := Ideal) (iota .tc S1024x128 32 [1] iota_S1024x128_d1_w32) (k0_pay3 (F := Ideal) X W1 B1 W2 B2) (k0_pay4 (F := Ideal) X W1 B1 W2 B2) (ix2 i j)
      = best (rowOf X W1 B1 W2 B2 ⟨i.val * 128 + j.val, by omega⟩) := by
  unfold k0_pay2 best
  simp only [pointwise, zero_add, pay3_at]
  refine congrArg (fun f => Finset.univ.fold IntOp.minsi 2147483647#32 f) (funext fun k => ?_)
  refine (if_congr (Eq.congr rfl (pay4_at X W1 B1 W2 B2 ⟨i.val * 128 + j.val, by omega⟩)) ?_ rfl)
  exact congrArg (BitVec.ofNat 32) (show 0 * 128 + k.val = k.val by omega)

end Body

/-- What the call leaves in its first result: each token's index. -/
theorem out5_at (X : Vec Ideal S1024x512 .f32) (W1 : Vec Ideal S512x512 .f32) (B1 : Vec Ideal S1x512 .f32) (W2 : Vec Ideal S512x8 .f32) (B2 : Vec Ideal S1x8 .f32)
    (i : Fin 8) (j : Fin 128) : out0_5 (F := Ideal) X W1 B1 W2 B2 (ix2 i j) = best (rowOf X W1 B1 W2 B2 ⟨i.val * 128 + j.val, by omega⟩) := by
  unfold_out out0_5
  rw [View.canon_unit_zero zero2, View.ld_unit_zero zero2, View.ld_unit_zero zero2, View.ld_unit_zero zero2, View.ld_unit_zero zero2, View.ld_unit_zero zero2]
  exact pay2_at X W1 B1 W2 B2 i j

/-- What the call leaves in its second result: each token's probability. -/
theorem out6_at (X : Vec Ideal S1024x512 .f32) (W1 : Vec Ideal S512x512 .f32) (B1 : Vec Ideal S1x512 .f32) (W2 : Vec Ideal S512x8 .f32) (B2 : Vec Ideal S1x8 .f32)
    (t : Fin 1024) : out0_6 (F := Ideal) X W1 B1 W2 B2 (ix2 t 0) = conf (rowOf X W1 B1 W2 B2 t) := by
  unfold_out out0_6
  rw [View.canon_unit_zero zero2, View.ld_unit_zero zero2, View.ld_unit_zero zero2, View.ld_unit_zero zero2, View.ld_unit_zero zero2, View.ld_unit_zero zero2]
  exact pay1_at X W1 B1 W2 B2 t

end Cert.Proof.GateKer

end
-- ==== Proof.GateMath.lean ====
/-
  A row of eight real scores: its maximum, the first place that reaches it, and the softmax there — as the call reads
  them over 128 masked columns and as the reference reads them over the eight.
-/
module

public import proofs.«01_k».proof.Proof.GateKer

@[expose] public section

noncomputable section

namespace Cert.Proof.GateMath

open Cert.Proof.Mlp (act)
open Cert.Proof.GateKer (score masked top conf best)
open Idealize.ShloMosaic Idealize.ShloMosaic.TcCoe

/-! ## Real values -/

/-- The value is a real number. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.tanh {x : EReal} : IsReal x → IsReal (Ideal.tanh x) := fun ⟨a, ha⟩ => ⟨Real.tanh a, by rw [ha]; rfl⟩

theorem coe_sum {ι : Type} (s : Finset ι) (r : ι → ℝ) : ((∑ k ∈ s, r k : ℝ) : EReal) = ∑ k ∈ s, (r k : EReal) :=
  map_sum (⟨⟨fun x : ℝ => (x : EReal), rfl⟩, EReal.coe_add⟩ : ℝ →+ EReal) r s

theorem isReal_sum {n : Nat} (f : Fin n → EReal) (h : ∀ k, IsReal (f k)) : IsReal (∑ k, f k) := by
  choose r hr using h
  exact ⟨∑ k, r k, by rw [coe_sum]; exact Finset.sum_congr rfl fun k _ => hr k⟩

theorem isReal_of_abs {x : EReal} (h : max x (-x) < ⊤) : IsReal x := by
  induction x using EReal.rec with
  | bot => simp at h
  | top => simp at h
  | coe r => exact ⟨r, rfl⟩

theorem isReal_half : IsReal (Ideal.ofBits .f32 0x3F000000#32) := by simp [IsReal, Ideal.ofBits, Ideal.ieee, -EReal.coe_mul]
theorem isReal_root : IsReal (Ideal.ofBits .f32 0x3F4C422A#32) := by simp [IsReal, Ideal.ofBits, Ideal.ieee, -EReal.coe_mul]
theorem isReal_cube : IsReal (Ideal.ofBits .f32 0x3D372713#32) := by simp [IsReal, Ideal.ofBits, Ideal.ieee, -EReal.coe_mul]
theorem isReal_one : IsReal 1 := ⟨1, rfl⟩

theorem IsReal.act {x : EReal} (h : IsReal x) : IsReal (act x) :=
  h.mul (isReal_half.mul (isReal_one.add (isReal_root.mul (h.add (isReal_cube.mul (h.mul (h.mul h))))).tanh))

/-- Of real operands every score is real. -/
theorem isReal_score {W1 : Cert.GateIdeal.S512x512.Idx → EReal} {b1 : Fin 512 → EReal} {W2 : Cert.GateIdeal.S512x8.Idx → EReal} {b2 : Fin 8 → EReal}
    {x : Fin 512 → EReal} (h1 : ∀ i, IsReal (W1 i)) (h2 : ∀ i, IsReal (b1 i)) (h3 : ∀ i, IsReal (W2 i)) (h4 : ∀ i, IsReal (b2 i)) (hx : ∀ i, IsReal (x i))
    (e : Fin 8) : IsReal (score W1 b1 W2 b2 x e) :=
  (isReal_sum _ fun k => ((isReal_sum _ fun c => (hx c).mul (h1 _)).add (h2 k)).act.mul (h3 _)).add (h4 e)

/-! ## The first place of the maximum -/

theorem exists_first (r : Fin 8 → ℝ) : ∃ b : Fin 8, (∀ e, r e ≤ r b) ∧ ∀ e, r e = r b → b ≤ e := by
  obtain ⟨m, -, hm⟩ := Finset.exists_max_image Finset.univ r ⟨0, Finset.mem_univ _⟩
  have hne : (Finset.univ.filter fun e => r e = r m).Nonempty := ⟨m, by simp⟩
  have hb := Finset.min'_mem _ hne
  rw [Finset.mem_filter] at hb
  refine ⟨_, fun e => (hm e (Finset.mem_univ _)).trans hb.2.symm.le, fun e he => ?_⟩
  exact Finset.min'_le _ _ (by rw [Finset.mem_filter]; exact ⟨Finset.mem_univ _, he.trans hb.2⟩)

section Row
variable {r : Fin 8 → ℝ} {b : Fin 8} (h1 : ∀ e, r e ≤ r b) (h2 : ∀ e, r e = r b → b ≤ e)

/-- The eight scores as the programs hold them. -/
abbrev lift (r : Fin 8 → ℝ) : Fin 8 → EReal := fun e => (r e : EReal)

theorem masked_b : masked (lift r) ⟨b.val, by omega⟩ = (r b : EReal) := by
  unfold masked; rw [dif_pos b.isLt]

include h1

theorem top_eq : top (lift r) = (r b : EReal) := by
  unfold top
  apply le_antisymm
  · rw [Finset.fold_max_le]
    refine ⟨bot_le, fun j _ => ?_⟩
    unfold masked
    split
    · exact EReal.coe_le_coe_iff.2 (h1 _)
    · exact bot_le
  · rw [Finset.le_fold_max]
    exact Or.inr ⟨⟨b.val, by omega⟩, Finset.mem_univ _, (masked_b).symm.le⟩

/-- The reference's maximum: over the eight scores, from −∞ twice. -/
theorem refTop_eq : max ⊥ (Finset.univ.fold max ⊥ (lift r)) = (r b : EReal) := by
  rw [max_eq_right bot_le]
  apply le_antisymm
  · rw [Finset.fold_max_le]
    exact ⟨bot_le, fun j _ => EReal.coe_le_coe_iff.2 (h1 j)⟩
  · rw [Finset.le_fold_max]
    exact Or.inr ⟨b, Finset.mem_univ _, le_rfl⟩

omit h1 in
/-- The softmax's denominator. -/
def den (r : Fin 8 → ℝ) (b : Fin 8) : ℝ := ∑ e, Real.exp (r e - r b)

omit h1 in
theorem den_pos : 0 < den r b := Finset.sum_pos (fun _ _ => Real.exp_pos _) ⟨0, Finset.mem_univ _⟩

omit h1 in
theorem exp_sub (x y : ℝ) : Ideal.exp ((x : EReal) - (y : EReal)) = (Real.exp (x - y) : EReal) := by
  rw [← EReal.coe_sub]; rfl

omit h1 in
theorem refDen_eq : (∑ e : Fin 8, Ideal.exp (lift r e - (r b : EReal))) = (den r b : EReal) := by
  unfold den
  rw [coe_sum]
  exact Finset.sum_congr rfl fun e _ => exp_sub _ _

theorem kerDen_eq : (∑ k : Fin 128, Ideal.exp (masked (lift r) k - top (lift r))) = (den r b : EReal) := by
  rw [top_eq h1, ← refDen_eq]
  refine (Fin.sum_univ_add (a := 8) (b := 120) fun k => Ideal.exp (masked (lift r) k - (r b : EReal))).trans ?_
  rw [Finset.sum_eq_zero (s := Finset.univ) (f := fun i : Fin 120 => Ideal.exp (masked (lift r) (Fin.natAdd 8 i) - (r b : EReal))), add_zero]
  · refine Finset.sum_congr rfl fun e _ => ?_
    unfold masked
    rw [dif_pos (show (Fin.castAdd 120 e).val < 8 from e.isLt)]
    rfl
  · intro i _
    unfold masked
    rw [dif_neg (show ¬ (Fin.natAdd 8 i).val < 8 from by simp)]
    rw [EReal.bot_sub]; rfl

theorem conf_eq : conf (lift r) = ((1 / den r b : ℝ) : EReal) := by
  unfold conf
  rw [kerDen_eq h1, Ideal.div_coe den_pos.ne', one_mul]

/-- The reference's probability of expert `e`. -/
theorem refProb_eq (e : Fin 8) : Ideal.div (Ideal.exp (lift r e - (r b : EReal))) (∑ e : Fin 8, Ideal.exp (lift r e - (r b : EReal)))
    = ((Real.exp (r e - r b) * (1 / den r b) : ℝ) : EReal) := by
  rw [refDen_eq, Ideal.div_coe den_pos.ne', exp_sub, EReal.coe_mul]

/-! ## The index -/

omit h1 in
theorem minsi_ofNat (x y : ℕ) (hx : x < 2147483648) (hy : y < 2147483648) :
    IntOp.minsi (BitVec.ofNat 32 x) (BitVec.ofNat 32 y) = BitVec.ofNat 32 (min x y) := by
  have ex : (BitVec.ofNat 32 x).toInt = (x : ℤ) := by
    rw [BitVec.toInt_eq_toNat_of_lt (by rw [BitVec.toNat_ofNat]; omega), BitVec.toNat_ofNat]; omega
  have ey : (BitVec.ofNat 32 y).toInt = (y : ℤ) := by
    rw [BitVec.toInt_eq_toNat_of_lt (by rw [BitVec.toNat_ofNat]; omega), BitVec.toNat_ofNat]; omega
  unfold IntOp.minsi
  rw [BitVec.slt_eq_decide, ex, ey]
  by_cases h : x < y
  · rw [if_pos (by simpa using h), min_eq_left h.le]
  · rw [if_neg (by simpa using h), min_eq_right (not_lt.1 h)]

omit h1 in
theorem fold_minsi {n : ℕ} (g : Fin n → ℕ) (hg : ∀ k, g k < 2147483648) (s : Finset (Fin n)) :
    s.fold IntOp.minsi 2147483647#32 (fun k => BitVec.ofNat 32 (g k)) = BitVec.ofNat 32 (s.fold min 2147483647 g) := by
  induction s using Finset.induction_on with
  | empty => rfl
  | insert a s ha ih =>
    rw [Finset.fold_insert ha, Finset.fold_insert ha, ih]
    refine minsi_ofNat _ _ (hg a) (lt_of_le_of_lt ((Finset.fold_min_le _).2 (Or.inl le_rfl)) (by omega))

include h2

theorem best_eq : best (lift r) = BitVec.ofNat 32 b.val := by
  unfold best
  rw [top_eq h1]
  have e : (fun k : Fin 128 => if masked (lift r) k = (r b : EReal) then BitVec.ofNat 32 k.val else 128#32)
      = fun k => BitVec.ofNat 32 (if masked (lift r) k = (r b : EReal) then k.val else 128) := funext fun k => by split <;> rfl
  rw [e, fold_minsi _ (fun k => by split <;> omega)]
  refine congrArg _ (le_antisymm ?_ ?_)
  · rw [Finset.fold_min_le]
    refine Or.inr ⟨⟨b.val, by omega⟩, Finset.mem_univ _, ?_⟩
    rw [if_pos masked_b]
  · rw [Finset.le_fold_min]
    refine ⟨by omega, fun k _ => ?_⟩
    split
    · next h =>
      unfold masked at h
      split at h
      · next hk => exact h2 ⟨k.val, hk⟩ (EReal.coe_injective h)
      · exact absurd h.symm (EReal.coe_ne_bot _)
    · omega

end Row

end Cert.Proof.GateMath

end
-- ==== Proof.GateRun.lean ====
/-
  The gate's reference run through: its operations one after another, the two helper functions' in their places, and
  what its two results hold at the end.
-/
module

public import proofs.«01_k».proof.Proof.Gen.GateRefIdeal
public import Idealize.ShloMosaic.Lib.StableHlo.Run
public import Idealize.ShloMosaic.Lib.Pipeline.Frame

@[expose] public section

noncomputable section

namespace Cert.Proof.GateRun

open Cert.GateRefIdeal Cert.GateRefIdeal.Gen Idealize.ShloMosaic Idealize.ShloMosaic.TcCoe Idealize.SL.Sem Idealize.ShloMosaic.StableHlo

variable {F : FTy → Type} [FloatOps F]

/-- The operations up to the softmax. -/
abbrev lineA : List (HloOp τ sig (Elt F)) :=
  [ unary main_arg0 main_v0 ((transpose S4x16x16x512 [0, 2, 3, 1] · transposes_S4x512x16x16_S4x16x16x512_0_2_3_1) : (⟨S4x512x16x16, .f32⟩ : BufTy).Contents (Elt F) → (⟨S4x16x16x512, .f32⟩ : BufTy).Contents (Elt F)),
    reshape main_v0 main_v1 (rfl : (.f32 : EltTy) = .f32) shapeCasts_S4x16x16x512_S1024x512,
    binary main_v1 main_arg1 main_v2 ((fun l r => Host.dotGeneral dot_S1024x512_S512x512_S1024x512_1_0_0_1_n_n none l r) : (⟨S1024x512, .f32⟩ : BufTy).Contents (Elt F) → (⟨S512x512, .f32⟩ : BufTy).Contents (Elt F) → (⟨S1024x512, .f32⟩ : BufTy).Contents (Elt F)),
    unary main_arg2 main_v3 (broadcastInDim S1x512 ![1] bcast_S512_S1x512_1 : (⟨S512, .f32⟩ : BufTy).Contents (Elt F) → (⟨S1x512, .f32⟩ : BufTy).Contents (Elt F)),
    unary main_v3 main_v4 (broadcastInDim S1024x512 ![0, 1] bcast_S1x512_S1024x512_0_1 : (⟨S1x512, .f32⟩ : BufTy).Contents (Elt F) → (⟨S1024x512, .f32⟩ : BufTy).Contents (Elt F)),
    binary main_v2 main_v4 main_v5 (addf : (⟨S1024x512, .f32⟩ : BufTy).Contents (Elt F) → (⟨S1024x512, .f32⟩ : BufTy).Contents (Elt F) → (⟨S1024x512, .f32⟩ : BufTy).Contents (Elt F)),
    binary main_v5 main_v5 main_v6 (mulf : (⟨S1024x512, .f32⟩ : BufTy).Contents (Elt F) → (⟨S1024x512, .f32⟩ : BufTy).Contents (Elt F) → (⟨S1024x512, .f32⟩ : BufTy).Contents (Elt F)),
    binary main_v6 main_v5 main_v7 (mulf : (⟨S1024x512, .f32⟩ : BufTy).Contents (Elt F) → (⟨S1024x512, .f32⟩ : BufTy).Contents (Elt F) → (⟨S1024x512, .f32⟩ : BufTy).Contents (Elt F)),
    nullary main_cst (constant S_ .f32 0x3D372713#32),
    unary main_cst main_v8 (broadcastInDim S1024x512 ![] bcast_S_S1024x512 : (⟨S_, .f32⟩ : BufTy).Contents (Elt F) → (⟨S1024x512, .f32⟩ : BufTy).Contents (Elt F)),
    binary main_v8 main_v7 main_v9 (mulf : (⟨S1024x512, .f32⟩ : BufTy).Contents (Elt F) → (⟨S1024x512, .f32⟩ : BufTy).Contents (Elt F) → (⟨S1024x512, .f32⟩ : BufTy).Contents (Elt F)),
    binary main_v5 main_v9 main_v10 (addf : (⟨S1024x512, .f32⟩ : BufTy).Contents (Elt F) → (⟨S1024x512, .f32⟩ : BufTy).Contents (Elt F) → (⟨S1024x512, .f32⟩ : BufTy).Contents (Elt F)),
    nullary main_cst_0 (constant S_ .f32 0x3F4C422A#32),
    unary main_cst_0 main_v11 (broadcastInDim S1024x512 ![] bcast_S_S1024x512 : (⟨S_, .f32⟩ : BufTy).Contents (Elt F) → (⟨S1024x512, .f32⟩ : BufTy).Contents (Elt F)),
    binary main_v11 main_v10 main_v12 (mulf : (⟨S1024x512, .f32⟩ : BufTy).Contents (Elt F) → (⟨S1024x512, .f32⟩ : BufTy).Contents (Elt F) → (⟨S1024x512, .f32⟩ : BufTy).Contents (Elt F)),
    unary main_v12 main_v13 (Host.tanh : (⟨S1024x512, .f32⟩ : BufTy).Contents (Elt F) → (⟨S1024x512, .f32⟩ : BufTy).Contents (Elt F)),
    nullary main_cst_1 (constant S_ .f32 0x3F800000#32),
    unary main_cst_1 main_v14 (broadcastInDim S1024x512 ![] bcast_S_S1024x512 : (⟨S_, .f32⟩ : BufTy).Contents (Elt F) → (⟨S1024x512, .f32⟩ : BufTy).Contents (Elt F)),
    binary main_v14 main_v13 main_v15 (addf : (⟨S1024x512, .f32⟩ : BufTy).Contents (Elt F) → (⟨S1024x512, .f32⟩ : BufTy).Contents (Elt F) → (⟨S1024x512, .f32⟩ : BufTy).Contents (Elt F)),
    nullary main_cst_2 (constant S_ .f32 0x3F000000#32),
    unary main_cst_2 main_v16 (broadcastInDim S1024x512 ![] bcast_S_S1024x512 : (⟨S_, .f32⟩ : BufTy).Contents (Elt F) → (⟨S1024x512, .f32⟩ : BufTy).Contents (Elt F)),
    binary main_v16 main_v15 main_v17 (mulf : (⟨S1024x512, .f32⟩ : BufTy).Contents (Elt F) → (⟨S1024x512, .f32⟩ : BufTy).Contents (Elt F) → (⟨S1024x512, .f32⟩ : BufTy).Contents (Elt F)),
    binary main_v5 main_v17 main_v18 (mulf : (⟨S1024x512, .f32⟩ : BufTy).Contents (Elt F) → (⟨S1024x512, .f32⟩ : BufTy).Contents (Elt F) → (⟨S1024x512, .f32⟩ : BufTy).Contents (Elt F)),
    binary main_v18 main_arg3 main_v19 ((fun l r => Host.dotGeneral dot_S1024x512_S512x8_S1024x8_1_0_0_1_n_n none l r) : (⟨S1024x512, .f32⟩ : BufTy).Contents (Elt F) → (⟨S512x8, .f32⟩ : BufTy).Contents (Elt F) → (⟨S1024x8, .f32⟩ : BufTy).Contents (Elt F)),
    unary main_arg4 main_v20 (broadcastInDim S1x8 ![1] bcast_S8_S1x8_1 : (⟨S8, .f32⟩ : BufTy).Contents (Elt F) → (⟨S1x8, .f32⟩ : BufTy).Contents (Elt F)),
    unary main_v20 main_v21 (broadcastInDim S1024x8 ![0, 1] bcast_S1x8_S1024x8_0_1 : (⟨S1x8, .f32⟩ : BufTy).Contents (Elt F) → (⟨S1024x8, .f32⟩ : BufTy).Contents (Elt F)),
    binary main_v19 main_v21 main_v22 (addf : (⟨S1024x8, .f32⟩ : BufTy).Contents (Elt F) → (⟨S1024x8, .f32⟩ : BufTy).Contents (Elt F) → (⟨S1024x8, .f32⟩ : BufTy).Contents (Elt F)),
    nullary main_cst_3 (constant S_ .f32 0xFF800000#32),
    binary main_v22 main_cst_3 main_v23 ((fun x v => Host.reduce FloatOps.maximumf x v reducesTo_S1024x8_S1024_d1 h_S_) : (⟨S1024x8, .f32⟩ : BufTy).Contents (Elt F) → (⟨S_, .f32⟩ : BufTy).Contents (Elt F) → (⟨S1024, .f32⟩ : BufTy).Contents (Elt F)),
    nullary main_cst_4 (constant S_ .f32 0xFF800000#32),
    unary main_cst_4 main_v24 (broadcastInDim S1024 ![] bcast_S_S1024 : (⟨S_, .f32⟩ : BufTy).Contents (Elt F) → (⟨S1024, .f32⟩ : BufTy).Contents (Elt F)),
    binary main_v24 main_v23 main_v25 (maximumf : (⟨S1024, .f32⟩ : BufTy).Contents (Elt F) → (⟨S1024, .f32⟩ : BufTy).Contents (Elt F) → (⟨S1024, .f32⟩ : BufTy).Contents (Elt F)),
    unary main_v25 main_v26 (broadcastInDim S1024x1 ![0] bcast_S1024_S1024x1_0 : (⟨S1024, .f32⟩ : BufTy).Contents (Elt F) → (⟨S1024x1, .f32⟩ : BufTy).Contents (Elt F)),
    unary main_v26 main_v27 (broadcastInDim S1024x8 ![0, 1] bcast_S1024x1_S1024x8_0_1 : (⟨S1024x1, .f32⟩ : BufTy).Contents (Elt F) → (⟨S1024x8, .f32⟩ : BufTy).Contents (Elt F)),
    binary main_v22 main_v27 main_v28 (subf : (⟨S1024x8, .f32⟩ : BufTy).Contents (Elt F) → (⟨S1024x8, .f32⟩ : BufTy).Contents (Elt F) → (⟨S1024x8, .f32⟩ : BufTy).Contents (Elt F)),
    unary main_v28 main_v29 (Host.exp : (⟨S1024x8, .f32⟩ : BufTy).Contents (Elt F) → (⟨S1024x8, .f32⟩ : BufTy).Contents (Elt F)),
    nullary main_cst_5 (constant S_ .f32 0x00000000#32),
    binary main_v29 main_cst_5 main_v30 ((fun x v => Host.reduceAdd x v reducesTo_S1024x8_S1024_d1 h_S_) : (⟨S1024x8, .f32⟩ : BufTy).Contents (Elt F) → (⟨S_, .f32⟩ : BufTy).Contents (Elt F) → (⟨S1024, .f32⟩ : BufTy).Contents (Elt F)),
    unary main_v30 main_v31 (broadcastInDim S1024x1 ![0] bcast_S1024_S1024x1_0 : (⟨S1024, .f32⟩ : BufTy).Contents (Elt F) → (⟨S1024x1, .f32⟩ : BufTy).Contents (Elt F)),
    unary main_v31 main_v32 (broadcastInDim S1024x8 ![0, 1] bcast_S1024x1_S1024x8_0_1 : (⟨S1024x1, .f32⟩ : BufTy).Contents (Elt F) → (⟨S1024x8, .f32⟩ : BufTy).Contents (Elt F)),
    binary main_v29 main_v32 main_v33 (Host.divf : (⟨S1024x8, .f32⟩ : BufTy).Contents (Elt F) → (⟨S1024x8, .f32⟩ : BufTy).Contents (Elt F) → (⟨S1024x8, .f32⟩ : BufTy).Contents (Elt F)) ]

/-- The operations that find the place of the largest probability. -/
abbrev lineB : List (HloOp τ sig (Elt F)) :=
  [ TRef.nullary main_call0.v0 (iotaInDim S1024x8 32 1),
    TRef.nullary main_call0.cst (constant S_ .f32 0xFF800000#32),
    TRef.nullary main_call0.c (constantI S_ 32 0#32),
    TRef.quaternary (.of main_v33) main_call0.v0 main_call0.cst main_call0.c main_call0.v1_0 (fun x y u v j => (Host.argReduce reducer_argmax_f32_i32 x y u v reducesTo_S1024x8_S1024_d1 h_S_ j).1),
    TRef.quaternary (.of main_v33) main_call0.v0 main_call0.cst main_call0.c main_call0.v1_1 (fun x y u v j => (Host.argReduce reducer_argmax_f32_i32 x y u v reducesTo_S1024x8_S1024_d1 h_S_ j).2),
    reshape main_v34 main_v35 (rfl : (.i32 : EltTy) = .i32) shapeCasts_S1024_S8x128,
    unary main_v34 main_v36 (broadcastInDim S1024x1 ![0] bcast_S1024_S1024x1_0 : (⟨S1024, .i32⟩ : BufTy).Contents (Elt F) → (⟨S1024x1, .i32⟩ : BufTy).Contents (Elt F)) ]

/-- The operations that pick the probability at the place. -/
abbrev lineC : List (HloOp τ sig (Elt F)) :=
  [ TRef.nullary main_call1.c (constantI S_ 32 0#32),
    TRef.unary main_call1.c main_call1.v0 (broadcastInDim S1024x1 ![] bcast_S_S1024x1),
    TRef.binary (.of main_v36) main_call1.v0 main_call1.v1 (cmpi .slt),
    TRef.nullary main_call1.c_0 (constantI S_ 32 8#32),
    TRef.unary main_call1.c_0 main_call1.v2 (broadcastInDim S1024x1 ![] bcast_S_S1024x1),
    TRef.binary (.of main_v36) main_call1.v2 main_call1.v3 addi,
    TRef.ternary main_call1.v1 main_call1.v3 (.of main_v36) main_call1.v4 select,
    TRef.reshape main_call1.v4 main_call1.v5 (rfl : (.i32 : EltTy) = .i32) shapeCasts_S1024x1_S1024x1x1,
    TRef.nullary main_call1.c_1 (constantI S1 32 7#32),
    TRef.nullary main_call1.c_2 (constantI S_ 32 0#32),
    TRef.unary main_call1.c_2 main_call1.v6 (broadcastInDim S1024x1x1 ![] bcast_S_S1024x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1024x1x1 ![0, 1, 2] bcast_S1x1x1_S1024x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x1x1_S1024x1_d2 h_S_),
    TRef.binary (.of main_v33) main_call1.v5 main_call1.v13 (fun x i => Host.gather gather_S1024x8_S1024x1x1_S1024x1_n_1_0_0_1_2_11 x i),
    TRef.nullary main_call1.cst (constant S_ .f32 0x7FC00000#32),
    TRef.unary main_call1.cst main_call1.v14 (broadcastInDim S1024x1 ![] bcast_S_S1024x1),
    TRef.ternary main_call1.v12 main_call1.v13 main_call1.v14 main_call1.v15 select ]

/-- All of them. -/
abbrev line : List (HloOp τ sig (Elt F)) := lineA ++ (lineB ++ lineC)

set_option maxRecDepth 8192 in
set_option maxHeartbeats 2000000 in
theorem main_eq (c : Dev nD) : main (F := F) c = seq line := by
  simp only [main, line, lineA, lineB, lineC, List.cons_append, List.nil_append, fn_argmax.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem line_sub : (line : List (HloOp τ sig (Elt F))).Forall fun op => op.bufs ⊆ tcRefs τ sig :=
  ⟨unary_bufs_sub .., reshape_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

section Terms
variable (m : (ℓ : Loc nD τ sig) → Buf (Elt F) ℓ) (c : Dev nD)

/-- The tokens, one a row. -/
def tok : FVec F S1024x512 .f32 :=
  shapeCast S1024x512 (transpose S4x16x16x512 [0, 2, 3, 1] (m ((c.tc : Thread nD τ).loc main_arg0)) transposes_S4x512x16x16_S4x16x16x512_0_2_3_1) shapeCasts_S4x16x16x512_S1024x512

end Terms

/-- The first layer before the activation. -/
def hid (X : FVec F S1024x512 .f32) (W1 : FVec F S512x512 .f32) (b1 : FVec F S512 .f32) : FVec F S1024x512 .f32 :=
  addf (Host.dotGeneral dot_S1024x512_S512x512_S1024x512_1_0_0_1_n_n none X W1) (broadcastInDim S1024x512 ![0, 1] bcast_S1x512_S1024x512_0_1 (broadcastInDim S1x512 ![1] bcast_S512_S1x512_1 b1))

/-- The activation. -/
def gelu (h : FVec F S1024x512 .f32) : FVec F S1024x512 .f32 :=
  mulf h (mulf (broadcastInDim S1024x512 ![] bcast_S_S1024x512 (constant S_ .f32 0x3F000000#32)) (addf (broadcastInDim S1024x512 ![] bcast_S_S1024x512 (constant S_ .f32 0x3F800000#32))
    (Host.tanh (mulf (broadcastInDim S1024x512 ![] bcast_S_S1024x512 (constant S_ .f32 0x3F4C422A#32)) (addf h
      (mulf (broadcastInDim S1024x512 ![] bcast_S_S1024x512 (constant S_ .f32 0x3D372713#32)) (mulf (mulf h h) h)))))))

/-- The scores. -/
def scores (g : FVec F S1024x512 .f32) (W2 : FVec F S512x8 .f32) (b2 : FVec F S8 .f32) : FVec F S1024x8 .f32 :=
  addf (Host.dotGeneral dot_S1024x512_S512x8_S1024x8_1_0_0_1_n_n none g W2) (broadcastInDim S1024x8 ![0, 1] bcast_S1x8_S1024x8_0_1 (broadcastInDim S1x8 ![1] bcast_S8_S1x8_1 b2))

/-- The exponentials of the scores less their row's maximum. -/
def expo (s : FVec F S1024x8 .f32) : FVec F S1024x8 .f32 :=
  Host.exp (subf s (broadcastInDim S1024x8 ![0, 1] bcast_S1024x1_S1024x8_0_1 (broadcastInDim S1024x1 ![0] bcast_S1024_S1024x1_0
    (maximumf (broadcastInDim S1024 ![] bcast_S_S1024 (constant S_ .f32 0xFF800000#32)) (Host.reduce FloatOps.maximumf s (constant S_ .f32 0xFF800000#32) reducesTo_S1024x8_S1024_d1 h_S_)))))

/-- The softmax. -/
def soft (e : FVec F S1024x8 .f32) : FVec F S1024x8 .f32 :=
  Host.divf e (broadcastInDim S1024x8 ![0, 1] bcast_S1024x1_S1024x8_0_1 (broadcastInDim S1024x1 ![0] bcast_S1024_S1024x1_0
    (Host.reduceAdd e (constant S_ .f32 0x00000000#32) reducesTo_S1024x8_S1024_d1 h_S_)))

/-- The place of the largest probability of each row. -/
def place (p : FVec F S1024x8 .f32) : IVec S1024 32 := fun j =>
  (Host.argReduce reducer_argmax_f32_i32 p (iotaInDim S1024x8 32 1) (constant S_ .f32 0xFF800000#32) (constantI S_ 32 0#32) reducesTo_S1024x8_S1024_d1 h_S_ j).2

/-- The place as the picking reads it: one below zero counts from the end. -/
def wrapped (I : IVec S1024x1 32) : IVec S1024x1x1 32 :=
  shapeCast S1024x1x1 (select (cmpi .slt I (broadcastInDim S1024x1 ![] bcast_S_S1024x1 (constantI S_ 32 0#32)))
    (addi I (broadcastInDim S1024x1 ![] bcast_S_S1024x1 (constantI S_ 32 8#32)))
    I) shapeCasts_S1024x1_S1024x1x1

/-- The probability at the place. -/
def picked (p : FVec F S1024x8 .f32) (w : IVec S1024x1x1 32) : FVec F S1024x1 .f32 :=
  select (Host.reduce IntOp.andi (andi (cmpi .sge w (broadcastInDim S1024x1x1 ![] bcast_S_S1024x1x1 (constantI S_ 32 0#32)))
      (cmpi .sle w (broadcastInDim S1024x1x1 ![0, 1, 2] bcast_S1x1x1_S1024x1x1_0_1_2 (broadcastInDim S1x1x1 ![2] bcast_S1_S1x1x1_2 (constantI S1 32 7#32)))))
      (constantI S_ 1 1#1) reducesTo_S1024x1x1_S1024x1_d2 h_S_)
    (Host.gather gather_S1024x8_S1024x1x1_S1024x1_n_1_0_0_1_2_11 p w) (broadcastInDim S1024x1 ![] bcast_S_S1024x1 (constant S_ .f32 0x7FC00000#32))

section Results
variable (m : (ℓ : Loc nD τ sig) → Buf (Elt F) ℓ) (c : Dev nD)

/-- The softmax of the arguments. -/
def probs : FVec F S1024x8 .f32 :=
  soft (expo (scores (gelu (hid (tok m c) (m ((c.tc : Thread nD τ).loc main_arg1)) (m ((c.tc : Thread nD τ).loc main_arg2))))
    (m ((c.tc : Thread nD τ).loc main_arg3)) (m ((c.tc : Thread nD τ).loc main_arg4))))

end Results

set_option maxRecDepth 8192 in
set_option maxHeartbeats 1000000 in
theorem line_v33 (m : (ℓ : Loc nD τ sig) → Buf (Elt F) ℓ) (c : Dev nD) :
    after lineA (fun b => m (c, b)) (Proc.devRef .tc main_v33) = probs m c := by
  after_results_simp <;> rfl

set_option maxRecDepth 8192 in
theorem lineB_v33 (V : Valuation τ sig (Elt F)) : after lineB V (Proc.devRef .tc main_v33) = V (Proc.devRef .tc main_v33) := by
  after_results_simp

set_option maxRecDepth 8192 in
theorem lineB_v35 (V : Valuation τ sig (Elt F)) :
    after lineB V (Proc.devRef .tc main_v35) = shapeCast S8x128 (place (V (Proc.devRef .tc main_v33))) shapeCasts_S1024_S8x128 := by
  after_results_simp <;> rfl

set_option maxRecDepth 8192 in
theorem lineB_v36 (V : Valuation τ sig (Elt F)) :
    after lineB V (Proc.devRef .tc main_v36) = broadcastInDim S1024x1 ![0] bcast_S1024_S1024x1_0 (place (V (Proc.devRef .tc main_v33))) := by
  after_results_simp <;> rfl

set_option maxRecDepth 8192 in
theorem lineC_v35 (V : Valuation τ sig (Elt F)) : after lineC V (Proc.devRef .tc main_v35) = V (Proc.devRef .tc main_v35) := by
  after_results_simp

set_option maxRecDepth 8192 in
set_option maxHeartbeats 1000000 in
theorem lineC_v37 (V : Valuation τ sig (Elt F)) :
    after lineC V (Proc.devRef .tc main_v37) = picked (V (Proc.devRef .tc main_v33)) (wrapped (V (Proc.devRef .tc main_v36))) := by
  after_results_simp <;> rfl

theorem line_v35 (V : Valuation τ sig (Elt F)) :
    after line V (Proc.devRef .tc main_v35) = shapeCast S8x128 (place (after lineA V (Proc.devRef .tc main_v33))) shapeCasts_S1024_S8x128 := by
  rw [after_append, after_append, lineC_v35, lineB_v35]

theorem line_v37 (V : Valuation τ sig (Elt F)) : after line V (Proc.devRef .tc main_v37)
    = picked (after lineA V (Proc.devRef .tc main_v33)) (wrapped (broadcastInDim S1024x1 ![0] bcast_S1024_S1024x1_0 (place (after lineA V (Proc.devRef .tc main_v33))))) := by
  rw [after_append, after_append, lineC_v37, lineB_v33, lineB_v36]

set_option maxRecDepth 8192 in
theorem line_arg0 (V : Valuation τ sig (Elt F)) : after line V (Proc.devRef .tc main_arg0) = V (Proc.devRef .tc main_arg0) := by
  rw [after_append, after_append]
  after_results_simp

set_option maxRecDepth 8192 in
theorem line_arg1 (V : Valuation τ sig (Elt F)) : after line V (Proc.devRef .tc main_arg1) = V (Proc.devRef .tc main_arg1) := by
  rw [after_append, after_append]
  after_results_simp

set_option maxRecDepth 8192 in
theorem line_arg2 (V : Valuation τ sig (Elt F)) : after line V (Proc.devRef .tc main_arg2) = V (Proc.devRef .tc main_arg2) := by
  rw [after_append, after_append]
  after_results_simp

set_option maxRecDepth 8192 in
theorem line_arg3 (V : Valuation τ sig (Elt F)) : after line V (Proc.devRef .tc main_arg3) = V (Proc.devRef .tc main_arg3) := by
  rw [after_append, after_append]
  after_results_simp

set_option maxRecDepth 8192 in
theorem line_arg4 (V : Valuation τ sig (Elt F)) : after line V (Proc.devRef .tc main_arg4) = V (Proc.devRef .tc main_arg4) := by
  rw [after_append, after_append]
  after_results_simp

set_option maxRecDepth 8192 in
set_option maxHeartbeats 1000000 in
/-- The run: the two results, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = shapeCast S8x128 (place (probs m c)) shapeCasts_S1024_S8x128
      ∧ r.2.mem ((c.tc : Thread nD τ).loc main_v37) = picked (probs m c) (wrapped (broadcastInDim S1024x1 ![0] bcast_S1024_S1024x1_0 (place (probs m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h := run_seq scopedRefs_eq scopedSems_eq (defs (F := F)) main (fun _ => line) main_eq (fun _ => line_sub) m ρ
  refine (θ_run defs _ _).mono (fun r h c => ?_) h
  refine ⟨?_, ?_, ?_, ?_, ?_, ?_, ?_⟩
  · refine (h c main_v35).trans ?_
    rw [line_v35, line_v33]
  · refine (h c main_v37).trans ?_
    rw [line_v37, line_v33]
  · exact (h c main_arg0).trans (line_arg0 _)
  · exact (h c main_arg1).trans (line_arg1 _)
  · exact (h c main_arg2).trans (line_arg2 _)
  · exact (h c main_arg3).trans (line_arg3 _)
  · exact (h c main_arg4).trans (line_arg4 _)

end Cert.Proof.GateRun

end
-- ==== Proof.GateRef.lean ====
/-
  The gate's reference at the ideal values, row by row, where the scores are real: the softmax, the place of its
  largest entry, and the entry picked there.
-/
module

public import proofs.«01_k».proof.Proof.GateMath
public import proofs.«01_k».proof.Proof.GateRun
public import proofs.«01_k».proof.Proof.RefVal
public import Idealize.ShloMosaic.Lib.ReduceAll

@[expose] public section

noncomputable section

namespace Cert.Proof.GateRef

open Cert.GateRefIdeal Cert.GateRefIdeal.Gen
open Cert.Proof.Mlp (act)
open Cert.Proof.GateKer (score)
open Cert.Proof.GateMath
open Cert.Proof.GateRun (hid gelu scores expo soft place wrapped picked)
open Idealize.ShloMosaic Idealize.ShloMosaic.TcCoe

/-! ## The scores -/

theorem hid_at (X : S1024x512.Idx → EReal) (W1 : S512x512.Idx → EReal) (b1 : S512.Idx → EReal) (t : Fin 1024) (k : Fin 512) :
    hid (F := Ideal) X W1 b1 (ix2 t k) = (∑ c : Fin 512, X (ix2 t c) * W1 (ix2 c k)) + b1 (ix1 k) := by
  unfold hid
  simp only [pointwise, zero_add]
  rfl

theorem gelu_at (h : S1024x512.Idx → EReal) (t : Fin 1024) (k : Fin 512) : gelu (F := Ideal) h (ix2 t k) = act (h (ix2 t k)) := by
  unfold gelu act
  simp only [pointwise, zero_add]
  generalize h (ix2 t k) = v
  rw [mul_comm (v * v) v]

theorem scores_at (X : S1024x512.Idx → EReal) (W1 : S512x512.Idx → EReal) (b1 : S512.Idx → EReal) (W2 : S512x8.Idx → EReal) (b2 : S8.Idx → EReal)
    (t : Fin 1024) (e : Fin 8) : scores (F := Ideal) (gelu (F := Ideal) (hid (F := Ideal) X W1 b1)) W2 b2 (ix2 t e)
      = score W1 (fun k => b1 (ix1 k)) W2 (fun e => b2 (ix1 e)) (fun c => X (ix2 t c)) e := by
  unfold scores score
  simp only [pointwise, zero_add, gelu_at, hid_at]
  rfl

/-! ## The softmax of a row of real scores -/

section Row
variable {s : S1024x8.Idx → EReal} {t : Fin 1024} {r : Fin 8 → ℝ} {b : Fin 8}
variable (hs : ∀ e, s (ix2 t e) = lift r e) (h1 : ∀ e, r e ≤ r b) (h2 : ∀ e, r e = r b → b ≤ e)
include hs h1

theorem expo_at (e : Fin 8) : expo (F := Ideal) s (ix2 t e) = Ideal.exp (lift r e - (r b : EReal)) := by
  unfold expo
  simp only [pointwise, zero_add, hs]
  refine congrArg (fun z => Ideal.exp (lift r e - z)) (Eq.trans ?_ (refTop_eq h1))
  simp [Ideal.ofBits, Ideal.ieee]
  exact congrArg (fun f => Finset.univ.fold max ⊥ f) (funext hs)

/-- The probability of expert `e`. -/
theorem soft_at (e : Fin 8) : soft (F := Ideal) (expo (F := Ideal) s) (ix2 t e) = ((Real.exp (r e - r b) * (1 / den r b) : ℝ) : EReal) := by
  unfold soft
  simp only [pointwise, zero_add, expo_at hs h1]
  exact (congrArg (Ideal.div _) (Finset.sum_congr rfl fun k _ => expo_at hs h1 k)).trans (refProb_eq h1 e)

end Row

/-! ## The place of the largest -/

/-- The pair loses to `T`, or is it. -/
def Loses (T q : EReal × BitVec 32) : Prop := q = T ∨ q.1 < T.1 ∨ (q.1 = T.1 ∧ T.2.slt q.2 = true ∧ q.2.slt T.2 = false)

theorem step_eq (a b : EReal × BitVec 32) : reducer_argmax_f32_i32 (F := Ideal) a b
    = if b.1 < a.1 ∨ (a.1 = b.1 ∧ a.2.slt b.2 = true) then a else b := by
  obtain ⟨a1, a2⟩ := a
  obtain ⟨b1, b2⟩ := b
  unfold reducer_argmax_f32_i32
  simp only [FloatOps.cmpf, Ideal.cmp, IntOp.cmpi, IntOp.ori, IntOp.andi, Scalar.select]
  by_cases h : b1 < a1
  · have e : ¬ a1 = b1 := ne_of_gt h
    simp [h, e]
  · by_cases e : a1 = b1
    · subst e
      rcases Bool.eq_false_or_eq_true (a2.slt b2) with hs | hs <;> simp [hs]
    · simp [h, e]

theorem step_mem (T a b : EReal × BitVec 32) (ha : Loses T a) (hb : Loses T b) : Loses T (reducer_argmax_f32_i32 (F := Ideal) a b) := by
  rw [step_eq]
  split
  · exact ha
  · exact hb

theorem step_left (T b : EReal × BitVec 32) (hb : Loses T b) : reducer_argmax_f32_i32 (F := Ideal) T b = T := by
  rw [step_eq]
  rcases hb with rfl | h | ⟨h, h', -⟩
  · split <;> rfl
  · rw [if_pos (Or.inl h)]
  · rw [if_pos (Or.inr ⟨h.symm, h'⟩)]

theorem step_right (T a : EReal × BitVec 32) (ha : Loses T a) : reducer_argmax_f32_i32 (F := Ideal) a T = T := by
  rw [step_eq]
  rcases ha with rfl | h | ⟨h, -, h'⟩
  · split <;> rfl
  · rw [if_neg]
    rintro (g | ⟨g, -⟩)
    · exact absurd h (not_lt_of_gt g)
    · exact absurd g h.ne
  · rw [if_neg]
    rintro (g | ⟨-, g⟩)
    · exact absurd h g.ne'
    · rw [h'] at g
      exact absurd g (by decide)

/-- A fold over pairs that all lose to `T`, `T` among them, is `T`. -/
theorem fold_eq (T : EReal × BitVec 32) : ∀ (l : List (EReal × BitVec 32)) (a : EReal × BitVec 32), Loses T a → (∀ q ∈ l, Loses T q) → (a = T ∨ T ∈ l) →
    l.foldl (reducer_argmax_f32_i32 (F := Ideal)) a = T
  | [], a, _, _, h => h.elim id fun h => absurd h List.not_mem_nil
  | q :: l, a, ha, hl, h => by
    have hq := hl q (List.mem_cons_self ..)
    refine fold_eq T l _ (step_mem T a q ha hq) (fun p hp => hl p (List.mem_cons_of_mem _ hp)) ?_
    rcases h with rfl | h
    · exact Or.inl (step_left _ q hq)
    · rcases List.mem_cons.1 h with rfl | h
      · exact Or.inl (step_right _ a ha)
      · exact Or.inr h

theorem drop_at (a : Fin 1024) (e : Fin 8) : (reducesTo_S1024x8_S1024_d1).drop (ix2 a e) = ix1 a := by
  funext k
  match k with
  | ⟨0, _⟩ => rfl

theorem lt_words : ∀ b e : Fin 8, b < e → (BitVec.ofNat 32 b.val).slt (BitVec.ofNat 32 e.val) = true ∧ (BitVec.ofNat 32 e.val).slt (BitVec.ofNat 32 b.val) = false := by decide

/-- The place of a row whose largest entry is first reached at `b`. -/
theorem place_at (p : S1024x8.Idx → EReal) (t : Fin 1024) (b : Fin 8) (h0 : ⊥ < p (ix2 t b)) (h1 : ∀ e, e ≠ b → p (ix2 t e) < p (ix2 t b) ∨ (p (ix2 t e) = p (ix2 t b) ∧ b < e)) :
    place (F := Ideal) p (ix1 t) = BitVec.ofNat 32 b.val := by
  unfold place
  rw [Ideal.argReduce_eq_reduce2, Host.reduce2_eq_foldl_fiber]
  have hy : ∀ e : Fin 8, iotaInDim S1024x8 32 1 (ix2 t e) = BitVec.ofNat 32 e.val := fun e => rfl
  refine congrArg Prod.snd (fold_eq (p (ix2 t b), BitVec.ofNat 32 b.val) _ _ (Or.inr (Or.inl ?_)) (fun q hq => ?_) (Or.inr ?_))
  · refine lt_of_eq_of_lt ?_ h0
    simp [constant, Ideal.ofBits, Ideal.ieee]
  · obtain ⟨n, hn, rfl⟩ := List.mem_map.1 hq
    have hd := of_decide_eq_true (List.mem_filter.1 hn).2
    generalize S1024x8.rowMajor.symm n = i at hd ⊢
    obtain ⟨a, e, rfl⟩ : ∃ (a : Fin 1024) (e : Fin 8), i = ix2 a e := ⟨i 0, i 1, funext fun k => match k with
      | ⟨0, _⟩ => rfl
      | ⟨1, _⟩ => rfl⟩
    have ht : a = t := by
      rw [drop_at] at hd
      exact congrFun hd 0
    rw [ht, hy]
    by_cases e' : e = b
    · rw [e']; exact Or.inl rfl
    · rcases h1 e e' with h | ⟨h, h'⟩
      · exact Or.inr (Or.inl h)
      · exact Or.inr (Or.inr ⟨h, (lt_words b e h').1, (lt_words b e h').2⟩)
  · refine List.mem_map.2 ⟨S1024x8.rowMajor (ix2 t b), List.mem_filter.2 ⟨List.mem_finRange _, ?_⟩, ?_⟩
    · rw [Equiv.symm_apply_apply]
      exact decide_eq_true (drop_at t b)
    · rw [Equiv.symm_apply_apply, hy]

/-! ## The pick -/

theorem wrapped_at (I : S1024x1.Idx → BitVec 32) (t : Fin 1024) (h : (I (ix2 t 0)).toNat < 8) : wrapped I (ix3 t 0 0) = I (ix2 t 0) := by
  unfold wrapped
  simp only [pointwise]
  exact RefVal.wrap_small _ _ (by omega)

theorem clamp_words : ∀ b : Fin 8, min (BitVec.ofNat 32 b.val).toInt.toNat (8 - 1) + 0 + 0 = b.val := by decide

theorem gather_at (p : S1024x8.Idx → EReal) (w : S1024x1x1.Idx → BitVec 32) (t : Fin 1024) (b : Fin 8) (h : w (ix3 t 0 0) = BitVec.ofNat 32 b.val) :
    Host.gather gather_S1024x8_S1024x1x1_S1024x1_n_1_0_0_1_2_11 p w (ix2 t 0) = p (ix2 t b) := by
  unfold Host.gather
  refine congrArg p (funext fun a => Fin.ext ?_)
  show gather_S1024x8_S1024x1x1_S1024x1_n_1_0_0_1_2_11.start (ix2 t 0) w a
    + gather_S1024x8_S1024x1x1_S1024x1_n_1_0_0_1_2_11.batchCoord (ix2 t 0) a
    + gather_S1024x8_S1024x1x1_S1024x1_n_1_0_0_1_2_11.offCoord (ix2 t 0) a = _
  have ha : a = (0 : Fin 2) ∨ a = (1 : Fin 2) := by revert a; decide
  rcases ha with rfl | rfl
  · rw [GatherDims.offCoord_eq_zero _ _ _ (fun h => ((GatherDims.mem_sKept _ _).mp h).2 (by decide)), GatherDims.start_batching _ _ _ _ (by decide)]
    unfold GatherDims.batchCoord
    rw [dif_pos (by decide)]
    show 0 + t.val + 0 = t.val
    omega
  · rw [GatherDims.offCoord_eq_zero _ _ _ (fun h => ((GatherDims.mem_sKept _ _).mp h).1 (by decide)), GatherDims.batchCoord_eq_zero _ _ _ (by decide)]
    unfold GatherDims.start
    rw [dif_pos (by decide)]
    have hsi : gather_S1024x8_S1024x1x1_S1024x1_n_1_0_0_1_2_11.siIdx (ix2 t 0) ⟨List.idxOf (1 : Fin 2) [1], by decide⟩ = ix3 t 0 0 := by
      funext k; refine Fin.ext ?_
      match k with
      | ⟨0, _⟩ => rfl
      | ⟨1, _⟩ => rfl
      | ⟨2, _⟩ => rfl
    refine (congrArg (fun w => min (BitVec.toInt w).toNat (8 - 1) + 0 + 0) ((congrArg w hsi).trans h)).trans ?_
    exact clamp_words b

theorem small_words : ∀ b : Fin 8, IntOp.andi (IntOp.cmpi .sge (BitVec.ofNat 32 b.val) 0#32) (IntOp.cmpi .sle (BitVec.ofNat 32 b.val) 7#32) = 1#1 := by decide

theorem picked_at (p : S1024x8.Idx → EReal) (w : S1024x1x1.Idx → BitVec 32) (b : Fin 1024 → Fin 8) (h : ∀ t, w (ix3 t 0 0) = BitVec.ofNat 32 (b t).val) (t : Fin 1024) :
    picked (F := Ideal) p w (ix2 t 0) = p (ix2 t (b t)) := by
  unfold picked
  refine (congrArg (fun z : BitVec 1 => Scalar.select z _ _) (Host.reduce_andi_one _ _ reducesTo_S1024x1x1_S1024x1_d2 h_S_ (ix2 t 0) rfl fun i => ?_)).trans (gather_at p w t (b t) (h t))
  obtain ⟨a, rfl⟩ : ∃ a : Fin 1024, i = ix3 a 0 0 := ⟨i 0, funext fun k => match k with
    | ⟨0, _⟩ => rfl
    | ⟨1, _⟩ => Subsingleton.elim (α := Fin 1) _ _
    | ⟨2, _⟩ => Subsingleton.elim (α := Fin 1) _ _⟩
  simp only [pointwise]
  rw [h]
  exact small_words _

end Cert.Proof.GateRef

end
-- ==== Proof.GateVal.lean ====
/-
  What the gate's call leaves in its two results: the run's arrays are the whole blocks, read off the arguments through
  the host's transpose and reshapes.
-/
module

public import proofs.«01_k».proof.Proof.GateKer
public import Idealize.ShloMosaic.Lib.StableHlo.Run
public import Idealize.ShloMosaic.Lib.Pipeline.Value

@[expose] public section

noncomputable section

namespace Cert.Proof.GateVal

open Cert.GateIdeal Cert.GateIdeal.Gen
open Idealize.ShloMosaic Idealize.ShloMosaic.TcCoe Idealize.SL.Sem Idealize.ShloMosaic.StableHlo
open Idealize.ShloMosaic.Pipeline (Dat Window)

variable (m : (ℓ : Loc nD τ sig) → Buf (Elt Ideal) ℓ) (ρ : Dev nD → PrngReg) (c : Dev nD)

/-- The tokens, one a row. -/
def toks : S1024x512.Idx → EReal :=
  shapeCast S1024x512 (transpose S4x16x16x512 [0, 2, 3, 1] (m ((c.tc : Thread nD τ).loc main_arg0) : S4x512x16x16.Idx → EReal) transposes_S4x512x16x16_S4x16x16x512_0_2_3_1) shapeCasts_S4x16x16x512_S1024x512
/-- The first layer's bias, as a row. -/
def row1 : S1x512.Idx → EReal := shapeCast S1x512 (m ((c.tc : Thread nD τ).loc main_arg2) : S512.Idx → EReal) shapeCasts_S512_S1x512
/-- The second layer's bias, as a row. -/
def row2 : S1x8.Idx → EReal := shapeCast S1x8 (m ((c.tc : Thread nD τ).loc main_arg4) : S8.Idx → EReal) shapeCasts_S8_S1x8

theorem V_v1 : (V m c main_v1 : S1024x512.Idx → EReal) = toks m c := by
  show after hostOps0 (fun b => m (c, b)) (Proc.devRef .tc main_v1) = _
  after_results_simp <;> rfl
theorem V_v2 : (V m c main_v2 : S1x512.Idx → EReal) = row1 m c := by
  show after hostOps0 (fun b => m (c, b)) (Proc.devRef .tc main_v2) = _
  after_results_simp <;> rfl
theorem V_v3 : (V m c main_v3 : S1x8.Idx → EReal) = row2 m c := by
  show after hostOps0 (fun b => m (c, b)) (Proc.devRef .tc main_v3) = _
  after_results_simp <;> rfl

theorem pos (w : Fin 7) (t : Fin 1) (y : ((cfg0.win w).xblock (cfg0.grid.coords t)).Idx) (a : Fin (cfg0.win w).shape.rank) :
    (((cfg0.win w).rect t).emb y a : ℕ) = y a :=
  Window.rect_emb_val_of_index_zero (cfg0.win w) t a (by fin_cases w <;> rfl) y

/-- The blocks the call reads are the whole arrays. -/
theorem blk_0 (t : Fin 1) : (iblk m c 0 t : S1024x512.Idx → EReal) = toks m c := by
  rw [← V_v1]; funext y; exact congrArg (V m c main_v1 : S1024x512.Idx → EReal) (funext fun a => Fin.ext (pos 0 t y a))
theorem blk_1 (t : Fin 1) : (iblk m c 1 t : S512x512.Idx → EReal) = m ((c.tc : Thread nD τ).loc main_arg1) := by
  rw [← V_main_arg1 m c]; funext y; exact congrArg (V m c main_arg1 : S512x512.Idx → EReal) (funext fun a => Fin.ext (pos 1 t y a))
theorem blk_2 (t : Fin 1) : (iblk m c 2 t : S1x512.Idx → EReal) = row1 m c := by
  rw [← V_v2]; funext y; exact congrArg (V m c main_v2 : S1x512.Idx → EReal) (funext fun a => Fin.ext (pos 2 t y a))
theorem blk_3 (t : Fin 1) : (iblk m c 3 t : S512x8.Idx → EReal) = m ((c.tc : Thread nD τ).loc main_arg3) := by
  rw [← V_main_arg3 m c]; funext y; exact congrArg (V m c main_arg3 : S512x8.Idx → EReal) (funext fun a => Fin.ext (pos 3 t y a))
theorem blk_4 (t : Fin 1) : (iblk m c 4 t : S1x8.Idx → EReal) = row2 m c := by
  rw [← V_v3]; funext y; exact congrArg (V m c main_v3 : S1x8.Idx → EReal) (funext fun a => Fin.ext (pos 4 t y a))

/-- The indices the call leaves. -/
def idxs : S8x128.Idx → BitVec 32 :=
  out0_5 (F := Ideal) (toks m c) (m ((c.tc : Thread nD τ).loc main_arg1)) (row1 m c) (m ((c.tc : Thread nD τ).loc main_arg3)) (row2 m c)
/-- The probabilities the call leaves. -/
def prbs : S1024x1.Idx → EReal :=
  out0_6 (F := Ideal) (toks m c) (m ((c.tc : Thread nD τ).loc main_arg1)) (row1 m c) (m ((c.tc : Thread nD τ).loc main_arg3)) (row2 m c)

theorem emb5 (t : Fin 1) (y : S8x128.Idx) : ((cfg0.win 5).rect t).emb y = y := funext fun a => Fin.ext (pos 5 t y a)
theorem emb6 (t : Fin 1) (y : S1024x1.Idx) : ((cfg0.win 6).rect t).emb y = y := funext fun a => Fin.ext (pos 6 t y a)

/-- A whole array cut to a result's block is the array read through it. -/
theorem cut5 (f : S8x128.Idx → BitVec 32) (t : Fin 1) : (cfg0.win 5).cut (grid0.coords t) f = ((cfg0.win 5).blk t).view.read (Elt Ideal) f := by
  funext y
  exact congrArg f (emb5 t y).symm
theorem cut6 (f : S1024x1.Idx → EReal) (t : Fin 1) : (cfg0.win 6).cut (grid0.coords t) f = ((cfg0.win 6).blk t).view.read (Elt Ideal) f := by
  funext y
  exact congrArg f (emb6 t y).symm

theorem end5 : (dats m 0 c).arrAt 5 cfg0.N = (idxs m c : S8x128.Idx → BitVec 32) := by
  refine Dat.arrAt_eq_of_cover (dats m 0 c) 5 (idxs m c) (fun t _ => ?_) (fun i => ⟨(0 : Fin 1), rfl, ?_⟩)
  · have e : out0_5 (F := Ideal) (iblk m c 0 t) (iblk m c 1 t) (iblk m c 2 t) (iblk m c 3 t) (iblk m c 4 t) = idxs m c := by
      have e0 := blk_0 m c t
      have e1 := blk_1 m c t
      have e2 := blk_2 m c t
      have e3 := blk_3 m c t
      have e4 := blk_4 m c t
      unfold idxs
      rw [← e0, ← e1, ← e2, ← e3, ← e4]
    refine (congrArg ((cfg0.win 5).cut (grid0.coords t)) ((after0_5 m c t).trans e)).trans (cut5 (idxs m c) t)
  · have e := emb5 0 i
    rw [← e]
    exact View.emb_mem_set _ _

theorem end6 : (dats m 0 c).arrAt 6 cfg0.N = (prbs m c : S1024x1.Idx → EReal) := by
  refine Dat.arrAt_eq_of_cover (dats m 0 c) 6 (prbs m c) (fun t _ => ?_) (fun i => ⟨(0 : Fin 1), rfl, ?_⟩)
  · have e : out0_6 (F := Ideal) (iblk m c 0 t) (iblk m c 1 t) (iblk m c 2 t) (iblk m c 3 t) (iblk m c 4 t) = prbs m c := by
      have e0 := blk_0 m c t
      have e1 := blk_1 m c t
      have e2 := blk_2 m c t
      have e3 := blk_3 m c t
      have e4 := blk_4 m c t
      unfold prbs
      rw [← e0, ← e1, ← e2, ← e3, ← e4]
    refine (congrArg ((cfg0.win 6).cut (grid0.coords t)) ((after0_6 m c t).trans e)).trans (cut6 (prbs m c) t)
  · have h := View.emb_mem_set ((cfg0.win 6).blk (0 : Fin 1)).view i
    have e : ((cfg0.win 6).blk (0 : Fin 1)).view.emb i = i := emb6 0 i
    rw [e] at h
    exact h

/-- The run's two results. -/
theorem run : θ_run defs (onTc (τ := τ) (main (F := Ideal))) ⟨m, fun _ => 0, ρ⟩ fun r => ∀ c : Dev nD,
      r.2.mem ((c.tc : Thread nD τ).loc main_v4_0) = (idxs m c : S8x128.Idx → BitVec 32)
      ∧ r.2.mem ((c.tc : Thread nD τ).loc main_v4_1) = (prbs m c : S1024x1.Idx → EReal) :=
  (θ_run defs _ _).mono (fun _ h c => ⟨((h c).1 5).trans (end5 m c), ((h c).1 6).trans (end6 m c)⟩) (run_main m ρ)

end Cert.Proof.GateVal

end
-- ==== Proof.GatePre.lean ====
/-
  The gate's precondition read back: every entry of its five arguments is a real number.
-/
module

public import proofs.«01_k».proof.Proof.GateMath
public import proofs.«01_k».proof.Proof.Gen.Pre_finite
public import Idealize.ShloMosaic.Lib.ReduceAll

@[expose] public section

noncomputable section

namespace Cert.Proof.GatePre

open Cert.Pre_finite Cert.Pre_finite.Gen
open Cert.Proof.GateMath (IsReal isReal_of_abs)
open Idealize.ShloMosaic Idealize.ShloMosaic.TcCoe

/-- The comparison of a size with infinity is 1 at a real number only. -/
theorem isReal_of_cmp {x : EReal} (h : FloatOps.cmpf (F := Ideal) (φ := .f32) .olt (FloatOps.hostAbsf (F := Ideal) (φ := .f32) x) (FloatOps.ofBits (F := Ideal) .f32 0x7F800000#32) = 1#1) : IsReal x := by
  refine isReal_of_abs ?_
  have e : (FloatOps.ofBits (F := Ideal) .f32 0x7F800000#32 : EReal) = ⊤ := by
    show Ideal.ofBits .f32 0x7F800000#32 = ⊤
    simp [Ideal.ofBits, Ideal.ieee]
  rw [e] at h
  by_contra hn
  have : FloatOps.cmpf (F := Ideal) (φ := .f32) .olt (max x (-x)) (⊤ : EReal) = 0#1 := by
    simp only [FloatOps.cmpf, Ideal.cmp]
    simp [hn]
  exact absurd (this.symm.trans h) (by decide)

instance : Subsingleton S_.Idx := ⟨fun a b => funext fun k => k.elim0⟩

theorem reals (a0 : S4x512x16x16.Idx → EReal) (a1 : S512x512.Idx → EReal) (a2 : S512.Idx → EReal) (a3 : S512x8.Idx → EReal) (a4 : S8.Idx → EReal)
    (h : Cert.Pre_finite.fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have e := congrFun h (fun k => k.elim0)
  simp only [Cert.Pre_finite.fn, Cert.Pre_finite.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => isReal_of_cmp (Host.reduce_andi_all _ _ _ _ _ e0 i), fun i => isReal_of_cmp (Host.reduce_andi_all _ _ _ _ _ e1 i),
    fun i => isReal_of_cmp (Host.reduce_andi_all _ _ _ _ _ e2 i), fun i => isReal_of_cmp (Host.reduce_andi_all _ _ _ _ _ e3 i),
    fun i => isReal_of_cmp (Host.reduce_andi_all _ _ _ _ _ e4 i)⟩

end Cert.Proof.GatePre

end
-- ==== Proof.GateClaims.lean ====
/-
  The claims of the gate: its runs, and that its index and its probability are the reference's.
-/
module

public import proofs.«01_k».proof.Defs
public import proofs.«01_k».proof.Proof.GateRef
public import proofs.«01_k».proof.Proof.GateVal
public import proofs.«01_k».proof.Proof.GatePre
public import proofs.«01_k».proof.Proof.Gen.Gate.Frame

@[expose] public section

noncomputable section

namespace Cert.Proof.GateClaims

open Cert.GateIdeal Cert.GateIdeal.Gen
open Cert.Proof.GateKer (score rowOf conf best)
open Cert.Proof.GateMath
open Cert.Proof.GateVal (toks row1 row2 idxs prbs)
open Idealize.ShloMosaic Idealize.ShloMosaic.TcCoe Idealize.SL.Sem

section Values
variable (m : (ℓ : Loc nD τ sig) → Buf (Elt Ideal) ℓ)
variable (m' : (ℓ : Loc Cert.GateRefIdeal.nD Cert.GateRefIdeal.τ Cert.GateRefIdeal.sig) → Buf (Elt Ideal) ℓ) (c : Dev nD)

/-- The scores of token `t`. -/
abbrev rows (t : Fin 1024) : Fin 8 → EReal :=
  rowOf (toks m c) (m ((c.tc : Thread nD τ).loc main_arg1)) (row1 m c) (m ((c.tc : Thread nD τ).loc main_arg3)) (row2 m c) t

theorem row1_at (k : Fin 512) : row1 m c (ix2 0 k) = (m ((c.tc : Thread nD τ).loc main_arg2) : S512.Idx → EReal) (ix1 k) := by
  unfold row1
  simp only [pointwise]
theorem row2_at (k : Fin 8) : row2 m c (ix2 0 k) = (m ((c.tc : Thread nD τ).loc main_arg4) : S8.Idx → EReal) (ix1 k) := by
  unfold row2
  simp only [pointwise]

/-- Real arguments have real scores, with a first largest one. -/
theorem rows_real (h : Cert.Pre_finite.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) (t : Fin 1024) :
    ∃ (r : Fin 8 → ℝ) (b : Fin 8), rows m c t = lift r ∧ (∀ e, r e ≤ r b) ∧ ∀ e, r e = r b → b ≤ e := by
  obtain ⟨h0, h1, h2, h3, h4⟩ := GatePre.reals _ _ _ _ _ h
  have hr : ∀ e, IsReal (rows m c t e) := fun e => isReal_score h1 (fun i => h2 _) h3 (fun i => h4 _) (fun i => h0 _) e
  choose r hr using hr
  obtain ⟨b, hb⟩ := exists_first r
  exact ⟨r, b, funext hr, hb⟩

variable (ha0 : m' ((c.tc : Thread Cert.GateRefIdeal.nD Cert.GateRefIdeal.τ).loc Cert.GateRefIdeal.main_arg0) = m ((c.tc : Thread nD τ).loc main_arg0))
variable (ha1 : m' ((c.tc : Thread Cert.GateRefIdeal.nD Cert.GateRefIdeal.τ).loc Cert.GateRefIdeal.main_arg1) = m ((c.tc : Thread nD τ).loc main_arg1))
variable (ha2 : m' ((c.tc : Thread Cert.GateRefIdeal.nD Cert.GateRefIdeal.τ).loc Cert.GateRefIdeal.main_arg2) = m ((c.tc : Thread nD τ).loc main_arg2))
variable (ha3 : m' ((c.tc : Thread Cert.GateRefIdeal.nD Cert.GateRefIdeal.τ).loc Cert.GateRefIdeal.main_arg3) = m ((c.tc : Thread nD τ).loc main_arg3))
variable (ha4 : m' ((c.tc : Thread Cert.GateRefIdeal.nD Cert.GateRefIdeal.τ).loc Cert.GateRefIdeal.main_arg4) = m ((c.tc : Thread nD τ).loc main_arg4))
include ha0 ha1 ha2 ha3 ha4

/-- The reference's probabilities where the token's scores are real. -/
theorem probs_at (t : Fin 1024) (r : Fin 8 → ℝ) (b : Fin 8) (hr : rows m c t = lift r) (h1 : ∀ e, r e ≤ r b) (e : Fin 8) :
    (GateRun.probs (F := Ideal) m' c : Cert.GateRefIdeal.S1024x8.Idx → EReal) (ix2 t e) = ((Real.exp (r e - r b) * (1 / den r b) : ℝ) : EReal) := by
  unfold GateRun.probs GateRun.tok
  rw [ha0, ha1, ha2, ha3, ha4]
  refine GateRef.soft_at (fun e => ?_) h1 e
  rw [GateRef.scores_at]
  refine Eq.trans ?_ (congrFun hr e)
  unfold rows rowOf
  simp only [row1_at, row2_at]
  rfl

/-- The reference's index there. -/
theorem place_at (t : Fin 1024) (r : Fin 8 → ℝ) (b : Fin 8) (hr : rows m c t = lift r) (h1 : ∀ e, r e ≤ r b) (h2 : ∀ e, r e = r b → b ≤ e) :
    GateRun.place (F := Ideal) (GateRun.probs (F := Ideal) m' c) (ix1 t) = BitVec.ofNat 32 b.val := by
  have hp := probs_at m m' c ha0 ha1 ha2 ha3 ha4 t r b hr h1
  refine GateRef.place_at _ t b ?_ fun e he => ?_
  · rw [hp]
    exact EReal.bot_lt_coe _
  · rw [hp, hp]
    have hd : 0 < 1 / den r b := one_div_pos.2 den_pos
    rcases (h1 e).lt_or_eq with h | h
    · exact Or.inl (EReal.coe_lt_coe_iff.2 (mul_lt_mul_of_pos_right (Real.exp_lt_exp.2 (by linarith)) hd))
    · exact Or.inr ⟨by rw [h], lt_of_le_of_ne (h2 e h) (Ne.symm he)⟩

variable (h : Cert.Pre_finite.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1)
include h

/-- The indices are the reference's. -/
theorem idxs_eq : shapeCast S8x128 (GateRun.place (F := Ideal) (GateRun.probs (F := Ideal) m' c)) Cert.GateRefIdeal.Gen.shapeCasts_S1024_S8x128 = idxs m c := by
  funext y
  obtain ⟨i, j, rfl⟩ : ∃ (i : Fin 8) (j : Fin 128), y = ix2 i j := ⟨y 0, y 1, funext fun k => match k with
    | ⟨0, _⟩ => rfl
    | ⟨1, _⟩ => rfl⟩
  obtain ⟨r, b, hr, h1, h2⟩ := rows_real m c h ⟨i.val * 128 + j.val, by omega⟩
  have e : idxs m c (ix2 i j) = BitVec.ofNat 32 b.val := by
    unfold idxs
    rw [GateKer.out5_at]
    exact (congrArg best hr).trans (best_eq h1 h2)
  rw [e, ← place_at m m' c ha0 ha1 ha2 ha3 ha4 _ r b hr h1 h2]
  simp only [pointwise]

/-- The probabilities are the reference's. -/
theorem prbs_eq : GateRun.picked (F := Ideal) (GateRun.probs (F := Ideal) m' c) (GateRun.wrapped (broadcastInDim Cert.GateRefIdeal.S1024x1 ![0] Cert.GateRefIdeal.Gen.bcast_S1024_S1024x1_0
      (GateRun.place (F := Ideal) (GateRun.probs (F := Ideal) m' c)))) = prbs m c := by
  funext y
  obtain ⟨t, rfl⟩ : ∃ t : Fin 1024, y = ix2 t 0 := ⟨y 0, funext fun k => match k with
    | ⟨0, _⟩ => rfl
    | ⟨1, _⟩ => Subsingleton.elim (α := Fin 1) _ _⟩
  choose r b hr h1 h2 using rows_real m c h
  have hw : ∀ t : Fin 1024, GateRun.wrapped (broadcastInDim Cert.GateRefIdeal.S1024x1 ![0] Cert.GateRefIdeal.Gen.bcast_S1024_S1024x1_0
      (GateRun.place (F := Ideal) (GateRun.probs (F := Ideal) m' c))) (ix3 t 0 0) = BitVec.ofNat 32 (b t).val := fun t => by
    have e : broadcastInDim Cert.GateRefIdeal.S1024x1 ![0] Cert.GateRefIdeal.Gen.bcast_S1024_S1024x1_0
        (GateRun.place (F := Ideal) (GateRun.probs (F := Ideal) m' c)) (ix2 t 0) = BitVec.ofNat 32 (b t).val := by
      refine Eq.trans ?_ (place_at m m' c ha0 ha1 ha2 ha3 ha4 t (r t) (b t) (hr t) (h1 t) (h2 t))
      simp only [pointwise]
      rfl
    rw [GateRef.wrapped_at _ t (by rw [e, BitVec.toNat_ofNat]; omega), e]
  rw [GateRef.picked_at _ _ b hw t, probs_at m m' c ha0 ha1 ha2 ha3 ha4 t (r t) (b t) (hr t) (h1 t)]
  unfold prbs
  rw [GateKer.out6_at, sub_self, Real.exp_zero, one_mul]
  exact ((congrArg conf (hr t)).trans (conf_eq (h1 t))).symm

end Values

theorem frame_gate : Cert.quiescent_Gate := fun m ρ _ => Cert.Gate.Gen.frame m ρ
theorem frame_ideal : Cert.quiescent_GateIdeal := fun m ρ _ => Cert.GateIdeal.Gen.frame m ρ
theorem frame_ideal_pre : Cert.quiescent_GateIdeal_pre_finite := fun m ρ _ => Cert.GateIdeal.Gen.frame m ρ

/-- The reference has no semaphore. -/
theorem ref_sem (s : GSem Cert.GateRefIdeal.nD Cert.GateRefIdeal.τ Cert.GateRefIdeal.sig → Int) : s = fun _ => 0 :=
  funext fun x => match x with
    | (_, .reg s) => s.elim0
    | (_, .dma s) => s.elim0

theorem frame_ref : Cert.quiescent_GateRefIdeal := fun m ρ _ =>
  (θ_run (Cert.GateRefIdeal.defs (F := Ideal)) _ _).mono (fun r h => ⟨fun c => (h c).2.2, ref_sem _⟩) (GateRun.run m ρ)
theorem frame_ref_pre : Cert.quiescent_GateRefIdeal_pre_finite := fun m ρ _ => frame_ref m ρ trivial

/-- The mask stands for minus infinity. -/
theorem preserves : Cert.preserves_Gate_GateIdeal :=
  IdealRules.named_const.statement Cert.GateIdeal.κ "mask" .f32 0xF149F2CA#32 ⊥ rfl

/-- The gate's results are the reference's. -/
theorem equal : Cert.algebraic_GateIdeal_GateRefIdeal_pre_finite := fun m ρ m' ρ' hp ha => by
  refine ⟨fun c => idxs m c, fun c => prbs m c, ?_, ?_⟩
  · refine (θ_run (Cert.GateIdeal.defs (F := Ideal)) _ _).mono (fun r h c => ⟨(h.1 c).1, (h.1 c).2, h.2 c⟩)
      (θ_run_and (GateVal.run m ρ) (unchanged m ρ))
  · refine (θ_run (Cert.GateRefIdeal.defs (F := Ideal)) _ _).mono (fun r h c => ?_) (GateRun.run m' ρ')
    obtain ⟨h0, h1, h2, h3, h4⟩ := ha c
    obtain ⟨e0, e1, es⟩ := h c
    exact ⟨e0.trans (idxs_eq m m' c h0 h1 h2 h3 h4 (hp c)), e1.trans (prbs_eq m m' c h0 h1 h2 h3 h4 (hp c)), es⟩

end Cert.Proof.GateClaims

end
-- ==== Proof.lean ====
/-
  The certificate: the runs of the program, of the gate and of their references, and the equality of their results, put
  together.
-/
module

public import proofs.«01_k».proof.Defs
public import proofs.«01_k».proof.Proof.Gen.Gate.Frame
public import proofs.«01_k».proof.Proof.Gen.GateIdeal.Frame
public import proofs.«01_k».proof.Proof.Gen.GateRefIdeal
public import proofs.«01_k».proof.Proof.Gen.Pre_finite
public import proofs.«01_k».proof.Proof.Claims
public import proofs.«01_k».proof.Proof.GateClaims

@[expose] public section

noncomputable section

namespace Cert.Proof

/-- Everything claimed. -/
theorem claim : Cert.Claim := ⟨Cert.Kernel.Gen.facts, Cert.KernelIdeal.Gen.facts, Cert.ReferenceIdeal.Gen.facts, Cert.Gate.Gen.facts, Cert.GateIdeal.Gen.facts,
  Cert.GateRefIdeal.Gen.facts, Cert.Pre_routed.Gen.facts, Cert.Pre_finite.Gen.facts,
  Claims.frame_kernel, Claims.frame_ideal, Claims.frame_ref, Claims.frame_ref_pre,
  GateClaims.frame_gate, GateClaims.frame_ideal, GateClaims.frame_ideal_pre, GateClaims.frame_ref, GateClaims.frame_ref_pre,
  trivial, Claims.equal, GateClaims.preserves, GateClaims.equal⟩

end Cert.Proof

end
